-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S256x512 : Shape := ⟨2, ![256, 512]⟩
abbrev S16x16x512 : Shape := ⟨3, ![16, 16, 512]⟩
abbrev S16 : Shape := ⟨1, ![16]⟩
abbrev S_ : Shape := ⟨0, ![]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S128x512 : Shape := ⟨2, ![128, 512]⟩
abbrev S1 : Shape := ⟨1, ![1]⟩
abbrev S1x16x512 : Shape := ⟨3, ![1, 16, 512]⟩
abbrev S16x512 : Shape := ⟨2, ![16, 512]⟩

abbrev nBuf : Space → Nat
  | .hbm => 6
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S256x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S16x16x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_127 : BitVec 32 := 1#32
  let v235 : BitVec 32 := Scalar.addi v2 c1_i32_127
  let c16_i32_128 : BitVec 32 := 16#32
  let v236 : BitVec 32 := Scalar.remsi v235 c16_i32_128
  let c8_i32_130 : BitVec 32 := 8#32
  let v238 : BitVec 1 := Scalar.cmpi .slt v236 c8_i32_130
  let v239 : BitVec 32 := Scalar.extui v238
  let c0_i32_132 : BitVec 32 := 0#32
  let v240 : BitVec 1 := Scalar.cmpi .ne v239 c0_i32_132
  v240

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_127 : BitVec 32 := 1#32
  let v235 : BitVec 32 := Scalar.addi v2 c1_i32_127
  let c16_i32_128 : BitVec 32 := 16#32
  let v236 : BitVec 32 := Scalar.remsi v235 c16_i32_128
  let c16_i32_129 : BitVec 32 := 16#32
  let v237 : BitVec 32 := Scalar.muli v236 c16_i32_129
  let c0_i32_967 : BitVec 32 := 0#32
  ![v237.toNat, 0]
def k0_dev16 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_127 : BitVec 32 := 1#32
  let v235 : BitVec 32 := Scalar.addi v2 c1_i32_127
  let c16_i32_128 : BitVec 32 := 16#32
  let v236 : BitVec 32 := Scalar.remsi v235 c16_i32_128
  let c1_i32_963 : BitVec 32 := 1#32
  let v1278 : BitVec 32 := Scalar.muli v236 c1_i32_963
  let v1279 : BitVec 32 := Scalar.addi c0_i32_964 v1278
  v1279.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_133 : BitVec 32 := 2#32
  let v241 : BitVec 32 := Scalar.addi v2 c2_i32_133
  let c16_i32_134 : BitVec 32 := 16#32
  let v242 : BitVec 32 := Scalar.remsi v241 c16_i32_134
  let c8_i32_136 : BitVec 32 := 8#32
  let v244 : BitVec 1 := Scalar.cmpi .slt v242 c8_i32_136
  let v245 : BitVec 32 := Scalar.extui v244
  let c0_i32_138 : BitVec 32 := 0#32
  let v246 : BitVec 1 := Scalar.cmpi .ne v245 c0_i32_138
  v246

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_133 : BitVec 32 := 2#32
  let v241 : BitVec 32 := Scalar.addi v2 c2_i32_133
  let c16_i32_134 : BitVec 32 := 16#32
  let v242 : BitVec 32 := Scalar.remsi v241 c16_i32_134
  let c16_i32_135 : BitVec 32 := 16#32
  let v243 : BitVec 32 := Scalar.muli v242 c16_i32_135
  let c0_i32_967 : BitVec 32 := 0#32
  ![v243.toNat, 0]
def k0_dev17 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_133 : BitVec 32 := 2#32
  let v241 : BitVec 32 := Scalar.addi v2 c2_i32_133
  let c16_i32_134 : BitVec 32 := 16#32
  let v242 : BitVec 32 := Scalar.remsi v241 c16_i32_134
  let c1_i32_963 : BitVec 32 := 1#32
  let v1278 : BitVec 32 := Scalar.muli v242 c1_i32_963
  let v1279 : BitVec 32 := Scalar.addi c0_i32_964 v1278
  v1279.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_139 : BitVec 32 := 3#32
  let v247 : BitVec 32 := Scalar.addi v2 c3_i32_139
  let c16_i32_140 : BitVec 32 := 16#32
  let v248 : BitVec 32 := Scalar.remsi v247 c16_i32_140
  let c8_i32_142 : BitVec 32 := 8#32
  let v250 : BitVec 1 := Scalar.cmpi .slt v248 c8_i32_142
  let v251 : BitVec 32 := Scalar.extui v250
  let c0_i32_144 : BitVec 32 := 0#32
  let v252 : BitVec 1 := Scalar.cmpi .ne v251 c0_i32_144
  v252

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_139 : BitVec 32 := 3#32
  let v247 : BitVec 32 := Scalar.addi v2 c3_i32_139
  let c16_i32_140 : BitVec 32 := 16#32
  let v248 : BitVec 32 := Scalar.remsi v247 c16_i32_140
  let c16_i32_141 : BitVec 32 := 16#32
  let v249 : BitVec 32 := Scalar.muli v248 c16_i32_141
  let c0_i32_967 : BitVec 32 := 0#32
  ![v249.toNat, 0]
def k0_dev18 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_139 : BitVec 32 := 3#32
  let v247 : BitVec 32 := Scalar.addi v2 c3_i32_139
  let c16_i32_140 : BitVec 32 := 16#32
  let v248 : BitVec 32 := Scalar.remsi v247 c16_i32_140
  let c1_i32_963 : BitVec 32 := 1#32
  let v1278 : BitVec 32 := Scalar.muli v248 c1_i32_963
  let v1279 : BitVec 32 := Scalar.addi c0_i32_964 v1278
  v1279.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_145 : BitVec 32 := 4#32
  let v253 : BitVec 32 := Scalar.addi v2 c4_i32_145
  let c16_i32_146 : BitVec 32 := 16#32
  let v254 : BitVec 32 := Scalar.remsi v253 c16_i32_146
  let c8_i32_148 : BitVec 32 := 8#32
  let v256 : BitVec 1 := Scalar.cmpi .slt v254 c8_i32_148
  let v257 : BitVec 32 := Scalar.extui v256
  let c0_i32_150 : BitVec 32 := 0#32
  let v258 : BitVec 1 := Scalar.cmpi .ne v257 c0_i32_150
  v258

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_145 : BitVec 32 := 4#32
  let v253 : BitVec 32 := Scalar.addi v2 c4_i32_145
  let c16_i32_146 : BitVec 32 := 16#32
  let v254 : BitVec 32 := Scalar.remsi v253 c16_i32_146
  let c16_i32_147 : BitVec 32 := 16#32
  let v255 : BitVec 32 := Scalar.muli v254 c16_i32_147
  let c0_i32_967 : BitVec 32 := 0#32
  ![v255.toNat, 0]
def k0_dev19 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_145 : BitVec 32 := 4#32
  let v253 : BitVec 32 := Scalar.addi v2 c4_i32_145
  let c16_i32_146 : BitVec 32 := 16#32
  let v254 : BitVec 32 := Scalar.remsi v253 c16_i32_146
  let c1_i32_963 : BitVec 32 := 1#32
  let v1278 : BitVec 32 := Scalar.muli v254 c1_i32_963
  let v1279 : BitVec 32 := Scalar.addi c0_i32_964 v1278
  v1279.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_151 : BitVec 32 := 5#32
  let v259 : BitVec 32 := Scalar.addi v2 c5_i32_151
  let c16_i32_152 : BitVec 32 := 16#32
  let v260 : BitVec 32 := Scalar.remsi v259 c16_i32_152
  let c8_i32_154 : BitVec 32 := 8#32
  let v262 : BitVec 1 := Scalar.cmpi .slt v260 c8_i32_154
  let v263 : BitVec 32 := Scalar.extui v262
  let c0_i32_156 : BitVec 32 := 0#32
  let v264 : BitVec 1 := Scalar.cmpi .ne v263 c0_i32_156
  v264

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_151 : BitVec 32 := 5#32
  let v259 : BitVec 32 := Scalar.addi v2 c5_i32_151
  let c16_i32_152 : BitVec 32 := 16#32
  let v260 : BitVec 32 := Scalar.remsi v259 c16_i32_152
  let c16_i32_153 : BitVec 32 := 16#32
  let v261 : BitVec 32 := Scalar.muli v260 c16_i32_153
  let c0_i32_967 : BitVec 32 := 0#32
  ![v261.toNat, 0]
def k0_dev20 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_151 : BitVec 32 := 5#32
  let v259 : BitVec 32 := Scalar.addi v2 c5_i32_151
  let c16_i32_152 : BitVec 32 := 16#32
  let v260 : BitVec 32 := Scalar.remsi v259 c16_i32_152
  let c1_i32_963 : BitVec 32 := 1#32
  let v1278 : BitVec 32 := Scalar.muli v260 c1_i32_963
  let v1279 : BitVec 32 := Scalar.addi c0_i32_964 v1278
  v1279.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_157 : BitVec 32 := 6#32
  let v265 : BitVec 32 := Scalar.addi v2 c6_i32_157
  let c16_i32_158 : BitVec 32 := 16#32
  let v266 : BitVec 32 := Scalar.remsi v265 c16_i32_158
  let c8_i32_160 : BitVec 32 := 8#32
  let v268 : BitVec 1 := Scalar.cmpi .slt v266 c8_i32_160
  let v269 : BitVec 32 := Scalar.extui v268
  let c0_i32_162 : BitVec 32 := 0#32
  let v270 : BitVec 1 := Scalar.cmpi .ne v269 c0_i32_162
  v270

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_157 : BitVec 32 := 6#32
  let v265 : BitVec 32 := Scalar.addi v2 c6_i32_157
  let c16_i32_158 : BitVec 32 := 16#32
  let v266 : BitVec 32 := Scalar.remsi v265 c16_i32_158
  let c16_i32_159 : BitVec 32 := 16#32
  let v267 : BitVec 32 := Scalar.muli v266 c16_i32_159
  let c0_i32_967 : BitVec 32 := 0#32
  ![v267.toNat, 0]
def k0_dev21 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_157 : BitVec 32 := 6#32
  let v265 : BitVec 32 := Scalar.addi v2 c6_i32_157
  let c16_i32_158 : BitVec 32 := 16#32
  let v266 : BitVec 32 := Scalar.remsi v265 c16_i32_158
  let c1_i32_963 : BitVec 32 := 1#32
  let v1278 : BitVec 32 := Scalar.muli v266 c1_i32_963
  let v1279 : BitVec 32 := Scalar.addi c0_i32_964 v1278
  v1279.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_163 : BitVec 32 := 7#32
  let v271 : BitVec 32 := Scalar.addi v2 c7_i32_163
  let c16_i32_164 : BitVec 32 := 16#32
  let v272 : BitVec 32 := Scalar.remsi v271 c16_i32_164
  let c8_i32_166 : BitVec 32 := 8#32
  let v274 : BitVec 1 := Scalar.cmpi .slt v272 c8_i32_166
  let v275 : BitVec 32 := Scalar.extui v274
  let c0_i32_168 : BitVec 32 := 0#32
  let v276 : BitVec 1 := Scalar.cmpi .ne v275 c0_i32_168
  v276

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_163 : BitVec 32 := 7#32
  let v271 : BitVec 32 := Scalar.addi v2 c7_i32_163
  let c16_i32_164 : BitVec 32 := 16#32
  let v272 : BitVec 32 := Scalar.remsi v271 c16_i32_164
  let c16_i32_165 : BitVec 32 := 16#32
  let v273 : BitVec 32 := Scalar.muli v272 c16_i32_165
  let c0_i32_967 : BitVec 32 := 0#32
  ![v273.toNat, 0]
def k0_dev22 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_163 : BitVec 32 := 7#32
  let v271 : BitVec 32 := Scalar.addi v2 c7_i32_163
  let c16_i32_164 : BitVec 32 := 16#32
  let v272 : BitVec 32 := Scalar.remsi v271 c16_i32_164
  let c1_i32_963 : BitVec 32 := 1#32
  let v1278 : BitVec 32 := Scalar.muli v272 c1_i32_963
  let v1279 : BitVec 32 := Scalar.addi c0_i32_964 v1278
  v1279.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_169 : BitVec 32 := 8#32
  let v277 : BitVec 32 := Scalar.addi v2 c8_i32_169
  let c16_i32_170 : BitVec 32 := 16#32
  let v278 : BitVec 32 := Scalar.remsi v277 c16_i32_170
  let c8_i32_172 : BitVec 32 := 8#32
  let v280 : BitVec 1 := Scalar.cmpi .slt v278 c8_i32_172
  let v281 : BitVec 32 := Scalar.extui v280
  let c0_i32_174 : BitVec 32 := 0#32
  let v282 : BitVec 1 := Scalar.cmpi .ne v281 c0_i32_174
  v282

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_169 : BitVec 32 := 8#32
  let v277 : BitVec 32 := Scalar.addi v2 c8_i32_169
  let c16_i32_170 : BitVec 32 := 16#32
  let v278 : BitVec 32 := Scalar.remsi v277 c16_i32_170
  let c16_i32_171 : BitVec 32 := 16#32
  let v279 : BitVec 32 := Scalar.muli v278 c16_i32_171
  let c0_i32_967 : BitVec 32 := 0#32
  ![v279.toNat, 0]
def k0_dev23 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_169 : BitVec 32 := 8#32
  let v277 : BitVec 32 := Scalar.addi v2 c8_i32_169
  let c16_i32_170 : BitVec 32 := 16#32
  let v278 : BitVec 32 := Scalar.remsi v277 c16_i32_170
  let c1_i32_963 : BitVec 32 := 1#32
  let v1278 : BitVec 32 := Scalar.muli v278 c1_i32_963
  let v1279 : BitVec 32 := Scalar.addi c0_i32_964 v1278
  v1279.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_175 : BitVec 32 := 9#32
  let v283 : BitVec 32 := Scalar.addi v2 c9_i32_175
  let c16_i32_176 : BitVec 32 := 16#32
  let v284 : BitVec 32 := Scalar.remsi v283 c16_i32_176
  let c8_i32_178 : BitVec 32 := 8#32
  let v286 : BitVec 1 := Scalar.cmpi .slt v284 c8_i32_178
  let v287 : BitVec 32 := Scalar.extui v286
  let c0_i32_180 : BitVec 32 := 0#32
  let v288 : BitVec 1 := Scalar.cmpi .ne v287 c0_i32_180
  v288

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_175 : BitVec 32 := 9#32
  let v283 : BitVec 32 := Scalar.addi v2 c9_i32_175
  let c16_i32_176 : BitVec 32 := 16#32
  let v284 : BitVec 32 := Scalar.remsi v283 c16_i32_176
  let c16_i32_177 : BitVec 32 := 16#32
  let v285 : BitVec 32 := Scalar.muli v284 c16_i32_177
  let c0_i32_967 : BitVec 32 := 0#32
  ![v285.toNat, 0]
def k0_dev24 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_175 : BitVec 32 := 9#32
  let v283 : BitVec 32 := Scalar.addi v2 c9_i32_175
  let c16_i32_176 : BitVec 32 := 16#32
  let v284 : BitVec 32 := Scalar.remsi v283 c16_i32_176
  let c1_i32_963 : BitVec 32 := 1#32
  let v1278 : BitVec 32 := Scalar.muli v284 c1_i32_963
  let v1279 : BitVec 32 := Scalar.addi c0_i32_964 v1278
  v1279.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_181 : BitVec 32 := 10#32
  let v289 : BitVec 32 := Scalar.addi v2 c10_i32_181
  let c16_i32_182 : BitVec 32 := 16#32
  let v290 : BitVec 32 := Scalar.remsi v289 c16_i32_182
  let c8_i32_184 : BitVec 32 := 8#32
  let v292 : BitVec 1 := Scalar.cmpi .slt v290 c8_i32_184
  let v293 : BitVec 32 := Scalar.extui v292
  let c0_i32_186 : BitVec 32 := 0#32
  let v294 : BitVec 1 := Scalar.cmpi .ne v293 c0_i32_186
  v294

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_181 : BitVec 32 := 10#32
  let v289 : BitVec 32 := Scalar.addi v2 c10_i32_181
  let c16_i32_182 : BitVec 32 := 16#32
  let v290 : BitVec 32 := Scalar.remsi v289 c16_i32_182
  let c16_i32_183 : BitVec 32 := 16#32
  let v291 : BitVec 32 := Scalar.muli v290 c16_i32_183
  let c0_i32_967 : BitVec 32 := 0#32
  ![v291.toNat, 0]
def k0_dev25 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_181 : BitVec 32 := 10#32
  let v289 : BitVec 32 := Scalar.addi v2 c10_i32_181
  let c16_i32_182 : BitVec 32 := 16#32
  let v290 : BitVec 32 := Scalar.remsi v289 c16_i32_182
  let c1_i32_963 : BitVec 32 := 1#32
  let v1278 : BitVec 32 := Scalar.muli v290 c1_i32_963
  let v1279 : BitVec 32 := Scalar.addi c0_i32_964 v1278
  v1279.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_187 : BitVec 32 := 11#32
  let v295 : BitVec 32 := Scalar.addi v2 c11_i32_187
  let c16_i32_188 : BitVec 32 := 16#32
  let v296 : BitVec 32 := Scalar.remsi v295 c16_i32_188
  let c8_i32_190 : BitVec 32 := 8#32
  let v298 : BitVec 1 := Scalar.cmpi .slt v296 c8_i32_190
  let v299 : BitVec 32 := Scalar.extui v298
  let c0_i32_192 : BitVec 32 := 0#32
  let v300 : BitVec 1 := Scalar.cmpi .ne v299 c0_i32_192
  v300

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_187 : BitVec 32 := 11#32
  let v295 : BitVec 32 := Scalar.addi v2 c11_i32_187
  let c16_i32_188 : BitVec 32 := 16#32
  let v296 : BitVec 32 := Scalar.remsi v295 c16_i32_188
  let c16_i32_189 : BitVec 32 := 16#32
  let v297 : BitVec 32 := Scalar.muli v296 c16_i32_189
  let c0_i32_967 : BitVec 32 := 0#32
  ![v297.toNat, 0]
def k0_dev26 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_187 : BitVec 32 := 11#32
  let v295 : BitVec 32 := Scalar.addi v2 c11_i32_187
  let c16_i32_188 : BitVec 32 := 16#32
  let v296 : BitVec 32 := Scalar.remsi v295 c16_i32_188
  let c1_i32_963 : BitVec 32 := 1#32
  let v1278 : BitVec 32 := Scalar.muli v296 c1_i32_963
  let v1279 : BitVec 32 := Scalar.addi c0_i32_964 v1278
  v1279.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_193 : BitVec 32 := 12#32
  let v301 : BitVec 32 := Scalar.addi v2 c12_i32_193
  let c16_i32_194 : BitVec 32 := 16#32
  let v302 : BitVec 32 := Scalar.remsi v301 c16_i32_194
  let c8_i32_196 : BitVec 32 := 8#32
  let v304 : BitVec 1 := Scalar.cmpi .slt v302 c8_i32_196
  let v305 : BitVec 32 := Scalar.extui v304
  let c0_i32_198 : BitVec 32 := 0#32
  let v306 : BitVec 1 := Scalar.cmpi .ne v305 c0_i32_198
  v306

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_193 : BitVec 32 := 12#32
  let v301 : BitVec 32 := Scalar.addi v2 c12_i32_193
  let c16_i32_194 : BitVec 32 := 16#32
  let v302 : BitVec 32 := Scalar.remsi v301 c16_i32_194
  let c16_i32_195 : BitVec 32 := 16#32
  let v303 : BitVec 32 := Scalar.muli v302 c16_i32_195
  let c0_i32_967 : BitVec 32 := 0#32
  ![v303.toNat, 0]
def k0_dev27 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_193 : BitVec 32 := 12#32
  let v301 : BitVec 32 := Scalar.addi v2 c12_i32_193
  let c16_i32_194 : BitVec 32 := 16#32
  let v302 : BitVec 32 := Scalar.remsi v301 c16_i32_194
  let c1_i32_963 : BitVec 32 := 1#32
  let v1278 : BitVec 32 := Scalar.muli v302 c1_i32_963
  let v1279 : BitVec 32 := Scalar.addi c0_i32_964 v1278
  v1279.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_199 : BitVec 32 := 13#32
  let v307 : BitVec 32 := Scalar.addi v2 c13_i32_199
  let c16_i32_200 : BitVec 32 := 16#32
  let v308 : BitVec 32 := Scalar.remsi v307 c16_i32_200
  let c8_i32_202 : BitVec 32 := 8#32
  let v310 : BitVec 1 := Scalar.cmpi .slt v308 c8_i32_202
  let v311 : BitVec 32 := Scalar.extui v310
  let c0_i32_204 : BitVec 32 := 0#32
  let v312 : BitVec 1 := Scalar.cmpi .ne v311 c0_i32_204
  v312

def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_199 : BitVec 32 := 13#32
  let v307 : BitVec 32 := Scalar.addi v2 c13_i32_199
  let c16_i32_200 : BitVec 32 := 16#32
  let v308 : BitVec 32 := Scalar.remsi v307 c16_i32_200
  let c16_i32_201 : BitVec 32 := 16#32
  let v309 : BitVec 32 := Scalar.muli v308 c16_i32_201
  let c0_i32_967 : BitVec 32 := 0#32
  ![v309.toNat, 0]
def k0_dev28 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_199 : BitVec 32 := 13#32
  let v307 : BitVec 32 := Scalar.addi v2 c13_i32_199
  let c16_i32_200 : BitVec 32 := 16#32
  let v308 : BitVec 32 := Scalar.remsi v307 c16_i32_200
  let c1_i32_963 : BitVec 32 := 1#32
  let v1278 : BitVec 32 := Scalar.muli v308 c1_i32_963
  let v1279 : BitVec 32 := Scalar.addi c0_i32_964 v1278
  v1279.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_205 : BitVec 32 := 14#32
  let v313 : BitVec 32 := Scalar.addi v2 c14_i32_205
  let c16_i32_206 : BitVec 32 := 16#32
  let v314 : BitVec 32 := Scalar.remsi v313 c16_i32_206
  let c8_i32_208 : BitVec 32 := 8#32
  let v316 : BitVec 1 := Scalar.cmpi .slt v314 c8_i32_208
  let v317 : BitVec 32 := Scalar.extui v316
  let c0_i32_210 : BitVec 32 := 0#32
  let v318 : BitVec 1 := Scalar.cmpi .ne v317 c0_i32_210
  v318

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_205 : BitVec 32 := 14#32
  let v313 : BitVec 32 := Scalar.addi v2 c14_i32_205
  let c16_i32_206 : BitVec 32 := 16#32
  let v314 : BitVec 32 := Scalar.remsi v313 c16_i32_206
  let c16_i32_207 : BitVec 32 := 16#32
  let v315 : BitVec 32 := Scalar.muli v314 c16_i32_207
  let c0_i32_967 : BitVec 32 := 0#32
  ![v315.toNat, 0]
def k0_dev29 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_205 : BitVec 32 := 14#32
  let v313 : BitVec 32 := Scalar.addi v2 c14_i32_205
  let c16_i32_206 : BitVec 32 := 16#32
  let v314 : BitVec 32 := Scalar.remsi v313 c16_i32_206
  let c1_i32_963 : BitVec 32 := 1#32
  let v1278 : BitVec 32 := Scalar.muli v314 c1_i32_963
  let v1279 : BitVec 32 := Scalar.addi c0_i32_964 v1278
  v1279.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_211 : BitVec 32 := 15#32
  let v319 : BitVec 32 := Scalar.addi v2 c15_i32_211
  let c16_i32_212 : BitVec 32 := 16#32
  let v320 : BitVec 32 := Scalar.remsi v319 c16_i32_212
  let c8_i32_214 : BitVec 32 := 8#32
  let v322 : BitVec 1 := Scalar.cmpi .slt v320 c8_i32_214
  let v323 : BitVec 32 := Scalar.extui v322
  let c0_i32_216 : BitVec 32 := 0#32
  let v324 : BitVec 1 := Scalar.cmpi .ne v323 c0_i32_216
  v324

def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_211 : BitVec 32 := 15#32
  let v319 : BitVec 32 := Scalar.addi v2 c15_i32_211
  let c16_i32_212 : BitVec 32 := 16#32
  let v320 : BitVec 32 := Scalar.remsi v319 c16_i32_212
  let c16_i32_213 : BitVec 32 := 16#32
  let v321 : BitVec 32 := Scalar.muli v320 c16_i32_213
  let c0_i32_967 : BitVec 32 := 0#32
  ![v321.toNat, 0]
def k0_dev30 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_211 : BitVec 32 := 15#32
  let v319 : BitVec 32 := Scalar.addi v2 c15_i32_211
  let c16_i32_212 : BitVec 32 := 16#32
  let v320 : BitVec 32 := Scalar.remsi v319 c16_i32_212
  let c1_i32_963 : BitVec 32 := 1#32
  let v1278 : BitVec 32 := Scalar.muli v320 c1_i32_963
  let v1279 : BitVec 32 := Scalar.addi c0_i32_964 v1278
  v1279.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_280 : BitVec 32 := 1#32
  let v484 : BitVec 32 := Scalar.addi v2 c1_i32_280
  let c16_i32_281 : BitVec 32 := 16#32
  let v485 : BitVec 32 := Scalar.remsi v484 c16_i32_281
  let c8_i32_283 : BitVec 32 := 8#32
  let v487 : BitVec 1 := Scalar.cmpi .sge v485 c8_i32_283
  let v488 : BitVec 32 := Scalar.extui v487
  let c0_i32_285 : BitVec 32 := 0#32
  let v489 : BitVec 1 := Scalar.cmpi .ne v488 c0_i32_285
  v489

def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_280 : BitVec 32 := 1#32
  let v484 : BitVec 32 := Scalar.addi v2 c1_i32_280
  let c16_i32_281 : BitVec 32 := 16#32
  let v485 : BitVec 32 := Scalar.remsi v484 c16_i32_281
  let c16_i32_282 : BitVec 32 := 16#32
  let v486 : BitVec 32 := Scalar.muli v485 c16_i32_282
  let c0_i32_967 : BitVec 32 := 0#32
  ![v486.toNat, 0]
def k0_dev31 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_280 : BitVec 32 := 1#32
  let v484 : BitVec 32 := Scalar.addi v2 c1_i32_280
  let c16_i32_281 : BitVec 32 := 16#32
  let v485 : BitVec 32 := Scalar.remsi v484 c16_i32_281
  let c1_i32_963 : BitVec 32 := 1#32
  let v1278 : BitVec 32 := Scalar.muli v485 c1_i32_963
  let v1279 : BitVec 32 := Scalar.addi c0_i32_964 v1278
  v1279.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_286 : BitVec 32 := 2#32
  let v490 : BitVec 32 := Scalar.addi v2 c2_i32_286
  let c16_i32_287 : BitVec 32 := 16#32
  let v491 : BitVec 32 := Scalar.remsi v490 c16_i32_287
  let c8_i32_289 : BitVec 32 := 8#32
  let v493 : BitVec 1 := Scalar.cmpi .sge v491 c8_i32_289
  let v494 : BitVec 32 := Scalar.extui v493
  let c0_i32_291 : BitVec 32 := 0#32
  let v495 : BitVec 1 := Scalar.cmpi .ne v494 c0_i32_291
  v495

def k0_off49 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_286 : BitVec 32 := 2#32
  let v490 : BitVec 32 := Scalar.addi v2 c2_i32_286
  let c16_i32_287 : BitVec 32 := 16#32
  let v491 : BitVec 32 := Scalar.remsi v490 c16_i32_287
  let c16_i32_288 : BitVec 32 := 16#32
  let v492 : BitVec 32 := Scalar.muli v491 c16_i32_288
  let c0_i32_967 : BitVec 32 := 0#32
  ![v492.toNat, 0]
def k0_dev32 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_286 : BitVec 32 := 2#32
  let v490 : BitVec 32 := Scalar.addi v2 c2_i32_286
  let c16_i32_287 : BitVec 32 := 16#32
  let v491 : BitVec 32 := Scalar.remsi v490 c16_i32_287
  let c1_i32_963 : BitVec 32 := 1#32
  let v1278 : BitVec 32 := Scalar.muli v491 c1_i32_963
  let v1279 : BitVec 32 := Scalar.addi c0_i32_964 v1278
  v1279.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_292 : BitVec 32 := 3#32
  let v496 : BitVec 32 := Scalar.addi v2 c3_i32_292
  let c16_i32_293 : BitVec 32 := 16#32
  let v497 : BitVec 32 := Scalar.remsi v496 c16_i32_293
  let c8_i32_295 : BitVec 32 := 8#32
  let v499 : BitVec 1 := Scalar.cmpi .sge v497 c8_i32_295
  let v500 : BitVec 32 := Scalar.extui v499
  let c0_i32_297 : BitVec 32 := 0#32
  let v501 : BitVec 1 := Scalar.cmpi .ne v500 c0_i32_297
  v501

def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_292 : BitVec 32 := 3#32
  let v496 : BitVec 32 := Scalar.addi v2 c3_i32_292
  let c16_i32_293 : BitVec 32 := 16#32
  let v497 : BitVec 32 := Scalar.remsi v496 c16_i32_293
  let c16_i32_294 : BitVec 32 := 16#32
  let v498 : BitVec 32 := Scalar.muli v497 c16_i32_294
  let c0_i32_967 : BitVec 32 := 0#32
  ![v498.toNat, 0]
def k0_dev33 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_292 : BitVec 32 := 3#32
  let v496 : BitVec 32 := Scalar.addi v2 c3_i32_292
  let c16_i32_293 : BitVec 32 := 16#32
  let v497 : BitVec 32 := Scalar.remsi v496 c16_i32_293
  let c1_i32_963 : BitVec 32 := 1#32
  let v1278 : BitVec 32 := Scalar.muli v497 c1_i32_963
  let v1279 : BitVec 32 := Scalar.addi c0_i32_964 v1278
  v1279.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_298 : BitVec 32 := 4#32
  let v502 : BitVec 32 := Scalar.addi v2 c4_i32_298
  let c16_i32_299 : BitVec 32 := 16#32
  let v503 : BitVec 32 := Scalar.remsi v502 c16_i32_299
  let c8_i32_301 : BitVec 32 := 8#32
  let v505 : BitVec 1 := Scalar.cmpi .sge v503 c8_i32_301
  let v506 : BitVec 32 := Scalar.extui v505
  let c0_i32_303 : BitVec 32 := 0#32
  let v507 : BitVec 1 := Scalar.cmpi .ne v506 c0_i32_303
  v507

def k0_off55 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_298 : BitVec 32 := 4#32
  let v502 : BitVec 32 := Scalar.addi v2 c4_i32_298
  let c16_i32_299 : BitVec 32 := 16#32
  let v503 : BitVec 32 := Scalar.remsi v502 c16_i32_299
  let c16_i32_300 : BitVec 32 := 16#32
  let v504 : BitVec 32 := Scalar.muli v503 c16_i32_300
  let c0_i32_967 : BitVec 32 := 0#32
  ![v504.toNat, 0]
def k0_dev34 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_298 : BitVec 32 := 4#32
  let v502 : BitVec 32 := Scalar.addi v2 c4_i32_298
  let c16_i32_299 : BitVec 32 := 16#32
  let v503 : BitVec 32 := Scalar.remsi v502 c16_i32_299
  let c1_i32_963 : BitVec 32 := 1#32
  let v1278 : BitVec 32 := Scalar.muli v503 c1_i32_963
  let v1279 : BitVec 32 := Scalar.addi c0_i32_964 v1278
  v1279.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_304 : BitVec 32 := 5#32
  let v508 : BitVec 32 := Scalar.addi v2 c5_i32_304
  let c16_i32_305 : BitVec 32 := 16#32
  let v509 : BitVec 32 := Scalar.remsi v508 c16_i32_305
  let c8_i32_307 : BitVec 32 := 8#32
  let v511 : BitVec 1 := Scalar.cmpi .sge v509 c8_i32_307
  let v512 : BitVec 32 := Scalar.extui v511
  let c0_i32_309 : BitVec 32 := 0#32
  let v513 : BitVec 1 := Scalar.cmpi .ne v512 c0_i32_309
  v513

def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_304 : BitVec 32 := 5#32
  let v508 : BitVec 32 := Scalar.addi v2 c5_i32_304
  let c16_i32_305 : BitVec 32 := 16#32
  let v509 : BitVec 32 := Scalar.remsi v508 c16_i32_305
  let c16_i32_306 : BitVec 32 := 16#32
  let v510 : BitVec 32 := Scalar.muli v509 c16_i32_306
  let c0_i32_967 : BitVec 32 := 0#32
  ![v510.toNat, 0]
def k0_dev35 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_304 : BitVec 32 := 5#32
  let v508 : BitVec 32 := Scalar.addi v2 c5_i32_304
  let c16_i32_305 : BitVec 32 := 16#32
  let v509 : BitVec 32 := Scalar.remsi v508 c16_i32_305
  let c1_i32_963 : BitVec 32 := 1#32
  let v1278 : BitVec 32 := Scalar.muli v509 c1_i32_963
  let v1279 : BitVec 32 := Scalar.addi c0_i32_964 v1278
  v1279.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_310 : BitVec 32 := 6#32
  let v514 : BitVec 32 := Scalar.addi v2 c6_i32_310
  let c16_i32_311 : BitVec 32 := 16#32
  let v515 : BitVec 32 := Scalar.remsi v514 c16_i32_311
  let c8_i32_313 : BitVec 32 := 8#32
  let v517 : BitVec 1 := Scalar.cmpi .sge v515 c8_i32_313
  let v518 : BitVec 32 := Scalar.extui v517
  let c0_i32_315 : BitVec 32 := 0#32
  let v519 : BitVec 1 := Scalar.cmpi .ne v518 c0_i32_315
  v519

def k0_off61 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_310 : BitVec 32 := 6#32
  let v514 : BitVec 32 := Scalar.addi v2 c6_i32_310
  let c16_i32_311 : BitVec 32 := 16#32
  let v515 : BitVec 32 := Scalar.remsi v514 c16_i32_311
  let c16_i32_312 : BitVec 32 := 16#32
  let v516 : BitVec 32 := Scalar.muli v515 c16_i32_312
  let c0_i32_967 : BitVec 32 := 0#32
  ![v516.toNat, 0]
def k0_dev36 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_310 : BitVec 32 := 6#32
  let v514 : BitVec 32 := Scalar.addi v2 c6_i32_310
  let c16_i32_311 : BitVec 32 := 16#32
  let v515 : BitVec 32 := Scalar.remsi v514 c16_i32_311
  let c1_i32_963 : BitVec 32 := 1#32
  let v1278 : BitVec 32 := Scalar.muli v515 c1_i32_963
  let v1279 : BitVec 32 := Scalar.addi c0_i32_964 v1278
  v1279.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_316 : BitVec 32 := 7#32
  let v520 : BitVec 32 := Scalar.addi v2 c7_i32_316
  let c16_i32_317 : BitVec 32 := 16#32
  let v521 : BitVec 32 := Scalar.remsi v520 c16_i32_317
  let c8_i32_319 : BitVec 32 := 8#32
  let v523 : BitVec 1 := Scalar.cmpi .sge v521 c8_i32_319
  let v524 : BitVec 32 := Scalar.extui v523
  let c0_i32_321 : BitVec 32 := 0#32
  let v525 : BitVec 1 := Scalar.cmpi .ne v524 c0_i32_321
  v525

def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off65 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_316 : BitVec 32 := 7#32
  let v520 : BitVec 32 := Scalar.addi v2 c7_i32_316
  let c16_i32_317 : BitVec 32 := 16#32
  let v521 : BitVec 32 := Scalar.remsi v520 c16_i32_317
  let c16_i32_318 : BitVec 32 := 16#32
  let v522 : BitVec 32 := Scalar.muli v521 c16_i32_318
  let c0_i32_967 : BitVec 32 := 0#32
  ![v522.toNat, 0]
def k0_dev37 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_316 : BitVec 32 := 7#32
  let v520 : BitVec 32 := Scalar.addi v2 c7_i32_316
  let c16_i32_317 : BitVec 32 := 16#32
  let v521 : BitVec 32 := Scalar.remsi v520 c16_i32_317
  let c1_i32_963 : BitVec 32 := 1#32
  let v1278 : BitVec 32 := Scalar.muli v521 c1_i32_963
  let v1279 : BitVec 32 := Scalar.addi c0_i32_964 v1278
  v1279.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_322 : BitVec 32 := 8#32
  let v526 : BitVec 32 := Scalar.addi v2 c8_i32_322
  let c16_i32_323 : BitVec 32 := 16#32
  let v527 : BitVec 32 := Scalar.remsi v526 c16_i32_323
  let c8_i32_325 : BitVec 32 := 8#32
  let v529 : BitVec 1 := Scalar.cmpi .sge v527 c8_i32_325
  let v530 : BitVec 32 := Scalar.extui v529
  let c0_i32_327 : BitVec 32 := 0#32
  let v531 : BitVec 1 := Scalar.cmpi .ne v530 c0_i32_327
  v531

def k0_off67 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off68 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off69 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_322 : BitVec 32 := 8#32
  let v526 : BitVec 32 := Scalar.addi v2 c8_i32_322
  let c16_i32_323 : BitVec 32 := 16#32
  let v527 : BitVec 32 := Scalar.remsi v526 c16_i32_323
  let c16_i32_324 : BitVec 32 := 16#32
  let v528 : BitVec 32 := Scalar.muli v527 c16_i32_324
  let c0_i32_967 : BitVec 32 := 0#32
  ![v528.toNat, 0]
def k0_dev38 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_322 : BitVec 32 := 8#32
  let v526 : BitVec 32 := Scalar.addi v2 c8_i32_322
  let c16_i32_323 : BitVec 32 := 16#32
  let v527 : BitVec 32 := Scalar.remsi v526 c16_i32_323
  let c1_i32_963 : BitVec 32 := 1#32
  let v1278 : BitVec 32 := Scalar.muli v527 c1_i32_963
  let v1279 : BitVec 32 := Scalar.addi c0_i32_964 v1278
  v1279.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_328 : BitVec 32 := 9#32
  let v532 : BitVec 32 := Scalar.addi v2 c9_i32_328
  let c16_i32_329 : BitVec 32 := 16#32
  let v533 : BitVec 32 := Scalar.remsi v532 c16_i32_329
  let c8_i32_331 : BitVec 32 := 8#32
  let v535 : BitVec 1 := Scalar.cmpi .sge v533 c8_i32_331
  let v536 : BitVec 32 := Scalar.extui v535
  let c0_i32_333 : BitVec 32 := 0#32
  let v537 : BitVec 1 := Scalar.cmpi .ne v536 c0_i32_333
  v537

def k0_off70 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off71 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off72 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_328 : BitVec 32 := 9#32
  let v532 : BitVec 32 := Scalar.addi v2 c9_i32_328
  let c16_i32_329 : BitVec 32 := 16#32
  let v533 : BitVec 32 := Scalar.remsi v532 c16_i32_329
  let c16_i32_330 : BitVec 32 := 16#32
  let v534 : BitVec 32 := Scalar.muli v533 c16_i32_330
  let c0_i32_967 : BitVec 32 := 0#32
  ![v534.toNat, 0]
def k0_dev39 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_328 : BitVec 32 := 9#32
  let v532 : BitVec 32 := Scalar.addi v2 c9_i32_328
  let c16_i32_329 : BitVec 32 := 16#32
  let v533 : BitVec 32 := Scalar.remsi v532 c16_i32_329
  let c1_i32_963 : BitVec 32 := 1#32
  let v1278 : BitVec 32 := Scalar.muli v533 c1_i32_963
  let v1279 : BitVec 32 := Scalar.addi c0_i32_964 v1278
  v1279.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_334 : BitVec 32 := 10#32
  let v538 : BitVec 32 := Scalar.addi v2 c10_i32_334
  let c16_i32_335 : BitVec 32 := 16#32
  let v539 : BitVec 32 := Scalar.remsi v538 c16_i32_335
  let c8_i32_337 : BitVec 32 := 8#32
  let v541 : BitVec 1 := Scalar.cmpi .sge v539 c8_i32_337
  let v542 : BitVec 32 := Scalar.extui v541
  let c0_i32_339 : BitVec 32 := 0#32
  let v543 : BitVec 1 := Scalar.cmpi .ne v542 c0_i32_339
  v543

def k0_off73 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off75 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_334 : BitVec 32 := 10#32
  let v538 : BitVec 32 := Scalar.addi v2 c10_i32_334
  let c16_i32_335 : BitVec 32 := 16#32
  let v539 : BitVec 32 := Scalar.remsi v538 c16_i32_335
  let c16_i32_336 : BitVec 32 := 16#32
  let v540 : BitVec 32 := Scalar.muli v539 c16_i32_336
  let c0_i32_967 : BitVec 32 := 0#32
  ![v540.toNat, 0]
def k0_dev40 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_334 : BitVec 32 := 10#32
  let v538 : BitVec 32 := Scalar.addi v2 c10_i32_334
  let c16_i32_335 : BitVec 32 := 16#32
  let v539 : BitVec 32 := Scalar.remsi v538 c16_i32_335
  let c1_i32_963 : BitVec 32 := 1#32
  let v1278 : BitVec 32 := Scalar.muli v539 c1_i32_963
  let v1279 : BitVec 32 := Scalar.addi c0_i32_964 v1278
  v1279.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_340 : BitVec 32 := 11#32
  let v544 : BitVec 32 := Scalar.addi v2 c11_i32_340
  let c16_i32_341 : BitVec 32 := 16#32
  let v545 : BitVec 32 := Scalar.remsi v544 c16_i32_341
  let c8_i32_343 : BitVec 32 := 8#32
  let v547 : BitVec 1 := Scalar.cmpi .sge v545 c8_i32_343
  let v548 : BitVec 32 := Scalar.extui v547
  let c0_i32_345 : BitVec 32 := 0#32
  let v549 : BitVec 1 := Scalar.cmpi .ne v548 c0_i32_345
  v549

def k0_off76 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off77 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off78 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_340 : BitVec 32 := 11#32
  let v544 : BitVec 32 := Scalar.addi v2 c11_i32_340
  let c16_i32_341 : BitVec 32 := 16#32
  let v545 : BitVec 32 := Scalar.remsi v544 c16_i32_341
  let c16_i32_342 : BitVec 32 := 16#32
  let v546 : BitVec 32 := Scalar.muli v545 c16_i32_342
  let c0_i32_967 : BitVec 32 := 0#32
  ![v546.toNat, 0]
def k0_dev41 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_340 : BitVec 32 := 11#32
  let v544 : BitVec 32 := Scalar.addi v2 c11_i32_340
  let c16_i32_341 : BitVec 32 := 16#32
  let v545 : BitVec 32 := Scalar.remsi v544 c16_i32_341
  let c1_i32_963 : BitVec 32 := 1#32
  let v1278 : BitVec 32 := Scalar.muli v545 c1_i32_963
  let v1279 : BitVec 32 := Scalar.addi c0_i32_964 v1278
  v1279.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_346 : BitVec 32 := 12#32
  let v550 : BitVec 32 := Scalar.addi v2 c12_i32_346
  let c16_i32_347 : BitVec 32 := 16#32
  let v551 : BitVec 32 := Scalar.remsi v550 c16_i32_347
  let c8_i32_349 : BitVec 32 := 8#32
  let v553 : BitVec 1 := Scalar.cmpi .sge v551 c8_i32_349
  let v554 : BitVec 32 := Scalar.extui v553
  let c0_i32_351 : BitVec 32 := 0#32
  let v555 : BitVec 1 := Scalar.cmpi .ne v554 c0_i32_351
  v555

def k0_off79 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off80 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off81 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_346 : BitVec 32 := 12#32
  let v550 : BitVec 32 := Scalar.addi v2 c12_i32_346
  let c16_i32_347 : BitVec 32 := 16#32
  let v551 : BitVec 32 := Scalar.remsi v550 c16_i32_347
  let c16_i32_348 : BitVec 32 := 16#32
  let v552 : BitVec 32 := Scalar.muli v551 c16_i32_348
  let c0_i32_967 : BitVec 32 := 0#32
  ![v552.toNat, 0]
def k0_dev42 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_346 : BitVec 32 := 12#32
  let v550 : BitVec 32 := Scalar.addi v2 c12_i32_346
  let c16_i32_347 : BitVec 32 := 16#32
  let v551 : BitVec 32 := Scalar.remsi v550 c16_i32_347
  let c1_i32_963 : BitVec 32 := 1#32
  let v1278 : BitVec 32 := Scalar.muli v551 c1_i32_963
  let v1279 : BitVec 32 := Scalar.addi c0_i32_964 v1278
  v1279.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_352 : BitVec 32 := 13#32
  let v556 : BitVec 32 := Scalar.addi v2 c13_i32_352
  let c16_i32_353 : BitVec 32 := 16#32
  let v557 : BitVec 32 := Scalar.remsi v556 c16_i32_353
  let c8_i32_355 : BitVec 32 := 8#32
  let v559 : BitVec 1 := Scalar.cmpi .sge v557 c8_i32_355
  let v560 : BitVec 32 := Scalar.extui v559
  let c0_i32_357 : BitVec 32 := 0#32
  let v561 : BitVec 1 := Scalar.cmpi .ne v560 c0_i32_357
  v561

def k0_off82 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off83 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off84 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_352 : BitVec 32 := 13#32
  let v556 : BitVec 32 := Scalar.addi v2 c13_i32_352
  let c16_i32_353 : BitVec 32 := 16#32
  let v557 : BitVec 32 := Scalar.remsi v556 c16_i32_353
  let c16_i32_354 : BitVec 32 := 16#32
  let v558 : BitVec 32 := Scalar.muli v557 c16_i32_354
  let c0_i32_967 : BitVec 32 := 0#32
  ![v558.toNat, 0]
def k0_dev43 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_352 : BitVec 32 := 13#32
  let v556 : BitVec 32 := Scalar.addi v2 c13_i32_352
  let c16_i32_353 : BitVec 32 := 16#32
  let v557 : BitVec 32 := Scalar.remsi v556 c16_i32_353
  let c1_i32_963 : BitVec 32 := 1#32
  let v1278 : BitVec 32 := Scalar.muli v557 c1_i32_963
  let v1279 : BitVec 32 := Scalar.addi c0_i32_964 v1278
  v1279.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_358 : BitVec 32 := 14#32
  let v562 : BitVec 32 := Scalar.addi v2 c14_i32_358
  let c16_i32_359 : BitVec 32 := 16#32
  let v563 : BitVec 32 := Scalar.remsi v562 c16_i32_359
  let c8_i32_361 : BitVec 32 := 8#32
  let v565 : BitVec 1 := Scalar.cmpi .sge v563 c8_i32_361
  let v566 : BitVec 32 := Scalar.extui v565
  let c0_i32_363 : BitVec 32 := 0#32
  let v567 : BitVec 1 := Scalar.cmpi .ne v566 c0_i32_363
  v567

def k0_off85 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off87 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_358 : BitVec 32 := 14#32
  let v562 : BitVec 32 := Scalar.addi v2 c14_i32_358
  let c16_i32_359 : BitVec 32 := 16#32
  let v563 : BitVec 32 := Scalar.remsi v562 c16_i32_359
  let c16_i32_360 : BitVec 32 := 16#32
  let v564 : BitVec 32 := Scalar.muli v563 c16_i32_360
  let c0_i32_967 : BitVec 32 := 0#32
  ![v564.toNat, 0]
def k0_dev44 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_358 : BitVec 32 := 14#32
  let v562 : BitVec 32 := Scalar.addi v2 c14_i32_358
  let c16_i32_359 : BitVec 32 := 16#32
  let v563 : BitVec 32 := Scalar.remsi v562 c16_i32_359
  let c1_i32_963 : BitVec 32 := 1#32
  let v1278 : BitVec 32 := Scalar.muli v563 c1_i32_963
  let v1279 : BitVec 32 := Scalar.addi c0_i32_964 v1278
  v1279.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_364 : BitVec 32 := 15#32
  let v568 : BitVec 32 := Scalar.addi v2 c15_i32_364
  let c16_i32_365 : BitVec 32 := 16#32
  let v569 : BitVec 32 := Scalar.remsi v568 c16_i32_365
  let c8_i32_367 : BitVec 32 := 8#32
  let v571 : BitVec 1 := Scalar.cmpi .sge v569 c8_i32_367
  let v572 : BitVec 32 := Scalar.extui v571
  let c0_i32_369 : BitVec 32 := 0#32
  let v573 : BitVec 1 := Scalar.cmpi .ne v572 c0_i32_369
  v573

def k0_off88 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off89 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_965 : BitVec 32 := 0#32
  let c0_i32_966 : BitVec 32 := 0#32
  ![v2.toNat, 0, 0]
def k0_off90 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_364 : BitVec 32 := 15#32
  let v568 : BitVec 32 := Scalar.addi v2 c15_i32_364
  let c16_i32_365 : BitVec 32 := 16#32
  let v569 : BitVec 32 := Scalar.remsi v568 c16_i32_365
  let c16_i32_366 : BitVec 32 := 16#32
  let v570 : BitVec 32 := Scalar.muli v569 c16_i32_366
  let c0_i32_967 : BitVec 32 := 0#32
  ![v570.toNat, 0]
def k0_dev45 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_364 : BitVec 32 := 15#32
  let v568 : BitVec 32 := Scalar.addi v2 c15_i32_364
  let c16_i32_365 : BitVec 32 := 16#32
  let v569 : BitVec 32 := Scalar.remsi v568 c16_i32_365
  let c1_i32_963 : BitVec 32 := 1#32
  let v1278 : BitVec 32 := Scalar.muli v569 c1_i32_963
  let v1279 : BitVec 32 := Scalar.addi c0_i32_964 v1278
  v1279.toNat
def k0_off91 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_370 : BitVec 32 := 16#32
  let v574 : BitVec 32 := Scalar.muli v2 c16_i32_370
  let v575 : Index := Scalar.indexCast v574
  let c0_371 : Index := 0#32
  ![v575.toNat, 0]
def k0_off92 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v578 : Index := Scalar.indexCast v2
  let c0_372 : Index := 0#32
  let c0_373 : Index := 0#32
  ![v578.toNat, 0, 0]
def k0_off93 (d0 : Dev nD) (c1_i32_376 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v585 : BitVec 32 := Scalar.addi v2 c1_i32_376
  let c16_i32_377 : BitVec 32 := 16#32
  let v586 : BitVec 32 := Scalar.remsi v585 c16_i32_377
  ![v586.toNat]
def k0_off94 (d0 : Dev nD) (c1_i32_376 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v585 : BitVec 32 := Scalar.addi v2 c1_i32_376
  let c16_i32_377 : BitVec 32 := 16#32
  let v586 : BitVec 32 := Scalar.remsi v585 c16_i32_377
  let c0_i32_382 : BitVec 32 := 0#32
  let c0_i32_383 : BitVec 32 := 0#32
  ![v586.toNat, 0, 0]
def k0_off95 (d0 : Dev nD) (c1_i32_376 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v585 : BitVec 32 := Scalar.addi v2 c1_i32_376
  let c16_i32_377 : BitVec 32 := 16#32
  let v586 : BitVec 32 := Scalar.remsi v585 c16_i32_377
  let c16_i32_378 : BitVec 32 := 16#32
  let v587 : BitVec 32 := Scalar.muli v586 c16_i32_378
  let c0_i32_384 : BitVec 32 := 0#32
  ![v587.toNat, 0]
def k0_off96 (d0 : Dev nD) (c1_i32_376 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v585 : BitVec 32 := Scalar.addi v2 c1_i32_376
  let c16_i32_377 : BitVec 32 := 16#32
  let v586 : BitVec 32 := Scalar.remsi v585 c16_i32_377
  let v595 : Index := Scalar.indexCast v586
  let c0_385 : Index := 0#32
  let c0_386 : Index := 0#32
  ![v595.toNat, 0, 0]
def k0_off97 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off98 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_541 : BitVec 32 := 16#32
  let v795 : BitVec 32 := Scalar.muli v2 c16_i32_541
  let c0_i32_548 : BitVec 32 := 0#32
  ![v795.toNat, 0]
def k0_dev46 (d0 : Dev nD) : Nat :=
  let c0_i32_547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_543 : BitVec 32 := 1#32
  let v798 : BitVec 32 := Scalar.addi v2 c1_i32_543
  let c16_i32_544 : BitVec 32 := 16#32
  let v799 : BitVec 32 := Scalar.remsi v798 c16_i32_544
  let c1_i32_546 : BitVec 32 := 1#32
  let v800 : BitVec 32 := Scalar.muli v799 c1_i32_546
  let v801 : BitVec 32 := Scalar.addi c0_i32_547 v800
  v801.toNat
def k0_dev47 (d0 : Dev nD) : Nat :=
  let c0_i32_554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_550 : BitVec 32 := 2#32
  let v808 : BitVec 32 := Scalar.addi v2 c2_i32_550
  let c16_i32_551 : BitVec 32 := 16#32
  let v809 : BitVec 32 := Scalar.remsi v808 c16_i32_551
  let c1_i32_553 : BitVec 32 := 1#32
  let v810 : BitVec 32 := Scalar.muli v809 c1_i32_553
  let v811 : BitVec 32 := Scalar.addi c0_i32_554 v810
  v811.toNat
def k0_dev48 (d0 : Dev nD) : Nat :=
  let c0_i32_561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_557 : BitVec 32 := 3#32
  let v818 : BitVec 32 := Scalar.addi v2 c3_i32_557
  let c16_i32_558 : BitVec 32 := 16#32
  let v819 : BitVec 32 := Scalar.remsi v818 c16_i32_558
  let c1_i32_560 : BitVec 32 := 1#32
  let v820 : BitVec 32 := Scalar.muli v819 c1_i32_560
  let v821 : BitVec 32 := Scalar.addi c0_i32_561 v820
  v821.toNat
def k0_dev49 (d0 : Dev nD) : Nat :=
  let c0_i32_568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_564 : BitVec 32 := 4#32
  let v828 : BitVec 32 := Scalar.addi v2 c4_i32_564
  let c16_i32_565 : BitVec 32 := 16#32
  let v829 : BitVec 32 := Scalar.remsi v828 c16_i32_565
  let c1_i32_567 : BitVec 32 := 1#32
  let v830 : BitVec 32 := Scalar.muli v829 c1_i32_567
  let v831 : BitVec 32 := Scalar.addi c0_i32_568 v830
  v831.toNat
def k0_dev50 (d0 : Dev nD) : Nat :=
  let c0_i32_575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_571 : BitVec 32 := 5#32
  let v838 : BitVec 32 := Scalar.addi v2 c5_i32_571
  let c16_i32_572 : BitVec 32 := 16#32
  let v839 : BitVec 32 := Scalar.remsi v838 c16_i32_572
  let c1_i32_574 : BitVec 32 := 1#32
  let v840 : BitVec 32 := Scalar.muli v839 c1_i32_574
  let v841 : BitVec 32 := Scalar.addi c0_i32_575 v840
  v841.toNat
def k0_dev51 (d0 : Dev nD) : Nat :=
  let c0_i32_582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_578 : BitVec 32 := 6#32
  let v848 : BitVec 32 := Scalar.addi v2 c6_i32_578
  let c16_i32_579 : BitVec 32 := 16#32
  let v849 : BitVec 32 := Scalar.remsi v848 c16_i32_579
  let c1_i32_581 : BitVec 32 := 1#32
  let v850 : BitVec 32 := Scalar.muli v849 c1_i32_581
  let v851 : BitVec 32 := Scalar.addi c0_i32_582 v850
  v851.toNat
def k0_dev52 (d0 : Dev nD) : Nat :=
  let c0_i32_589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_585 : BitVec 32 := 7#32
  let v858 : BitVec 32 := Scalar.addi v2 c7_i32_585
  let c16_i32_586 : BitVec 32 := 16#32
  let v859 : BitVec 32 := Scalar.remsi v858 c16_i32_586
  let c1_i32_588 : BitVec 32 := 1#32
  let v860 : BitVec 32 := Scalar.muli v859 c1_i32_588
  let v861 : BitVec 32 := Scalar.addi c0_i32_589 v860
  v861.toNat
def k0_dev53 (d0 : Dev nD) : Nat :=
  let c0_i32_596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_592 : BitVec 32 := 8#32
  let v868 : BitVec 32 := Scalar.addi v2 c8_i32_592
  let c16_i32_593 : BitVec 32 := 16#32
  let v869 : BitVec 32 := Scalar.remsi v868 c16_i32_593
  let c1_i32_595 : BitVec 32 := 1#32
  let v870 : BitVec 32 := Scalar.muli v869 c1_i32_595
  let v871 : BitVec 32 := Scalar.addi c0_i32_596 v870
  v871.toNat
def k0_dev54 (d0 : Dev nD) : Nat :=
  let c0_i32_603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_599 : BitVec 32 := 9#32
  let v878 : BitVec 32 := Scalar.addi v2 c9_i32_599
  let c16_i32_600 : BitVec 32 := 16#32
  let v879 : BitVec 32 := Scalar.remsi v878 c16_i32_600
  let c1_i32_602 : BitVec 32 := 1#32
  let v880 : BitVec 32 := Scalar.muli v879 c1_i32_602
  let v881 : BitVec 32 := Scalar.addi c0_i32_603 v880
  v881.toNat
def k0_dev55 (d0 : Dev nD) : Nat :=
  let c0_i32_610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_606 : BitVec 32 := 10#32
  let v888 : BitVec 32 := Scalar.addi v2 c10_i32_606
  let c16_i32_607 : BitVec 32 := 16#32
  let v889 : BitVec 32 := Scalar.remsi v888 c16_i32_607
  let c1_i32_609 : BitVec 32 := 1#32
  let v890 : BitVec 32 := Scalar.muli v889 c1_i32_609
  let v891 : BitVec 32 := Scalar.addi c0_i32_610 v890
  v891.toNat
def k0_dev56 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_613 : BitVec 32 := 11#32
  let v898 : BitVec 32 := Scalar.addi v2 c11_i32_613
  let c16_i32_614 : BitVec 32 := 16#32
  let v899 : BitVec 32 := Scalar.remsi v898 c16_i32_614
  let c1_i32_616 : BitVec 32 := 1#32
  let v900 : BitVec 32 := Scalar.muli v899 c1_i32_616
  let v901 : BitVec 32 := Scalar.addi c0_i32_617 v900
  v901.toNat
def k0_dev57 (d0 : Dev nD) : Nat :=
  let c0_i32_624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_620 : BitVec 32 := 12#32
  let v908 : BitVec 32 := Scalar.addi v2 c12_i32_620
  let c16_i32_621 : BitVec 32 := 16#32
  let v909 : BitVec 32 := Scalar.remsi v908 c16_i32_621
  let c1_i32_623 : BitVec 32 := 1#32
  let v910 : BitVec 32 := Scalar.muli v909 c1_i32_623
  let v911 : BitVec 32 := Scalar.addi c0_i32_624 v910
  v911.toNat
def k0_dev58 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_627 : BitVec 32 := 13#32
  let v918 : BitVec 32 := Scalar.addi v2 c13_i32_627
  let c16_i32_628 : BitVec 32 := 16#32
  let v919 : BitVec 32 := Scalar.remsi v918 c16_i32_628
  let c1_i32_630 : BitVec 32 := 1#32
  let v920 : BitVec 32 := Scalar.muli v919 c1_i32_630
  let v921 : BitVec 32 := Scalar.addi c0_i32_631 v920
  v921.toNat
def k0_dev59 (d0 : Dev nD) : Nat :=
  let c0_i32_638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_634 : BitVec 32 := 14#32
  let v928 : BitVec 32 := Scalar.addi v2 c14_i32_634
  let c16_i32_635 : BitVec 32 := 16#32
  let v929 : BitVec 32 := Scalar.remsi v928 c16_i32_635
  let c1_i32_637 : BitVec 32 := 1#32
  let v930 : BitVec 32 := Scalar.muli v929 c1_i32_637
  let v931 : BitVec 32 := Scalar.addi c0_i32_638 v930
  v931.toNat
def k0_dev60 (d0 : Dev nD) : Nat :=
  let c0_i32_645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_641 : BitVec 32 := 15#32
  let v938 : BitVec 32 := Scalar.addi v2 c15_i32_641
  let c16_i32_642 : BitVec 32 := 16#32
  let v939 : BitVec 32 := Scalar.remsi v938 c16_i32_642
  let c1_i32_644 : BitVec 32 := 1#32
  let v940 : BitVec 32 := Scalar.muli v939 c1_i32_644
  let v941 : BitVec 32 := Scalar.addi c0_i32_645 v940
  v941.toNat
def k0_off99 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_789 : BitVec 32 := 0#32
  let c0_i32_790 : BitVec 32 := 0#32
  ![v2.toNat, 0, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S8192x512 : Shape := ⟨2, ![8192, 512]⟩
abbrev S2x128x8192 : Shape := ⟨3, ![2, 128, 8192]⟩
abbrev S2x128x128x64 : Shape := ⟨4, ![2, 128, 128, 64]⟩
abbrev S2x128x128x128 : Shape := ⟨4, ![2, 128, 128, 128]⟩
abbrev S_ : Shape := ⟨0, ![]⟩
abbrev S2x128x128 : Shape := ⟨3, ![2, 128, 128]⟩
abbrev S2x128x128x1 : Shape := ⟨4, ![2, 128, 128, 1]⟩
abbrev S2x128x64x128 : Shape := ⟨4, ![2, 128, 64, 128]⟩
abbrev S256x512 : Shape := ⟨2, ![256, 512]⟩

abbrev nBuf : Space → Nat
  | .hbm => 32
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x8192, .f32⟩
  | .hbm, ⟨2, _⟩ => ⟨S512x8192, .f32⟩
  | .hbm, ⟨3, _⟩ => ⟨S512x8192, .f32⟩
  | .hbm, ⟨4, _⟩ => ⟨S8192x512, .f32⟩
  | .hbm, ⟨5, _⟩ => ⟨S2x128x8192, .f32⟩
  | .hbm, ⟨6, _⟩ => ⟨S2x128x128x64, .f32⟩
  | .hbm, ⟨7, _⟩ => ⟨S2x128x8192, .f32⟩
  | .hbm, ⟨8, _⟩ => ⟨S2x128x128x64, .f32⟩
  | .hbm, ⟨9, _⟩ => ⟨S2x128x8192, .f32⟩
  | .hbm, ⟨10, _⟩ => ⟨S2x128x128x64, .f32⟩
  | .hbm, ⟨11, _⟩ => ⟨S2x128x128x128, .f32⟩
  | .hbm, ⟨12, _⟩ => ⟨S_, .f32⟩
  | .hbm, ⟨13, _⟩ => ⟨S2x128x128x128, .f32⟩
  | .hbm, ⟨14, _⟩ => ⟨S2x128x128x128, .f32⟩
  | .hbm, ⟨15, _⟩ => ⟨S_, .f32⟩
  | .hbm, ⟨16, _⟩ => ⟨S2x128x128, .f32⟩
  | .hbm, ⟨17, _⟩ => ⟨S2x128x128x1, .f32⟩
  | .hbm, ⟨18, _⟩ => ⟨S2x128x128x128, .f32⟩
  | .hbm, ⟨19, _⟩ => ⟨S2x128x128x128, .f32⟩
  | .hbm, ⟨20, _⟩ => ⟨S2x128x128x128, .f32⟩
  | .hbm, ⟨21, _⟩ => ⟨S_, .f32⟩
  | .hbm, ⟨22, _⟩ => ⟨S2x128x128, .f32⟩
  | .hbm, ⟨23, _⟩ => ⟨S2x128x128x1, .f32⟩
  | .hbm, ⟨24, _⟩ => ⟨S2x128x64x128, .f32⟩
  | .hbm, ⟨25, _⟩ => ⟨S2x128x128x64, .f32⟩
  | .hbm, ⟨26, _⟩ => ⟨S2x128x128x1, .f32⟩
  | .hbm, ⟨27, _⟩ => ⟨S2x128x128x64, .f32⟩
  | .hbm, ⟨28, _⟩ => ⟨S2x128x128x64, .f32⟩
  | .hbm, ⟨29, _⟩ => ⟨S2x128x8192, .f32⟩
  | .hbm, ⟨30, _⟩ => ⟨S2x128x512, .f32⟩
  | .hbm, ⟨31, _⟩ => ⟨S256x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.KernelIdeal.Protocol.lean ====
/-
The protocol of the sixteen devices: the ring's names, the buffers' row blocks, the cells and the schedule of
their one round — who pays which cell, how much, and what it hands over with it.

Every device signals every other one at the barrier (handing it the slot of its receive buffer and the row block of its
result the other will write), sends every other device the row block of its partial product which that device
reduces, and sends every other device the row block it has reduced.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Memref
public import Idealize.ShloMosaic.Lib.ShareLeaves

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's copy and the mesh's, whose duties are named by the paying device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of devices -/

set_option backward.proofsInPublic true in
/-- The device `d` places after `c`. -/
def peer (c : Dev nD) (d : ℕ) : Dev nD := ⟨(c.val + d) % 16, Nat.mod_lt _ (by decide)⟩

/-- How many places after `c` the device `t` stands, counted from one: `c` itself stands sixteen places after itself. -/
def dist (c t : Dev nD) : ℕ := (t.val + 15 - c.val) % 16 + 1

/-- The device `n + 1` places after `c` stands that many places after it. -/
theorem dist_peer (c : Dev nD) (n : Fin 15) : dist c (peer c (n.val + 1)) = n.val + 1 := by revert c n; decide
/-- A device stands sixteen places after itself. -/
theorem dist_self (c : Dev nD) : dist c c = 16 := by revert c; decide
/-- The device as many places after `c` as `t` stands after `c` is `t`. -/
theorem peer_dist (c t : Dev nD) : peer c (dist c t) = t := by revert c t; decide
/-- No device stands more than sixteen places after another. -/
theorem dist_le (c t : Dev nD) : dist c t ≤ 16 := by revert c t; decide
/-- Every device stands at least one place after any other. -/
theorem dist_pos (c t : Dev nD) : 0 < dist c t := Nat.succ_pos _
/-- The fifteen devices after `c` are not `c`. -/
theorem peer_ne (c : Dev nD) (n : Fin 15) : peer c (n.val + 1) ≠ c := by revert c n; decide
/-- Only `c` itself stands sixteen places after `c`. -/
theorem dist_eq_iff (c t : Dev nD) : dist c t = 16 ↔ t = c := by revert c t; decide

/-! ## Buffers, row blocks, slots -/

abbrev outM : Memref sig .tc .vmem S256x512 .f32 := Memref.whole cc0_stg5_0
abbrev attM : Memref sig .tc .vmem S256x512 .f32 := Memref.whole cc0_scratch0
abbrev parM : Memref sig .tc .vmem S256x512 .f32 := Memref.whole cc0_scratch1
abbrev rsM : Memref sig .tc .vmem S16x16x512 .f32 := Memref.whole cc0_scratch2

/-- Row block `t` lies within the 256 rows. -/
theorem row_inb (t : Dev nD) : ∀ a, (![16 * t.val, 0] : Fin 2 → ℕ) a + S16x512.size a ≤ S256x512.size a := by revert t; decide
/-- Slot `t` lies within the sixteen slots of the receive buffer. -/
theorem slot_inb (t : Dev nD) : ∀ a, (![t.val, 0, 0] : Fin 3 → ℕ) a + S1x16x512.size a ≤ S16x16x512.size a := by revert t; decide

/-- The rectangle of the sixteen rows from row `16 t`. -/
abbrev rowR (t : Dev nD) : Rect S256x512 := Rect.unit (s := S256x512) ![16 * t.val, 0] S16x512.size (row_inb t)
/-- The rectangle of slot `t` of the receive buffer. -/
abbrev slotR (t : Dev nD) : Rect S16x16x512 := Rect.unit (s := S16x16x512) ![t.val, 0, 0] S1x16x512.size (slot_inb t)
/-- Row block `t` of a buffer of 256 rows. -/
abbrev rowM (b : Memref sig .tc .vmem S256x512 .f32) (t : Dev nD) : Memref sig .tc .vmem S16x512 .f32 :=
  b.slice (rowR t) (fun _ => rfl)
/-- Slot `t` of the receive buffer, as a matrix. -/
abbrev slotM (t : Dev nD) : Memref sig .tc .vmem S16x512 .f32 :=
  (rsM.slice (slotR t) (fun _ => rfl)).squeeze S16x512 squeezes_S1x16x512_S16x512

/-! ## Cells -/

/-- The runtime's barrier semaphore of collective id 0. -/
abbrev barS : Sem sig := (SemArray.scalar (sig.barrier 0 rfl) : Sems sig S_).sem

/-- Semaphore `i` of the kernel's array `a`: 0 the sends of the partial products, 1 their receipts, 2 the sends of the
    reduced rows, 3 their receipts. -/
def dsem (a : Fin 4) (i : Fin 16) : DmaSem sig := ⟨6 + (16 * a.val + i.val), by have := a.isLt; have := i.isLt; show _ < 70; omega⟩

/-- The cells of a device: the barrier (`none`), and the four arrays' semaphores. -/
abbrev Kind := Option (Fin 4 × Fin 16)

/-- The semaphore of a cell. -/
def semOf : Kind → SemLoc sig
  | none => .reg barS
  | some (a, i) => .dma (dsem a i)

/-- The cell a semaphore is, if it is one of the protocol's. -/
def kindOf : SemLoc sig → Option Kind
  | .reg _ => some none
  | .dma n => if h : 6 ≤ n.val then some (some (⟨(n.val - 6) / 16, by have := n.isLt; have : n.val < 70 := this; omega⟩, ⟨(n.val - 6) % 16, Nat.mod_lt _ (by decide)⟩)) else none

/-- A semaphore's kind can be read back from the semaphore. -/
theorem kindOf_semOf (k : Kind) : kindOf (semOf k) = some k := by
  rcases k with _ | ⟨a, i⟩
  · rfl
  · show (if h : 6 ≤ (dsem a i).val then _ else _) = _
    have ha := a.isLt; have hi := i.isLt
    rw [dif_pos (by show 6 ≤ 6 + _; omega)]
    refine congrArg (fun x => some (some x)) (Prod.ext (Fin.ext ?_) (Fin.ext ?_))
    · show (6 + (16 * a.val + i.val) - 6) / 16 = a.val; omega
    · show (6 + (16 * a.val + i.val) - 6) % 16 = i.val; omega

/-- Different kinds are different semaphores. -/
theorem semOf_injective : Function.Injective semOf := fun k k' h => by
  have := congrArg kindOf h; rw [kindOf_semOf, kindOf_semOf] at this; exact Option.some.inj this

/-- Cell `k` of device `c`. -/
abbrev kcell (ck : Dev nD × Kind) : GSem nD τ sig := ((ck.1 : Thread nD τ), semOf ck.2)

abbrev barC (c : Dev nD) : GSem nD τ sig := kcell (c, none)
/-- Device `c`'s semaphore for its send to the device `d` places on. -/
abbrev ssC (c : Dev nD) (d : Fin 16) : GSem nD τ sig := kcell (c, some (0, d))
/-- Device `t`'s semaphore for the receipt from device `s`. -/
abbrev rvC (t : Dev nD) (s : Dev nD) : GSem nD τ sig := kcell (t, some (1, s))
abbrev gsC (c : Dev nD) (d : Fin 16) : GSem nD τ sig := kcell (c, some (2, d))
abbrev gvC (t : Dev nD) (s : Dev nD) : GSem nD τ sig := kcell (t, some (3, s))

/-- Different devices and kinds are different cells. -/
theorem kcell_injective : Function.Injective (kcell : Dev nD × Kind → GSem nD τ sig) := by
  rintro ⟨c, k⟩ ⟨c', k'⟩ h
  have h1 : c = c' := congrArg (fun g : GSem nD τ sig => g.1.1) h
  have h2 : k = k' := semOf_injective (congrArg Prod.snd h)
  rw [h1, h2]

/-- The credit of one block of sixteen rows. -/
abbrev N : ℕ := (slotM 0).view.dmaCredit
/-- A transfer of one row block credits a positive amount. -/
theorem N_pos : 0 < N := View.dmaCredit_pos _ (by decide)

end Cert.KernelIdealProof
-- ==== Proof.KernelIdeal.Values.lean ====
/-
What the sixteen devices compute, as functions of the memory at launch: the heads of a device, its attention rows, its
partial product, the sum of the partial products over the devices in the order a device adds them, and the result.
-/
module

public import proofs.«01_k».proof.Proof.KernelIdeal.Protocol
public import Idealize.ShloMosaic.Lib.ValueIdxCore

@[expose] public section

noncomputable section

namespace Cert.KernelIdealProof

open Cert.KernelIdeal Cert.KernelIdeal.Gen

open Idealize.ShloMosaic
open Idealize.ShloMosaic.TcCoe
open Idealize.ShloMosaic.ValueIdx (ix2 idx2_lt0 idx2_lt1)

variable {F : FTy → Type} [FloatOps F]
variable (m : (ℓ : Loc nD τ sig) → Buf (Elt F) ℓ)

/-! ## One head -/

/-- Each head of each batch entry lies within the 256 × 512 array. -/
theorem head_slices (b : Fin 2) (h : Fin 8) : S256x512.Slices ![128 * b.val, 64 * h.val] S128x64 := by revert b h; decide

/-- The 128 rows of batch entry `b` and the 64 columns of head `h`, of a 256 × 512 array. -/
def headOf (b : Fin 2) (h : Fin 8) (a : FVec F S256x512 .f32) : FVec F S128x64 .f32 :=
  extractStridedSlice S128x64 ![128 * b.val, 64 * h.val] a (head_slices b h)

/-- The attention of one head from its scaled scores' operands: the scores' rows' exponentials, less each row's largest
    score, times the values, over the rows' sums. -/
def softHead (q k v : FVec F S128x64 .f32) : FVec F S128x64 .f32 :=
  have s : FVec F S128x128 .f32 := mulf (matmul dot_S128x64_S128x64_S128x128_1_1_0_0_n_n none q k (constant S128x128 .f32 0x00000000#32))
    (broadcast S128x128 (Scalar.ofBits .f32 0x3E000000#32 : F .f32))
  have mx : FVec F S128x128 .f32 := broadcastTo S128x128 (shapeCast S128x1
    (multiReduction .maximumf [1] S128 s 0xFF800000#32 reduces_S128x128_S128 (.inl rfl) rfl) shapeCasts_S128_S128x1) broadcasts_S128x1_S128x128
  have p : FVec F S128x128 .f32 := exp (subf s mx)
  have l : FVec F S128x64 .f32 := broadcastTo S128x64 (shapeCast S128x1
    (multiReduction .add [1] S128 p 0x00000000#32 reduces_S128x128_S128 (.inl rfl) rfl) shapeCasts_S128_S128x1) broadcasts_S128x1_S128x64
  have o : FVec F S128x64 .f32 := matmul dot_S128x128_S128x64_S128x64_1_0_0_1_n_n none p v (constant S128x64 .f32 0x00000000#32)
  shapeCast S128x64 (divf o l) shapeCasts_S128x64_S128x64

/-- Head `h` of batch entry `b` of a device whose projections are `q`, `k` and `v`. -/
def headVal (q k v : FVec F S256x512 .f32) (b : Fin 2) (h : Fin 8) : FVec F S128x64 .f32 :=
  softHead (headOf b h q) (headOf b h k) (headOf b h v)

/-! ## A device's partial product -/

def stg0 (c : Dev nD) : (cc0_stg0_0 : Ref sig .tc).ty.Contents (Elt F) := (win0_0.blk (0 : Fin 1)).view.read (Elt F) (m ((c : Thread nD τ).loc main_arg0))
def stg1 (c : Dev nD) : (cc0_stg1_0 : Ref sig .tc).ty.Contents (Elt F) := (win0_1.blk (0 : Fin 1)).view.read (Elt F) (m ((c : Thread nD τ).loc main_arg1))
def stg2 (c : Dev nD) : (cc0_stg2_0 : Ref sig .tc).ty.Contents (Elt F) := (win0_2.blk (0 : Fin 1)).view.read (Elt F) (m ((c : Thread nD τ).loc main_arg2))
def stg3 (c : Dev nD) : (cc0_stg3_0 : Ref sig .tc).ty.Contents (Elt F) := (win0_3.blk (0 : Fin 1)).view.read (Elt F) (m ((c : Thread nD τ).loc main_arg3))
def stg4 (c : Dev nD) : (cc0_stg4_0 : Ref sig .tc).ty.Contents (Elt F) := (win0_4.blk (0 : Fin 1)).view.read (Elt F) (m ((c : Thread nD τ).loc main_arg4))

/-- The query, key and value projections of device `c`. -/
def qv (c : Dev nD) : FVec F S256x512 .f32 := k0_pay2 (stg0 m c) (stg1 m c)
def kv (c : Dev nD) : FVec F S256x512 .f32 := k0_pay3 (stg0 m c) (stg2 m c)
def vv (c : Dev nD) : FVec F S256x512 .f32 := k0_pay4 (k0_pay1 (stg0 m c)) (stg3 m c)

/-- The attention rows of device `c`'s eight heads: both batch entries' rows, the heads side by side. -/
def attV (c : Dev nD) : S256x512.Idx → F .f32 := fun i =>
  headVal (qv m c) (kv m c) (vv m c) ⟨(i 0).val / 128, by have := idx2_lt0 i; omega⟩ ⟨(i 1).val / 64, by have := idx2_lt1 i; omega⟩
    (ix2 ⟨(i 0).val % 128, Nat.mod_lt _ (by decide)⟩ ⟨(i 1).val % 64, Nat.mod_lt _ (by decide)⟩)

/-- The rows of each batch entry lie within the 256 rows. -/
theorem half_inb (b : Fin 2) : ∀ a, (![128 * b.val, 0] : Fin 2 → ℕ) a + S128x512.size a ≤ S256x512.size a := by revert b; decide
/-- The rectangle of the 128 rows of batch entry `b`. -/
abbrev halfR (b : Fin 2) : Rect S256x512 := Rect.unit (s := S256x512) ![128 * b.val, 0] S128x512.size (half_inb b)

/-- Batch entry `b`'s attention rows. -/
def attB (c : Dev nD) (b : Fin 2) : FVec F S128x512 .f32 := fun j => attV m c ((halfR b).emb j)

/-- Device `c`'s partial product: its attention rows times its rows of the output projection. -/
def parV (c : Dev nD) : S256x512.Idx → F .f32 := fun i =>
  k0_pay33 (attB m c ⟨(i 0).val / 128, by have := idx2_lt0 i; omega⟩) (stg4 m c) (ix2 ⟨(i 0).val % 128, Nat.mod_lt _ (by decide)⟩ (i 1))

/-- Row block `t` of device `s`'s partial product. -/
def parB (s t : Dev nD) : FVec F S16x512 .f32 := fun j => parV m s ((rowR t).emb j)

/-! ## The sum over the devices -/

/-- Row block `c` summed over device `c` and the `n` devices after it, in the order device `c` adds them. -/
def accV (c : Dev nD) : ℕ → FVec F S16x512 .f32
  | 0 => parB m c c
  | n + 1 => addf (accV c n) (parB m (peer c (n + 1)) c)

/-- Row block `c` of the result. -/
def redB (c : Dev nD) : FVec F S16x512 .f32 := accV m c 15

/-- The result, the same on every device. -/
def outV : S256x512.Idx → F .f32 := fun i =>
  redB m ⟨(i 0).val / 16, by have := idx2_lt0 i; show _ < 16; omega⟩ (ix2 ⟨(i 0).val % 16, Nat.mod_lt _ (by decide)⟩ (i 1))

/-- Row block `t` of the result is what device `t` reduced. -/
theorem outV_rowR (t : Dev nD) : (fun j => outV m ((rowR t).emb j)) = redB m t := by
  funext j
  have h0 : ((rowR t).emb j 0).val = 16 * t.val + (j 0).val := by simp [Rect.emb, Rect.unit]
  have h1 : ((rowR t).emb j 1).val = (j 1).val := by simp [Rect.emb, Rect.unit]
  have hj0 := idx2_lt0 j
  unfold outV
  have e0 : (⟨((rowR t).emb j 0).val / 16, by have := idx2_lt0 ((rowR t).emb j); show _ < 16; omega⟩ : Dev nD) = t := Fin.ext (by show _ / 16 = _; rw [h0]; omega)
  rw [e0]
  refine congrArg _ (funext fun a => ?_)
  fin_cases a
  · exact Fin.ext (by show ((rowR t).emb j 0).val % 16 = _; rw [h0]; show _ = (j 0).val; omega)
  · exact Fin.ext h1

/-! ## The printed payloads are these -/

section Pays
variable (q k v : FVec F S256x512 .f32) (x : FVec F S256x512 .f32) (w : Vec F S512x512 .f32)

/-- The stored value is head 0 of batch entry 0. -/
theorem pay5_eq : k0_pay5 x q k w = headVal q k (k0_pay4 x w) 0 0 := rfl
/-- The stored value is head 1 of batch entry 0. -/
theorem pay6_eq : k0_pay6 x q k w = headVal q k (k0_pay4 x w) 0 1 := rfl
/-- The stored value is head 2 of batch entry 0. -/
theorem pay9_eq : k0_pay9 v (k0_pay7 q) (k0_pay8 k) = headVal q k v 0 2 := rfl
/-- The stored value is head 3 of batch entry 0. -/
theorem pay10_eq : k0_pay10 q k v = headVal q k v 0 3 := rfl
/-- The stored value is head 4 of batch entry 0. -/
theorem pay13_eq : k0_pay13 (k0_pay11 v) (k0_pay12 q k) = headVal q k v 0 4 := rfl
/-- The stored value is head 5 of batch entry 0. -/
theorem pay14_eq : k0_pay14 q k v = headVal q k v 0 5 := rfl
/-- The stored value is head 6 of batch entry 0. -/
theorem pay17_eq : k0_pay17 (k0_pay15 v) (k0_pay16 q k) = headVal q k v 0 6 := rfl
/-- The stored value is head 7 of batch entry 0. -/
theorem pay18_eq : k0_pay18 q k v = headVal q k v 0 7 := rfl
/-- The stored value is head 0 of batch entry 1. -/
theorem pay20_eq : k0_pay20 q k v = headVal q k v 1 0 := rfl
/-- The stored value is head 1 of batch entry 1. -/
theorem pay22_eq : k0_pay22 (k0_pay21 q k v) = headVal q k v 1 1 := rfl
/-- The stored value is head 2 of batch entry 1. -/
theorem pay23_eq : k0_pay23 q k v = headVal q k v 1 2 := rfl
/-- The stored value is head 3 of batch entry 1. -/
theorem pay24_eq : k0_pay24 q k v = headVal q k v 1 3 := rfl
/-- The stored value is head 4 of batch entry 1. -/
theorem pay27_eq : k0_pay27 v (k0_pay25 q) (k0_pay26 k) = headVal q k v 1 4 := rfl
/-- The stored value is head 5 of batch entry 1. -/
theorem pay28_eq : k0_pay28 q k v = headVal q k v 1 5 := rfl
/-- The stored value is head 6 of batch entry 1. -/
theorem pay31_eq : k0_pay31 (k0_pay29 v) (k0_pay30 q k) = headVal q k v 1 6 := rfl
/-- The stored value is head 7 of batch entry 1. -/
theorem pay32_eq : k0_pay32 q k v = headVal q k v 1 7 := rfl
/-- Both batch entries are multiplied by the output projection alike. -/
theorem pay19_eq (a : Vec F S128x512 .f32) : k0_pay19 a w = k0_pay33 a w := rfl

end Pays

end Cert.KernelIdealProof
-- ==== Proof.KernelIdeal.Schedule.lean ====
/-
The schedule of the devices' one round: the duties of each cell, their amounts and payloads; what a device owes at each
moment; the levels that order the waits.
-/
module

public import proofs.«01_k».proof.Proof.KernelIdeal.Values

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Payloads -/

/-- A block of sixteen rows on device `t`, read as `X`. -/
abbrev blk (t : Dev nD) (b : Memref sig .tc .vmem S16x512 .f32) (q : PosShare TreeShare) (X : FVec F S16x512 .f32) : sProp 𝕄 :=
  owns (t : Thread nD τ) b q X

/-- A block of sixteen rows on device `t`, its contents not named. -/
def blkAny (t : Dev nD) (b : Memref sig .tc .vmem S16x512 .f32) : sProp 𝕄 := iprop(∃ X, blk t b fullShare X)

instance blkAny_storable (t : Dev nD) (b) : BI.Storable (upEmb : UEmb _ 𝕄) (blkAny (F := F) t b) := by unfold blkAny; infer_instance

/-- The share of its reduced rows a device lends to its transfer to device `t`. -/
abbrev lent (t : Dev nD) : PosShare TreeShare := ShareLeaves.leaf 4 fullShare t

/-- What duty `s` of cell `k` of device `t` hands over. The barrier's: device `s`'s receive slot and result rows for `t`.
    A send's: the source back. A receipt's: the destination, holding what was sent. -/
def kpay (t : Dev nD) (k : Kind) (s : Dev nD) : sProp 𝕄 := match k with
  | none => iprop(blkAny s (slotM t) ∗ blkAny s (rowM outM t))
  | some (a, i) => match a with
    | 0 => blk t (rowM parM (peer t i.val)) fullShare (parB m t (peer t i.val))
    | 1 => blk t (slotM i) fullShare (parB m i t)
    | 2 => blk t (rowM outM t) (lent (peer t i.val)) (redB m t)
    | 3 => blk t (rowM outM i) fullShare (redB m i)

instance kpay_storable (t : Dev nD) (k : Kind) (s : Dev nD) : BI.Storable (upEmb : UEmb _ 𝕄) (kpay (F := F) m t k s) := by
  unfold kpay blk
  split
  · infer_instance
  · split <;> infer_instance

/-- Who pays cell `k` of device `t`. -/
def kduties (t : Dev nD) (k : Kind) : Finset (Dev nD) := match k with
  | none => Finset.univ.erase t
  | some (a, i) => match a with
    | 0 => if i = 0 then ∅ else {t}
    | 1 => if i = t then ∅ else {i}
    | 2 => if i = 0 then ∅ else {t}
    | 3 => if i = t then ∅ else {i}

/-- The units one duty pays. -/
def kamount (k : Kind) : ℕ := match k with
  | none => 1
  | some _ => N

/-- Every cell is paid in positive amounts. -/
theorem kamount_pos (k : Kind) : 0 < kamount k := by
  unfold kamount; split
  · exact Nat.one_pos
  · exact N_pos

/-- One round, round 0, on every cell. -/
def sched : Rounds.Schedule (GSem nD τ sig) (Dev nD) 𝕄 where
  duties g r := if r = 0 then (match kindOf g.2 with | none => ∅ | some k => kduties g.1.1 k) else ∅
  unitless _ := False
  amount g _ _ := match kindOf g.2 with | none => 1 | some k => kamount k
  payload g _ d := match kindOf g.2 with | none => iprop(emp) | some k => kpay m g.1.1 k d
  amount_pos g _ _ _ := by
    split
    · exact Nat.one_pos
    · exact kamount_pos _

instance sched_storable (g : GSem nD τ sig) (r : ℕ) (d : Dev nD) : BI.Storable (upEmb : UEmb _ 𝕄) ((sched (F := F) m).payload g r d) := by
  show BI.Storable upEmb (match kindOf g.2 with | none => iprop(emp) | some k => kpay m g.1.1 k d)
  split <;> infer_instance

/-- Who pays a cell in its one round. -/
theorem duties_cell (t : Dev nD) (k : Kind) : (sched (F := F) m).duties (kcell (t, k)) 0 = kduties t k := by
  show (if 0 = 0 then (match kindOf (semOf k) with | none => ∅ | some k => kduties t k) else ∅) = _
  rw [kindOf_semOf]; rfl
/-- No cell is paid after its first round. -/
theorem duties_later (g : GSem nD τ sig) : ∀ r, 1 ≤ r → (sched (F := F) m).duties g r = ∅ := fun r hr => if_neg (by omega)
/-- How much a payer pays a cell. -/
theorem amount_cell (t : Dev nD) (k : Kind) (r : ℕ) (d : Dev nD) : (sched (F := F) m).amount (kcell (t, k)) r d = kamount k := by
  show (match kindOf (semOf k) with | none => 1 | some k => kamount k) = _
  rw [kindOf_semOf]
/-- What a payer hands over with its payment. -/
theorem payload_cell (t : Dev nD) (k : Kind) (r : ℕ) (d : Dev nD) : (sched (F := F) m).payload (kcell (t, k)) r d = kpay m t k d := by
  show (match kindOf (semOf k) with | none => iprop(emp) | some k => kpay m t k d) = _
  rw [kindOf_semOf]

/-- What a cell collects in its round. -/
theorem expect_cell (t : Dev nD) (k : Kind) : (sched (F := F) m).expect (kcell (t, k)) 0 = (kduties t k).card * kamount k := by
  unfold Schedule.expect Schedule.amountOf
  rw [duties_cell, Finset.sum_congr rfl fun d _ => amount_cell m t k 0 d, Finset.sum_const, smul_eq_mul]

/-- A cell nothing pays has no duty in any round. -/
theorem duties_unpaid (t : Dev nD) (k : Kind) (h : kduties t k = ∅) : ∀ r, 0 ≤ r → (sched (F := F) m).duties (kcell (t, k)) r = ∅ := by
  intro r _
  rcases Nat.eq_zero_or_pos r with rfl | hr
  · rw [duties_cell, h]
  · exact duties_later m _ r hr

/-! ## What a device owes -/

/-- How many of the early, and of the late, sends of partial products are issued decides which are still owed to `t`. -/
def half (t : Dev nD) : Fin 2 := ⟨t.val / 8, by have : t.val < 16 := t.isLt; omega⟩

/-- What device `c` still owes device `t`, once `nb` signals, `e b` transfers' turns of half `b` and `ng` transfers of
    reduced rows have passed. -/
def owedT (c : Dev nD) (nb : ℕ) (e : Fin 2 → ℕ) (ng : ℕ) (t : Dev nD) : CellTallies nD τ sig Unit :=
  if t = c then 0 else
    (if dist c t ≤ nb then 0 else tallyAt (barC t) () 1) + (if dist c t ≤ e (half t) then 0 else tallyAt (rvC t c) () N)
      + (if dist c t ≤ ng then 0 else tallyAt (gvC t c) () N)

/-- What device `c` still owes. -/
def owed (c : Dev nD) (nb : ℕ) (e : Fin 2 → ℕ) (ng : ℕ) : CellTallies nD τ sig Unit := ∑ t, owedT c nb e ng t

/-- A sum loses its summand at one device. -/
theorem sum_step (φ ψ : Dev nD → CellTallies nD τ sig Unit) (t : Dev nD) (δ : CellTallies nD τ sig Unit) (h : φ t = ψ t + δ)
    (hne : ∀ u, u ≠ t → φ u = ψ u) : ∑ u, φ u = ∑ u, ψ u + δ := by
  rw [← Finset.add_sum_erase _ φ (Finset.mem_univ t), ← Finset.add_sum_erase _ ψ (Finset.mem_univ t), h,
    Finset.sum_congr rfl fun u hu => hne u (Finset.ne_of_mem_erase hu), add_right_comm]

/-- A device other than the next one is as far within the first `n` places as within the first `n + 1`. -/
theorem dist_ne {c t : Dev nD} {n : Fin 15} (h : t ≠ peer c (n.val + 1)) : dist c t ≤ n.val ↔ dist c t ≤ n.val + 1 := by
  revert c t n; decide

/-- Signalling the next device takes one unit at its barrier off what is owed. -/
theorem owed_bar (c : Dev nD) (n : Fin 15) (e : Fin 2 → ℕ) (ng : ℕ) :
    owed c n.val e ng = owed c (n.val + 1) e ng + tallyAt (barC (peer c (n.val + 1))) () 1 := by
  refine sum_step _ _ (peer c (n.val + 1)) _ ?_ fun u hu => ?_
  · unfold owedT
    rw [if_neg (peer_ne c n), if_neg (peer_ne c n), dist_peer, if_neg (by omega), if_pos (Nat.le_refl _), zero_add, add_right_comm, add_comm, ← add_assoc,
      add_right_comm, add_comm _ (tallyAt (barC _) () 1), ← add_assoc, add_assoc]
  · unfold owedT; simp only [dist_ne hu]

/-- Sending the next device its row block of the partial product takes that transfer off what is owed. -/
theorem owed_rv (c : Dev nD) (n : Fin 15) (b : Fin 2) (hb : half (peer c (n.val + 1)) = b) (nb : ℕ) (e : Fin 2 → ℕ) (he : e b = n.val) (ng : ℕ) :
    owed c nb e ng = owed c nb (Function.update e b (n.val + 1)) ng + tallyAt (rvC (peer c (n.val + 1)) c) () N := by
  refine sum_step _ _ (peer c (n.val + 1)) _ ?_ fun u hu => ?_
  · unfold owedT
    rw [if_neg (peer_ne c n), if_neg (peer_ne c n), dist_peer, hb, he, Function.update_self, if_neg (Nat.not_succ_le_self n.val), if_pos (Nat.le_refl _), add_zero,
      add_right_comm]
  · unfold owedT
    by_cases h : half u = b
    · simp only [h, Function.update_self, he, dist_ne hu]
    · simp only [Function.update_of_ne h]

/-- Sending the next device the reduced row block takes that transfer off what is owed. -/
theorem owed_gv (c : Dev nD) (n : Fin 15) (nb : ℕ) (e : Fin 2 → ℕ) :
    owed c nb e n.val = owed c nb e (n.val + 1) + tallyAt (gvC (peer c (n.val + 1)) c) () N := by
  refine sum_step _ _ (peer c (n.val + 1)) _ ?_ fun u hu => ?_
  · unfold owedT
    rw [if_neg (peer_ne c n), if_neg (peer_ne c n), dist_peer, if_neg (Nat.not_succ_le_self n.val), if_pos (Nat.le_refl _), add_zero]
  · unfold owedT; simp only [dist_ne hu]

/-- A turn that sends nothing leaves what is owed. -/
theorem owed_skip (c : Dev nD) (n : Fin 15) (b : Fin 2) (hb : half (peer c (n.val + 1)) ≠ b) (nb : ℕ) (e : Fin 2 → ℕ) (he : e b = n.val) (ng : ℕ) :
    owed c nb e ng = owed c nb (Function.update e b (n.val + 1)) ng := by
  refine Finset.sum_congr rfl fun u _ => ?_
  unfold owedT
  by_cases h : half u = b
  · have hu : u ≠ peer c (n.val + 1) := fun h' => hb (h' ▸ h)
    simp only [h, Function.update_self, he, dist_ne hu]
  · simp only [Function.update_of_ne h]

/-! ## Levels -/

def L (g : GSem nD τ sig) : Finset Unit := if g.1.2 = .tc then {()} else ∅

/-- Barrier cells at 1, receipts of partial products at 2, receipts of reduced rows at 3, everything else at 0. -/
def klv (k : Option Kind) : ℕ := match k with
  | some none => 1
  | some (some (1, _)) => 2
  | some (some (3, _)) => 3
  | _ => 0
def lv (g : GSem nD τ sig) (_ : Unit) : ℕ := klv (kindOf g.2)

/-- A cell's level is its kind's. -/
theorem lv_cell (t : Dev nD) (k : Kind) : lv (kcell (t, k)) () = klv (some k) := by unfold lv; rw [show (kcell (t, k)).2 = semOf k from rfl, kindOf_semOf]

/-- Only the devices' own threads have levels. -/
theorem L_of_ne (g : GSem nD τ sig) (h : g.1.2 ≠ .tc) : L g = ∅ := if_neg h
/-- Every semaphore of a device has the one level. -/
theorem L_tc (c : Dev nD) (sm : SemLoc sig) : L ((c : Thread nD τ), sm) = {()} := if_pos rfl

/-- A cell owed at some moment is a barrier cell not yet signalled, or a receipt not yet sent. -/
theorem owed_pos {c : Dev nD} {nb : ℕ} {e : Fin 2 → ℕ} {ng : ℕ} {g : GSem nD τ sig} {u : Unit} (h : 0 < owed c nb e ng g u) :
    ∃ t, t ≠ c ∧ ((g = barC t ∧ ¬ dist c t ≤ nb) ∨ (g = rvC t c ∧ ¬ dist c t ≤ e (half t)) ∨ (g = gvC t c ∧ ¬ dist c t ≤ ng)) := by
  unfold owed at h
  rw [Finset.sum_apply, Finsupp.finset_sum_apply] at h
  obtain ⟨t, -, ht⟩ := Finset.exists_ne_zero_of_sum_ne_zero (Nat.pos_iff_ne_zero.mp h)
  refine ⟨t, ?_⟩
  unfold owedT at ht
  split at ht
  · exact absurd rfl ht
  rename_i htc
  refine ⟨htc, ?_⟩
  rw [Pi.add_apply, Finsupp.add_apply, Pi.add_apply, Finsupp.add_apply] at ht
  by_contra hn
  rw [not_or, not_or] at hn
  obtain ⟨h1, h2, h3⟩ := hn
  have z : ∀ (p : Prop) [Decidable p] (x : GSem nD τ sig) (n : ℕ), ¬ (g = x ∧ ¬ p) → (if p then (0 : CellTallies nD τ sig Unit) else tallyAt x () n) g u = 0 := by
    intro p _ x n hx
    split
    · rfl
    · rename_i hp
      rw [tallyAt_apply]; exact if_neg fun h' => hx ⟨h'.1, hp⟩
  rw [z _ _ _ h1, z _ _ _ h2, z _ _ _ h3] at ht
  exact ht rfl

/-- Device `c` may wait on a cell of level at most `n` when what it owes is above. -/
theorem mayWait_of (c : Dev nD) (sm : SemLoc sig) (n nb : ℕ) (e : Fin 2 → ℕ) (ng : ℕ) (hsm : lv ((c : Thread nD τ), sm) () ≤ n)
    (hb : 15 ≤ nb ∨ n < 1) (he : (∀ b, 15 ≤ e b) ∨ n < 2) (hg : 15 ≤ ng ∨ n < 3) :
    (levAts L lv : sProp 𝕄) ⊢ MayWait (c : Thread nD τ) sm () (owed c nb e ng) := by
  have far : ∀ t, t ≠ c → dist c t ≤ 15 := fun t ht => by
    have h1 := dist_le c t
    have h2 := mt (dist_eq_iff c t).mp ht
    omega
  refine MayOwe.of_cut (L := L) (lev := lv) n (fun p hp => by rw [Finset.mem_singleton.mp hp, L_tc]; exact Finset.mem_singleton_self _)
    (fun g u hg' => by obtain ⟨t, -, (⟨rfl, -⟩ | ⟨rfl, -⟩ | ⟨rfl, -⟩)⟩ := owed_pos hg' <;> exact Finset.mem_singleton_self _)
    (fun p hp => by rw [Finset.mem_singleton.mp hp]; exact hsm)
    (fun g u hg' => ?_)
  obtain ⟨t, htc, h⟩ := owed_pos hg'
  have hf := far t htc
  rcases h with ⟨rfl, h⟩ | ⟨rfl, h⟩ | ⟨rfl, h⟩
  · rw [lv_cell]; show n < 1
    rcases hb with hb | hb <;> omega
  · rw [lv_cell]; show n < 2
    rcases he with he | he
    · have := he (half t); omega
    · exact he
  · rw [lv_cell]; show n < 3
    rcases hg with hg | hg <;> omega

end Cert.KernelIdealProof
-- ==== Proof.KernelIdeal.Steps.lean ====
/-
One lemma per kind of communication step of a device: a signal, the barrier wait, a transfer, a wait for a transfer.
What the device holds for the sixteen devices is kept in one assertion per kind of step, indexed by how many steps
have passed; each lemma moves the index on by one.
-/
module

public import proofs.«01_k».proof.Proof.KernelIdeal.Schedule

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The persistent context -/

/-- Every cell's invariant, at the names `K`, and that every cell has reached round 0. -/
def recs (K : Dev nD × Kind → ℕ) : sProp 𝕄 :=
  bigSep Finset.univ fun ck : Dev nD × Kind => iprop(cellInv ER (sched m) (K ck) (kcell ck) ∗ reached ER (kcell ck) 0)

instance recs_persistent (K) : BI.Persistent (recs (F := F) m K) := by unfold recs; infer_instance

/-- The persistent context: the cells' records and the levels. -/
def ctx (K : Dev nD × Kind → ℕ) : sProp 𝕄 := iprop(recs m K ∗ (levAts L lv : sProp 𝕄))

instance ctx_persistent (K) : BI.Persistent (ctx (F := F) m K) := by unfold ctx; infer_instance

/-- One part of a conjunction over a finite type. -/
theorem elim_at {I : Type} [Fintype I] [DecidableEq I] (Φ : I → sProp 𝕄) (i : I) : (bigSep Finset.univ Φ : sProp 𝕄) ⊢ Φ i := bigSep_elim (Finset.mem_univ i)

/-- The shared context holds each cell's invariant. -/
theorem ctx_inv (K : Dev nD × Kind → ℕ) (ck : Dev nD × Kind) : ctx (F := F) m K ⊢ cellInv ER (sched m) (K ck) (kcell ck) := by
  unfold ctx recs
  iintro ⟨H, -⟩
  ihave H := (elim_at _ ck) $$ H
  icases H with ⟨H, -⟩
  iexact H

/-- The shared context says that each cell has reached its round. -/
theorem ctx_reached (K : Dev nD × Kind → ℕ) (ck : Dev nD × Kind) : ctx (F := F) m K ⊢ reached ER (kcell ck) 0 := by
  unfold ctx recs
  iintro ⟨H, -⟩
  ihave H := (elim_at _ ck) $$ H
  icases H with ⟨-, H⟩
  iexact H

/-- The shared context holds the levels. -/
theorem ctx_lev (K : Dev nD × Kind → ℕ) : ctx (F := F) m K ⊢ (levAts L lv : sProp 𝕄) := by
  unfold ctx
  iintro ⟨-, H⟩
  iexact H

/-- A device may wait on a cell of level at most `n` when what it owes is above. -/
theorem ctx_mayWait (K : Dev nD × Kind → ℕ) (c : Dev nD) (sm : SemLoc sig) (n nb : ℕ) (e : Fin 2 → ℕ) (ng : ℕ) (hsm : lv ((c : Thread nD τ), sm) () ≤ n)
    (hb : 15 ≤ nb ∨ n < 1) (he : (∀ b, 15 ≤ e b) ∨ n < 2) (hg : 15 ≤ ng ∨ n < 3) :
    ctx (F := F) m K ⊢ MayWait (c : Thread nD τ) sm () (owed c nb e ng) := (@ctx_lev F _ m K).trans (@mayWait_of F _ c sm n nb e ng hsm hb he hg)

/-! ## Pools -/

/-- Taking one device's part out of a pool, and putting another back. -/
theorem pool_step (Φ Ψ : Dev nD → sProp 𝕄) (t : Dev nD) {A B : sProp 𝕄} (hA : Φ t = A) (hB : Ψ t = B) (h : ∀ u, u ≠ t → Φ u = Ψ u) :
    bigSep Finset.univ Φ ⊢ iprop(A ∗ (B -∗ bigSep Finset.univ Ψ)) := by
  subst hA hB
  rw [bigSep_univ_at Φ t, bigSep_univ_at Ψ t, bigSep_congr fun u hu => h u (Finset.ne_of_mem_erase hu)]
  iintro ⟨H, R⟩
  isplitl [H]; · iexact H
  iintro H
  isplitl [H]; · iexact H
  iexact R

/-- How many places after `c` the device `t` stands, as the index of a semaphore: `c` itself stands none. -/
def place (c t : Dev nD) : Fin 16 := ⟨(t.val + 16 - c.val) % 16, Nat.mod_lt _ (by decide)⟩
/-- The device `n + 1` places after `c` is at place `n + 1`. -/
theorem place_peer (c : Dev nD) (n : Fin 15) : place c (peer c (n.val + 1)) = ⟨n.val + 1, by omega⟩ := by revert c n; decide
/-- A device is at place zero from itself. -/
theorem place_self (c : Dev nD) : place c c = 0 := by revert c; decide
/-- The device at `t`'s place from `c` is `t`. -/
theorem peer_place (c t : Dev nD) : peer c (place c t).val = t := by revert c t; decide
/-- Another device is not at place zero. -/
theorem place_ne (c t : Dev nD) (h : t ≠ c) : place c t ≠ 0 := by revert c t; decide

/-- What device `c` owes, and the waits it has made. -/
def ow (c : Dev nD) (nb : ℕ) (e : Fin 2 → ℕ) (ng : ℕ) : sProp 𝕄 := iprop(∃ W, owes (c : Thread nD τ) (owed c nb e ng) W)

/-- What device `c` signals with: to each device not yet signalled, the duty, and the receive slot and the result rows
    for that device. -/
def sigT (c : Dev nD) (n : ℕ) (t : Dev nD) : sProp 𝕄 :=
  if t = c then iprop(emp) else if dist c t ≤ n then iprop(emp)
  else iprop(dutyTok ER (barC t) 0 c ∗ blkAny c (slotM t) ∗ blkAny c (rowM outM t))
def sigP (c : Dev nD) (n : ℕ) : sProp 𝕄 := bigSep Finset.univ (sigT c n)

/-- What a device's transfer to `t` starts from: the duties of both its cells, the destination, the source. -/
def xfer (c t : Dev nD) (kS kR : Kind) (src dst : Memref sig .tc .vmem S16x512 .f32) (q : PosShare TreeShare) (X : FVec F S16x512 .f32) : sProp 𝕄 :=
  iprop(dutyTok ER (kcell (c, kS)) 0 c ∗ dutyTok ER (kcell (t, kR)) 0 c ∗ blkAny t dst ∗ blk c src q X)

/-- The transfers of partial products to the devices of half `b`, `n` turns having passed: what each starts from, or its
    send's credit; the device's own rows stay. -/
def rsT (c : Dev nD) (b : Fin 2) (n : ℕ) (t : Dev nD) : sProp 𝕄 :=
  if half t ≠ b then iprop(emp)
  else if t = c then blk c (rowM parM c) fullShare (parB m c c)
  else if dist c t ≤ n then cred (tallyAt (ssC c (place c t)) () N)
  else xfer c t (some (0, place c t)) (some (1, c)) (rowM parM t) (slotM c) fullShare (parB m c t)
def rsP (c : Dev nD) (b : Fin 2) (n : ℕ) : sProp 𝕄 := bigSep Finset.univ (rsT m c b n)

/-- The transfers of the reduced rows, `n` having been issued. -/
def gsT (c : Dev nD) (n : ℕ) (t : Dev nD) : sProp 𝕄 :=
  if t = c then blk c (rowM outM c) (lent c) (redB m c)
  else if dist c t ≤ n then cred (tallyAt (gsC c (place c t)) () N)
  else xfer c t (some (2, place c t)) (some (3, c)) (rowM outM c) (rowM outM c) (lent t) (redB m c)
def gsP (c : Dev nD) (n : ℕ) : sProp 𝕄 := bigSep Finset.univ (gsT m c n)

/-- Waits for transfers on the cells `cell t` of device `c`, `n` of them made: a cell waited for is closed and has given
    `pay t`; the others are at their start with their credit. -/
def waitT (c : Dev nD) (cell : Dev nD → Fin 4 × Fin 16) (pay : Dev nD → sProp 𝕄) (n : ℕ) (t : Dev nD) : sProp 𝕄 :=
  if t = c then atPos ER (kcell (c, some (cell t))) 0 ∅ 0
  else if dist c t ≤ n then iprop(semVal (kcell (c, some (cell t))) 0 ∗ pay t)
  else iprop(atPos ER (kcell (c, some (cell t))) 0 ∅ 0 ∗ cred (tallyAt (kcell (c, some (cell t))) () N))
def waitP (c : Dev nD) (cell : Dev nD → Fin 4 × Fin 16) (pay : Dev nD → sProp 𝕄) (n : ℕ) : sProp 𝕄 := bigSep Finset.univ (waitT c cell pay n)

/-! ## The steps -/

/-- A transfer into a slot credits one row block's amount. -/
theorem credit_slot (t : Dev nD) : (slotM t).view.dmaCredit = N := rfl
/-- A transfer into a row block credits one row block's amount. -/
theorem credit_row (b : Memref sig .tc .vmem S256x512 .f32) (t : Dev nD) : (rowM b t).view.dmaCredit = N := rfl

variable (K : Dev nD × Kind → ℕ)

/-- The signal to the `n + 1`st device. -/
theorem step_signal {α : Type} {Q : α → sProp 𝕄} (c : Dev nD) (n : Fin 15) (e : Fin 2 → ℕ) (ng : ℕ) {dst : Dev nD} (hdst : dst = peer c (n.val + 1))
    {sem : Sem sig} (hsem : sem = barS) {u : ℕ} (hu : 1 = u) {k : PUnit → Prog (TpuEff nD τ sig (Elt F) Λ₀ .tc) α} :
    iprop(ctx m K ∗ sigP c n.val ∗ ow c n.val e ng)
      ⊢ iprop(((sigP c (n.val + 1) ∗ ow c (n.val + 1) e ng) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dst : Thread nD τ) sem u) k) Q) := by
  subst hdst hu
  have h1 : ((peer c (n.val + 1) : Thread nD τ), SemLoc.reg sem) = kcell (peer c (n.val + 1), none) := by rw [hsem]; rfl
  iintro ⟨#Hctx, HP, HO⟩ Hk
  unfold ow
  icases HO with ⟨%W, HO⟩
  have hne : ∀ u, u ≠ peer c (n.val + 1) → sigT (F := F) c n.val u = sigT c (n.val + 1) u := fun u hu => by
    unfold sigT; simp only [dist_ne hu]
  unfold sigP
  have hA : sigT (F := F) c n.val (peer c (n.val + 1)) = iprop(dutyTok ER (barC (peer c (n.val + 1))) 0 c ∗ blkAny c (slotM (peer c (n.val + 1))) ∗ blkAny c (rowM outM (peer c (n.val + 1)))) := by
    unfold sigT; rw [if_neg (peer_ne c n), dist_peer, if_neg (Nat.not_succ_le_self n.val)]
  have hB : sigT (F := F) c (n.val + 1) (peer c (n.val + 1)) = iprop(emp) := by
    unfold sigT; rw [if_neg (peer_ne c n), dist_peer, if_pos (Nat.le_refl _)]
  ihave HP := (pool_step (sigT c n.val) (sigT c (n.val + 1)) (peer c (n.val + 1)) hA hB hne) $$ HP
  icases HP with ⟨Ht, HP⟩
  icases Ht with ⟨Ht, Hs⟩
  iapply (Rounds.wp_signal 𝒱₀ ER (sched m) (c : Thread nD τ) none (dst := (peer c (n.val + 1) : Thread nD τ)) (κ := K (peer c (n.val + 1), none)) (r := 0)
      (d := c) (by rw [h1, duties_cell]; exact Finset.mem_erase.mpr ⟨(peer_ne c n).symm, Finset.mem_univ _⟩)
      (by rw [h1]; exact amount_cell m _ none 0 c) () (O₀ := owed c n.val e ng) (owed c (n.val + 1) e ng) (by rw [h1]; exact owed_bar c n e ng) (W := W)) $$ [HO Ht Hs]
  · rw [h1]
    isplitr; · iapply (ctx_inv m K (peer c (n.val + 1), none)); iexact Hctx
    isplitl [HO]; · iexact HO
    isplitl [Ht]; · iexact Ht
    isplitl [Hs]
    · have hk : iprop(blkAny c (slotM (peer c (n.val + 1))) ∗ blkAny c (rowM outM (peer c (n.val + 1)))) = (sched (F := F) m).payload (kcell (peer c (n.val + 1), none)) 0 c :=
        (payload_cell m (peer c (n.val + 1)) none 0 c).symm
      iapply (Entails.of_eq hk); iexact Hs
    · iapply (ctx_reached m K (peer c (n.val + 1), none)); iexact Hctx
  iintro HO
  iapply Hk
  isplitl [HP]
  · ihave HP := HP $$ []
    · iempintro
    iexact HP
  · iexists W; iexact HO

/-- What the barrier's wait hands a device: every other device's receive slot and result rows for it. -/
def dests (c : Dev nD) : sProp 𝕄 := bigSep (Finset.univ.erase c) fun s => iprop(blkAny s (slotM c) ∗ blkAny s (rowM outM c))

/-- What the barrier has collected is the slot and the row block of every other device. -/
theorem rest_bar (c : Dev nD) : bigSep ((sched (F := F) m).duties (barC c) 0 \ ∅) (fun d => (sched (F := F) m).payload (barC c) 0 d) = dests (F := F) c := by
  rw [Finset.sdiff_empty, duties_cell m c none]
  exact bigSep_congr fun s _ => payload_cell m c none 0 s

/-- What the wait on a cell one device pays hands over. -/
theorem rest_one (c : Dev nD) (k : Kind) {s : Dev nD} (h : kduties c k = {s}) :
    bigSep ((sched (F := F) m).duties (kcell (c, k)) 0 \ ∅) (fun d => (sched (F := F) m).payload (kcell (c, k)) 0 d) = kpay m c k s := by
  rw [Finset.sdiff_empty, duties_cell m c k, h, bigSep_singleton, payload_cell]

/-- The wait on the barrier, every signal sent: the other devices' slots and rows for this one; the cell is closed. -/
theorem step_barrier {α : Type} {Q : α → sProp 𝕄} (c : Dev nD) (e : Fin 2 → ℕ) (ng : ℕ) {sem : Sem sig} (hsem : sem = barS) {u : ℕ} (hu : 15 = u)
    {k : PUnit → Prog (TpuEff nD τ sig (Elt F) Λ₀ .tc) α} :
    iprop(ctx m K ∗ cred (tallyAt (barC c) () 15) ∗ atPos ER (barC c) 0 ∅ 0 ∗ ow c 15 e ng)
      ⊢ iprop(((dests c ∗ semVal (barC c) 0 ∗ ow c 15 e ng) -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem u) k) Q) := by
  subst hu
  have h1 : ((c : Thread nD τ), SemLoc.reg sem) = kcell (c, none) := by rw [hsem]; rfl
  iintro ⟨#Hctx, Hc, Hat, HO⟩ Hk
  unfold ow
  icases HO with ⟨%W, HO⟩
  iapply (Rounds.wp_wait_rest_token 𝒱₀ ER (sched m) (c : Thread nD τ) none (κ := K (c, none))
      (wpE_semWait_eq 𝒱₀ (c : Thread nD τ) none Set.univ) (Set.mem_univ _) () (O := owed c 15 e ng) (W := W) (R := 0) (m := 0) (T := ∅)
      (by rw [h1, expect_cell m c none]; show 0 + 15 = (Finset.univ.erase c).card * 1; rw [Finset.card_erase_of_mem (Finset.mem_univ _), Finset.card_univ]; rfl)) $$ [Hc HO Hat]
  · rw [h1]
    isplitr; · iapply (ctx_inv m K (c, none)); iexact Hctx
    isplitl [Hc]; · iexact Hc
    isplitl [HO]; · iexact HO
    isplitr
    · iapply (ctx_mayWait m K c (.reg sem) 1 15 e ng (by rw [h1, lv_cell c none]; exact Nat.le_refl 1) (.inl (Nat.le_refl 15)) (.inr Nat.one_lt_two) (.inr (by decide)))
      iexact Hctx
    iexact Hat
  iintro ⟨HO, Hat, -, Hpay⟩
  rw [h1]
  ihave Hpay := (Entails.of_eq (rest_bar m c)) $$ Hpay
  imod (Rounds.cell_close ER (sched m) (Set.mem_univ (K (c, none))) (fun h => h) (R := 0 + 1) (duties_later m (barC c))) $$ [Hat] with Hz
  · isplitr; · iapply (ctx_inv m K (c, none)); iexact Hctx
    iexact Hat
  iapply Hk
  isplitl [Hpay]; · iexact Hpay
  isplitl [Hz]; · iexact Hz
  iexists _; iexact HO

/-- A transfer of sixteen rows to device `t`: the source back as the send's credit, the destination written. -/
theorem step_send {α : Type} {Q : α → sProp 𝕄} (c t : Dev nD) (kS kR : Kind) {src dst : Memref sig .tc .vmem S16x512 .f32} {q : PosShare TreeShare} {X : FVec F S16x512 .f32}
    {sS sR : DmaSem sig} (hsS : SemLoc.dma sS = semOf kS) (hsR : SemLoc.dma sR = semOf kR)
    (hS : c ∈ kduties c kS) (hR : c ∈ kduties t kR) (hSa : kamount kS = N) (hRa : kamount kR = N) (hN : dst.view.dmaCredit = N)
    (hp1 : kpay m c kS c = blk c src q X) (hp2 : kpay m t kR c = blk t dst fullShare X)
    {O₀ : CellTallies nD τ sig Unit} (O : CellTallies nD τ sig Unit) (hO : O₀ = O + tallyAt (kcell (t, kR)) () N) (W : Waits sig Unit)
    {hsc : dst.view.ref.isScScratch = false}
    {hsrc : src.view.WordExact} {hdst : dst.view.WordExact} {hsem : DmaTarget.Typed .vmem (.dma sR) (.remote (Dev.tc t : Thread nD τ) dst (.dma sS) hsc)}
    {k : PUnit → Prog (TpuEff nD τ sig (Elt F) Λ₀ .tc) α} :
    iprop(ctx m K ∗ xfer c t kS kR src dst q X ∗ owes (c : Thread nD τ) O₀ W)
      ⊢ iprop(((cred (tallyAt (kcell (c, kS)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc t : Thread nD τ) dst (.dma sS) hsc) (.dma sR) hsrc hdst hsem) k) Q) := by
  have h1 : ((c : Thread nD τ), SemLoc.dma sS) = kcell (c, kS) := by rw [hsS]
  have h2 : ((t : Thread nD τ), SemLoc.dma sR) = kcell (t, kR) := by rw [hsR]
  unfold xfer blkAny blk
  iintro ⟨#Hctx, ⟨HtS, HtR, ⟨%Y, Hd⟩, Hs⟩, HO⟩ Hk
  unfold owns
  icases Hd with ⟨%fd, %hfd, Hd⟩
  icases Hs with ⟨%fs, %hfs, Hs⟩
  rw [← h1, ← h2]
  iapply (Rounds.wp_send_pointsTo 𝒱₀ ER (sched m) (c : Thread nD τ) none (c' := (t : Thread nD τ)) (src := src) (dst := dst) (sS := .dma sS) (sem := .dma sR) (O₀ := O₀) (κ₁ := K (c, kS)) (κ₂ := K (t, kR))
    (r₁ := 0) (r₂ := 0) (d₁ := c) (d₂ := c) (fs := fs) (fd := fd) (q := q)
    (by rw [h1, duties_cell]; exact hS) (by rw [h2, duties_cell]; exact hR)
    () () N hN (by rw [h1, amount_cell]; exact hSa) (by rw [h2, amount_cell]; exact hRa) O (by rw [h2]; exact hO) (W := W)
    (by rw [h1, payload_cell, hp1]; unfold blk owns; iintro H; iexists fs; isplitr; · (ipureintro; exact hfs)
        iexact H)
    (by rw [h2, payload_cell, hp2]; unfold blk owns; iintro H; iexists (dst.view.write (Elt F) fd (src.view.read (Elt F) fs) Finset.univ); isplitr
        · ipureintro; exact (View.read_write_univ fd (src.view.read (Elt F) fs)).trans hfs
        iexact H)) $$ [HtS HtR Hd Hs HO]
  · isplitr; · rw [h1]; iapply (ctx_inv m K (c, kS)); iexact Hctx
    isplitr; · rw [h2]; iapply (ctx_inv m K (t, kR)); iexact Hctx
    isplitl [Hs]; · iexact Hs
    isplitl [Hd]; · iexact Hd
    isplitl [HO]; · iexact HO
    isplitl [HtS]; · iexact HtS
    isplitr; · rw [h1]; iapply (ctx_reached m K (c, kS)); iexact Hctx
    isplitl [HtR]; · iexact HtR
    rw [h2]; iapply (ctx_reached m K (t, kR)); iexact Hctx
  iexact Hk

/-- The turn of the `n + 1`st device among the sends of partial products of half `b`: sent when the device is of that
    half, nothing otherwise. -/
theorem step_rs {α : Type} {Q : α → sProp 𝕄} (c : Dev nD) (b : Fin 2) (n : Fin 15) (nb : ℕ) (e e' : Fin 2 → ℕ) (he : e b = n.val) (he' : e' = Function.update e b (n.val + 1)) (ng : ℕ)
    {p : Prop} [Decidable p] (hp : p ↔ half (peer c (n.val + 1)) = b)
    {t : p → Dev nD} (ht : ∀ h, t h = peer c (n.val + 1))
    {src dst : p → Memref sig .tc .vmem S16x512 .f32} (hsr : ∀ h, src h = rowM parM (peer c (n.val + 1))) (hds : ∀ h, dst h = slotM c)
    {sS sR : p → DmaSem sig} (hsS : ∀ h, sS h = dsem 0 ⟨n.val + 1, by omega⟩) (hsR : ∀ h, sR h = dsem 1 c)
    {hsc : ∀ h, (dst h).view.ref.isScScratch = false} {hsrc : ∀ h, (src h).view.WordExact} {hdst : ∀ h, (dst h).view.WordExact}
    {hsem : ∀ h, DmaTarget.Typed .vmem (.dma (sR h)) (.remote (Dev.tc (t h) : Thread nD τ) (dst h) (.dma (sS h)) (hsc h))}
    {k : Prog (TpuEff nD τ sig (Elt F) Λ₀ .tc) α} :
    iprop(ctx m K ∗ rsP m c b n.val ∗ ow c nb e ng)
      ⊢ iprop(((rsP m c b (n.val + 1) ∗ ow c nb e' ng) -∗ wp frame (wpE (defs₀ (F := F)) 𝒱₀ (c : Thread nD τ) none) Set.univ k Q)
          -∗ wp frame (wpE (defs₀ (F := F)) 𝒱₀ (c : Thread nD τ) none) Set.univ
              (if h : p then .op (.enqueueDma (src h) (.remote (Dev.tc (t h) : Thread nD τ) (dst h) (.dma (sS h)) (hsc h)) (.dma (sR h)) (hsrc h) (hdst h) (hsem h)) (fun _ => k)
                else k) Q) := by
  subst he'
  by_cases h : p
  · have hb := hp.mp h
    rw [dif_pos h]
    generalize_proofs g1 g2 g3 g4
    have ht := ht h; have hsr := hsr h; have hds := hds h; have hsS := hsS h; have hsR := hsR h
    revert g1 g2 g3 g4
    generalize t h = t at *; generalize src h = src at *; generalize dst h = dst at *; generalize sS h = sS at *; generalize sR h = sR at *
    subst ht hsr hds hsS hsR
    intro g1 g2 g3 g4
    iintro ⟨#Hctx, HP, HO⟩ Hk
    unfold ow
    icases HO with ⟨%W, HO⟩
    have hne : ∀ u, u ≠ peer c (n.val + 1) → rsT m c b n.val u = rsT m c b (n.val + 1) u := fun u hu => by
      unfold rsT; simp only [dist_ne hu]
    unfold rsP
    have hA : rsT m c b n.val (peer c (n.val + 1)) = xfer c (peer c (n.val + 1)) (some (0, place c (peer c (n.val + 1)))) (some (1, c)) (rowM parM (peer c (n.val + 1))) (slotM c) fullShare (parB m c (peer c (n.val + 1))) := by
      unfold rsT; rw [if_neg (fun h' => h' hb), if_neg (peer_ne c n), dist_peer, if_neg (Nat.not_succ_le_self n.val)]
    have hB : rsT m c b (n.val + 1) (peer c (n.val + 1)) = cred (tallyAt (ssC c (place c (peer c (n.val + 1)))) () N) := by
      unfold rsT; rw [if_neg (fun h' => h' hb), if_neg (peer_ne c n), dist_peer, if_pos (Nat.le_refl _)]
    ihave HP := (pool_step (rsT m c b n.val) (rsT m c b (n.val + 1)) (peer c (n.val + 1)) hA hB hne) $$ HP
    icases HP with ⟨Ht, HP⟩
    have hp1 : kpay m c (some (0, place c (peer c (n.val + 1)))) c = blk c (rowM parM (peer c (n.val + 1))) fullShare (parB m c (peer c (n.val + 1))) := by
      show blk c (rowM parM (peer c (place c (peer c (n.val + 1))).val)) _ _ = _
      rw [peer_place]
    have hp2 : kpay m (peer c (n.val + 1)) (some (1, c)) c = blk (peer c (n.val + 1)) (slotM c) fullShare (parB m c (peer c (n.val + 1))) := rfl
    have hS : c ∈ kduties c (some (0, place c (peer c (n.val + 1)))) := by
      show c ∈ (if place c (peer c (n.val + 1)) = 0 then ∅ else {c})
      rw [if_neg (place_ne _ _ (peer_ne c n))]; exact Finset.mem_singleton_self _
    have hR : c ∈ kduties (peer c (n.val + 1)) (some (1, c)) := by
      show c ∈ (if c = peer c (n.val + 1) then ∅ else {c})
      rw [if_neg (peer_ne c n).symm]; exact Finset.mem_singleton_self _
    have hsS : SemLoc.dma (dsem 0 ⟨n.val + 1, by omega⟩) = semOf (some (0, place c (peer c (n.val + 1)))) := by rw [place_peer]; rfl
    iapply (@step_send F _ m K α Q c (peer c (n.val + 1)) (some (0, place c (peer c (n.val + 1)))) (some (1, c)) (rowM parM (peer c (n.val + 1))) (slotM c) fullShare (parB m c (peer c (n.val + 1)))
      _ (dsem 1 c) hsS rfl hS hR rfl rfl (credit_slot c) hp1 hp2 (owed c nb e ng) (owed c nb (Function.update e b (n.val + 1)) ng) (owed_rv c n b hb nb e he ng) W) $$ [Ht HO]
    · isplitr; · iexact Hctx
      isplitl [Ht] <;> iassumption
    iintro ⟨Hc, HO⟩
    iapply Hk
    isplitl [Hc HP]
    · ihave HP := HP $$ Hc
      iexact HP
    · iexists W; iexact HO
  · have hb : half (peer c (n.val + 1)) ≠ b := fun hb => h (hp.mpr hb)
    rw [dif_neg h]
    unfold ow
    rw [← owed_skip c n b hb nb e he ng, show rsP m c b (n.val + 1) = rsP m c b n.val from bigSep_congr fun u _ => by
      unfold rsT
      by_cases hu : half u ≠ b
      · rw [if_pos hu, if_pos hu]
      · have hu' : u ≠ peer c (n.val + 1) := fun h' => hu (h' ▸ hb)
        simp only [dist_ne hu']]
    iintro ⟨#Hctx, HP, HO⟩ Hk
    iapply Hk
    isplitl [HP] <;> iassumption

/-- The transfer of the reduced rows to the `n + 1`st device. -/
theorem step_gs {α : Type} {Q : α → sProp 𝕄} (c : Dev nD) (n : Fin 15) (nb : ℕ) (e : Fin 2 → ℕ)
    {t : Dev nD} (ht : t = peer c (n.val + 1))
    {src dst : Memref sig .tc .vmem S16x512 .f32} (hsr : src = rowM outM c) (hds : dst = rowM outM c)
    {sS sR : DmaSem sig} (hsS : sS = dsem 2 ⟨n.val + 1, by omega⟩) (hsR : sR = dsem 3 c)
    {hsc : dst.view.ref.isScScratch = false} {hsrc : src.view.WordExact} {hdst : dst.view.WordExact}
    {hsem : DmaTarget.Typed .vmem (.dma sR) (.remote (Dev.tc t : Thread nD τ) dst (.dma sS) hsc)}
    {k : PUnit → Prog (TpuEff nD τ sig (Elt F) Λ₀ .tc) α} :
    iprop(ctx m K ∗ gsP m c n.val ∗ ow c nb e n.val)
      ⊢ iprop(((gsP m c (n.val + 1) ∗ ow c nb e (n.val + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc t : Thread nD τ) dst (.dma sS) hsc) (.dma sR) hsrc hdst hsem) k) Q) := by
  subst ht hsr hds hsS hsR
  iintro ⟨#Hctx, HP, HO⟩ Hk
  unfold ow
  icases HO with ⟨%W, HO⟩
  have hne : ∀ u, u ≠ peer c (n.val + 1) → gsT m c n.val u = gsT m c (n.val + 1) u := fun u hu => by
    unfold gsT; simp only [dist_ne hu]
  unfold gsP
  have hA : gsT m c n.val (peer c (n.val + 1)) = xfer c (peer c (n.val + 1)) (some (2, place c (peer c (n.val + 1)))) (some (3, c)) (rowM outM c) (rowM outM c) (lent (peer c (n.val + 1))) (redB m c) := by
    unfold gsT; rw [if_neg (peer_ne c n), dist_peer, if_neg (Nat.not_succ_le_self n.val)]
  have hB : gsT m c (n.val + 1) (peer c (n.val + 1)) = cred (tallyAt (gsC c (place c (peer c (n.val + 1)))) () N) := by
    unfold gsT; rw [if_neg (peer_ne c n), dist_peer, if_pos (Nat.le_refl _)]
  ihave HP := (pool_step (gsT m c n.val) (gsT m c (n.val + 1)) (peer c (n.val + 1)) hA hB hne) $$ HP
  icases HP with ⟨Ht, HP⟩
  have hp1 : kpay m c (some (2, place c (peer c (n.val + 1)))) c = blk c (rowM outM c) (lent (peer c (n.val + 1))) (redB m c) := by
    show blk c (rowM outM c) _ _ = _
    rw [peer_place]
  have hp2 : kpay m (peer c (n.val + 1)) (some (3, c)) c = blk (peer c (n.val + 1)) (rowM outM c) fullShare (redB m c) := rfl
  have hS : c ∈ kduties c (some (2, place c (peer c (n.val + 1)))) := by
    show c ∈ (if place c (peer c (n.val + 1)) = 0 then ∅ else {c})
    rw [if_neg (place_ne _ _ (peer_ne c n))]; exact Finset.mem_singleton_self _
  have hR : c ∈ kduties (peer c (n.val + 1)) (some (3, c)) := by
    show c ∈ (if c = peer c (n.val + 1) then ∅ else {c})
    rw [if_neg (peer_ne c n).symm]; exact Finset.mem_singleton_self _
  have hsS : SemLoc.dma (dsem 2 ⟨n.val + 1, by omega⟩) = semOf (some (2, place c (peer c (n.val + 1)))) := by rw [place_peer]; rfl
  iapply (@step_send F _ m K α Q c (peer c (n.val + 1)) (some (2, place c (peer c (n.val + 1)))) (some (3, c)) (rowM outM c) (rowM outM c) (lent (peer c (n.val + 1))) (redB m c)
    _ (dsem 3 c) hsS rfl hS hR rfl rfl (credit_row outM c) hp1 hp2 (owed c nb e n.val) (owed c nb e (n.val + 1)) (owed_gv c n nb e) W) $$ [Ht HO]
  · isplitr; · iexact Hctx
    isplitl [Ht] <;> iassumption
  iintro ⟨Hc, HO⟩
  iapply Hk
  isplitl [Hc HP]
  · ihave HP := HP $$ Hc
    iexact HP
  · iexists W; iexact HO

/-- The `n + 1`st wait for a transfer, on a cell one device pays: its payload, and the cell closed. -/
theorem step_wait {α : Type} {Q : α → sProp 𝕄} (c : Dev nD) (cell : Dev nD → Fin 4 × Fin 16) (pay : Dev nD → sProp 𝕄) (n : Fin 15) (nb : ℕ) (e : Fin 2 → ℕ) (ng lvl : ℕ)
    {s : Dev nD} (hs : kduties c (some (cell (peer c (n.val + 1)))) = {s}) (hpay : kpay m c (some (cell (peer c (n.val + 1)))) s = pay (peer c (n.val + 1)))
    (hlv : klv (some (some (cell (peer c (n.val + 1))))) ≤ lvl) (hb : 15 ≤ nb ∨ lvl < 1) (he : (∀ b, 15 ≤ e b) ∨ lvl < 2) (hg : 15 ≤ ng ∨ lvl < 3)
    {sem : DmaSem sig} (hsem : sem = dsem (cell (peer c (n.val + 1))).1 (cell (peer c (n.val + 1))).2)
    {sp sp' : Space} {sh sh' : Shape} {el el' : EltTy} {κ' : Idealize.ShloMosaic.Kind} {src : Memref sig .tc sp' sh' el'} {dst : Memref sig κ' sp sh el} (hN : dst.view.dmaCredit = N)
    {hsrc : src.view.WordExact} {hdst : dst.view.WordExact}
    {k : PUnit → Prog (TpuEff nD τ sig (Elt F) Λ₀ .tc) α} :
    iprop(ctx m K ∗ waitP c cell pay n.val ∗ ow c nb e ng)
      ⊢ iprop(((waitP c cell pay (n.val + 1) ∗ ow c nb e ng) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  have h1 : ((c : Thread nD τ), SemLoc.dma sem) = kcell (c, some (cell (peer c (n.val + 1)))) := by rw [hsem]; rfl
  iintro ⟨#Hctx, HP, HO⟩ Hk
  unfold ow
  icases HO with ⟨%W, HO⟩
  have hne : ∀ u, u ≠ peer c (n.val + 1) → waitT c cell pay n.val u = waitT c cell pay (n.val + 1) u := fun u hu => by
    unfold waitT; simp only [dist_ne hu]
  unfold waitP
  generalize hz : cell (peer c (n.val + 1)) = z at *
  have hA : waitT c cell pay n.val (peer c (n.val + 1)) = iprop(atPos ER (kcell (c, some z)) 0 ∅ 0 ∗ cred (tallyAt (kcell (c, some z)) () N)) := by
    unfold waitT; rw [if_neg (peer_ne c n), dist_peer, if_neg (Nat.not_succ_le_self n.val), hz]
  have hB : waitT c cell pay (n.val + 1) (peer c (n.val + 1)) = iprop(semVal (kcell (c, some z)) 0 ∗ pay (peer c (n.val + 1))) := by
    unfold waitT; rw [if_neg (peer_ne c n), dist_peer, if_pos (Nat.le_refl _), hz]
  ihave HP := (pool_step (waitT c cell pay n.val) (waitT c cell pay (n.val + 1)) (peer c (n.val + 1)) hA hB hne) $$ HP
  icases HP with ⟨Ht, HP⟩
  icases Ht with ⟨Hat, Hc⟩
  iapply (Rounds.wp_wait_rest_token 𝒱₀ ER (sched m) (c : Thread nD τ) none (κ := K (c, some z))
      (wpE_waitDma2_eq 𝒱₀ (c : Thread nD τ) none Set.univ) (Set.mem_univ _) () (O := owed c nb e ng) (W := W) (R := 0) (m := 0) (T := ∅)
      (by rw [h1, expect_cell, hs, Finset.card_singleton, hN, one_mul, zero_add]; rfl)) $$ [Hc HO Hat]
  · rw [h1, hN]
    isplitr; · iapply (ctx_inv m K (c, some z)); iexact Hctx
    isplitl [Hc]; · iexact Hc
    isplitl [HO]; · iexact HO
    isplitr
    · iapply (ctx_mayWait m K c (.dma sem) lvl nb e ng (by rw [h1, lv_cell]; exact hlv) hb he hg)
      iexact Hctx
    iexact Hat
  iintro ⟨HO, Hat, -, Hpay⟩
  rw [h1]
  ihave Hpay := (Entails.of_eq ((rest_one m c (some z) hs).trans hpay)) $$ Hpay
  imod (Rounds.cell_close ER (sched m) (Set.mem_univ (K (c, some z))) (fun h => h) (R := 0 + 1) (duties_later m (kcell (c, some z)))) $$ [Hat] with Hz
  · isplitr; · iapply (ctx_inv m K (c, some z)); iexact Hctx
    iexact Hat
  iapply Hk
  isplitr [HO]
  · ihave HP := HP $$ [Hz Hpay]
    · isplitl [Hz]; · iexact Hz
      iexact Hpay
    iexact HP
  iexists _; iexact HO

end Cert.KernelIdealProof
-- ==== Proof.KernelIdeal.Views.lean ====
/-
The buffers in pieces: a slice or a semaphore named by its offset, a buffer of 256 rows as its sixteen row blocks, the
receive buffer as its sixteen slots, the partial product as its two halves.
-/
module

public import proofs.«01_k».proof.Proof.KernelIdeal.Steps
public import proofs.«01_k».proof.Proof.KernelIdeal.Values
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 idx2_lt0 idx2_lt1)

variable {F : FTy → Type} [FloatOps F]

local notation "𝕄" => MT nD τ sig Unit (Elt F) ℕ UU ℕ

/-! ## Names by offsets -/

/-- A slice of sixteen rows at offset `16 t` is row block `t`. -/
theorem row_of (b : Memref sig .tc .vmem S256x512 .f32) (t : Dev nD) {o : Fin 2 → ℕ} (h : o = ![16 * t.val, 0]) (hi : ∀ a, o a + S16x512.size a ≤ S256x512.size a) :
    b.slice (Rect.unit (s := S256x512) o S16x512.size hi) (fun _ => rfl) = rowM b t := Memref.slice_unit_congr b h _ _ _ _

/-- A slice of the receive buffer at offset `t`, squeezed, is slot `t`. -/
theorem slot_of (t : Dev nD) {o : Fin 3 → ℕ} (h : o = ![t.val, 0, 0]) (hi : ∀ a, o a + S1x16x512.size a ≤ S16x16x512.size a) :
    (rsM.slice (Rect.unit (s := S16x16x512) o S1x16x512.size hi) (fun _ => rfl)).squeeze S16x512 squeezes_S1x16x512_S16x512 = slotM t := by
  subst h; rfl

/-- The kernel's four arrays of semaphores. -/
def semArr : Fin 4 → DmaSems sig S16
  | 0 => cc0_scratch3
  | 1 => cc0_scratch4
  | 2 => cc0_scratch5
  | 3 => cc0_scratch6

/-- A semaphore taken from its array by a slice is the one at that index. -/
theorem sem_at (a : Fin 4) (i : Fin 16) (hi : ∀ x, (![i.val] : Fin 1 → ℕ) x + S1.size x ≤ S16.size x) :
    (((semArr a).slice (Rect.unit (s := S16) ![i.val] S1.size hi)).squeeze S_ squeezes_S1_S_).sem = dsem a i := by
  revert hi; fin_cases a <;> (revert i; decide)

/-- The semaphore of array `a` at offset `i`. -/
theorem sem_of (a : Fin 4) (i : Fin 16) {o : Fin 1 → ℕ} (h : o = ![i.val]) (hi : ∀ x, o x + S1.size x ≤ S16.size x) :
    (((semArr a).slice (Rect.unit (s := S16) o S1.size hi)).squeeze S_ squeezes_S1_S_).sem = dsem a i := by
  subst h; exact sem_at a i hi

/-! ## Row blocks, slots, halves as sets of elements -/

/-- Different row blocks are disjoint. -/
theorem row_disj (t u : Dev nD) (h : t ≠ u) : Disjoint (rowR t).set (rowR u).set := by
  rw [Finset.disjoint_left]
  intro i hi hj
  have h1 := (Rect.mem_set_unit.mp hi) 0
  have h2 := (Rect.mem_set_unit.mp hj) 0
  simp at h1 h2
  exact h (Fin.ext (by omega))

/-- An element lies in row block `t` when its row over sixteen is `t`. -/
theorem mem_row (t : Dev nD) (i : S256x512.Idx) : i ∈ (rowR t).set ↔ (i 0).val / 16 = t.val := by
  rw [Rect.mem_set_unit]
  have h1 := idx2_lt1 i
  constructor
  · intro h
    have := h 0
    simp at this
    omega
  · intro h a
    fin_cases a
    · simp; omega
    · simpa using h1

/-- The sixteen row blocks are all the rows. -/
theorem row_cover : (Finset.univ : Finset (Dev nD)).biUnion (fun t => (rowR t).set) = Finset.univ := by
  ext i
  simp only [Finset.mem_biUnion, Finset.mem_univ, true_and, iff_true]
  exact ⟨⟨(i 0).val / 16, by have := idx2_lt0 i; show _ < 16; omega⟩, (mem_row _ i).mpr rfl⟩

/-- An element lies in slot `t` when its first coordinate is `t`. -/
theorem mem_slot (t : Dev nD) (i : S16x16x512.Idx) : i ∈ (slotR t).set ↔ (i 0).val = t.val := by
  rw [Rect.mem_set_unit]
  have h1 : (i 1).val < 16 := (i 1).isLt
  have h2 : (i 2).val < 512 := (i 2).isLt
  constructor
  · intro h
    have := h 0
    simp at this
    omega
  · intro h a
    fin_cases a
    · simp; omega
    · simpa using h1
    · simpa using h2

/-- Different slots are disjoint. -/
theorem slot_disj (t u : Dev nD) (h : t ≠ u) : Disjoint (slotR t).set (slotR u).set := by
  rw [Finset.disjoint_left]
  intro i hi hj
  exact h (Fin.ext (((mem_slot t i).mp hi).symm.trans ((mem_slot u i).mp hj)))

/-- The sixteen slots are the whole receive buffer. -/
theorem slot_cover : (Finset.univ : Finset (Dev nD)).biUnion (fun t => (slotR t).set) = Finset.univ := by
  ext i
  simp only [Finset.mem_biUnion, Finset.mem_univ, true_and, iff_true]
  exact ⟨i 0, (mem_slot _ i).mpr rfl⟩

/-- An element lies in a batch entry's rows when its row over 128 is that entry. -/
theorem mem_half (b : Fin 2) (i : S256x512.Idx) : i ∈ (halfR b).set ↔ (i 0).val / 128 = b.val := by
  rw [Rect.mem_set_unit]
  have h1 := idx2_lt1 i
  constructor
  · intro h
    have := h 0
    simp at this
    omega
  · intro h a
    fin_cases a
    · simp; omega
    · simpa using h1

/-- The two batch entries' rows are all the rows. -/
theorem half_cover : (Finset.univ : Finset (Fin 2)).biUnion (fun b => (halfR b).set) = Finset.univ := by
  ext i
  simp only [Finset.mem_biUnion, Finset.mem_univ, true_and, iff_true]
  exact ⟨⟨(i 0).val / 128, by have := idx2_lt0 i; omega⟩, (mem_half _ i).mpr rfl⟩

/-- The two batch entries' rows are disjoint. -/
theorem half_disj (b b' : Fin 2) (h : b ≠ b') : Disjoint (halfR b).set (halfR b').set := by
  rw [Finset.disjoint_left]
  intro i hi hj
  exact h (Fin.ext (((mem_half b i).mp hi).symm.trans ((mem_half b' i).mp hj)))

/-- A half is its eight row blocks. -/
theorem half_rows (b : Fin 2) : (Finset.univ.filter fun t : Dev nD => half t = b).biUnion (fun t => (rowR t).set) = (halfR b).set := by
  ext i
  simp only [Finset.mem_biUnion, Finset.mem_filter, Finset.mem_univ, true_and]
  constructor
  · rintro ⟨t, ht, hi⟩
    rw [mem_row] at hi
    rw [mem_half, ← ht]
    show _ = t.val / 8
    omega
  · intro hi
    rw [mem_half] at hi
    refine ⟨⟨(i 0).val / 16, by have := idx2_lt0 i; show _ < 16; omega⟩, Fin.ext ?_, (mem_row _ i).mpr rfl⟩
    show (i 0).val / 16 / 8 = b.val
    omega

/-! ## Whole buffers and their pieces -/

/-- A buffer of 256 rows is its sixteen row blocks. -/
theorem rows_split (c : Dev nD) (b : Memref sig .tc .vmem S256x512 .f32) (X : S256x512.Idx → F .f32) :
    (owns (c : Thread nD τ) b fullShare X : sProp 𝕄) ⊢ bigSep Finset.univ fun t => blk c (rowM b t) fullShare (fun j => X ((rowR t).emb j)) :=
  owns_rects (Val := Elt F) (c : Thread nD τ) b fullShare rowR (fun _ _ => rfl) (fun t u => row_disj t u) row_cover (X : S256x512.Idx → Elt F .f32)

/-- The sixteen row blocks of an array, held separately, are the whole array held. -/
theorem rows_join (c : Dev nD) (b : Memref sig .tc .vmem S256x512 .f32) (X : S256x512.Idx → F .f32) :
    (bigSep Finset.univ fun t => blk c (rowM b t) fullShare (fun j => X ((rowR t).emb j))) ⊢ (owns (c : Thread nD τ) b fullShare X : sProp 𝕄) :=
  owns_of_rects (Val := Elt F) (c : Thread nD τ) b fullShare rowR (fun _ _ => rfl) (fun t u => row_disj t u) row_cover (X : S256x512.Idx → Elt F .f32)

/-- A slot as a matrix owned at `X` is the slot's slice owned at `X` reshaped. -/
theorem slot_eq (c t : Dev nD) (Y : S1x16x512.Idx → F .f32) :
    (owns (c : Thread nD τ) (rsM.slice (slotR t) (fun _ => rfl)) fullShare Y : sProp 𝕄) = blk c (slotM t) fullShare (shapeCast S16x512 Y shapeCasts_S1x16x512_S16x512) := by
  have hset : (slotM t).view.set = (rsM.slice (slotR t) (fun _ => rfl)).view.set := View.set_reshape _ _
  unfold blk owns
  rw [hset]
  refine congrArg _ (funext fun f => ?_)
  refine congrArg (fun p : Prop => iprop(⌜p⌝ ∗ _)) (propext ⟨fun h => ?_, fun h => ?_⟩)
  · subst h; rfl
  · have h2 : shapeCast S16x512 ((rsM.slice (slotR t) (fun _ => rfl)).view.read (Elt F) f) shapeCasts_S1x16x512_S16x512
        = shapeCast S16x512 Y shapeCasts_S1x16x512_S16x512 := h
    have h3 := congrArg (fun V => shapeCast S1x16x512 V shapeCasts_S16x512_S1x16x512) h2
    simpa only [shapeCast_shapeCast] using h3

end Cert.KernelIdealProof
-- ==== Proof.KernelIdeal.Data.lean ====
/-
The steps of a device that touch its own buffers: the loads of the arguments, the stores of the heads, the two halves of
the partial product, the sums over the received slots, and the store of the reduced rows.
-/
module

public import proofs.«01_k».proof.Proof.KernelIdeal.Views

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 idx2_lt0 idx2_lt1)

variable {F : FTy → Type} [FloatOps F]

local notation "𝕄" => MT nD τ sig Unit (Elt F) ℕ UU ℕ

variable (m : (ℓ : Loc nD τ sig) → Buf (Elt F) ℓ)

/-- The program `p` on device `c`, to end in `Q`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What owning a memref at contents says. -/
theorem owns_open (c : Thread nD τ) {sp : Space} {sh : Shape} {e : EltTy} (b : Memref sig c.2.kind sp sh e) (q : PosShare TreeShare) (X : sh.Idx → Elt F e) :
    (owns c b q X : sProp 𝕄) = iprop(∃ f, ⌜b.view.read (Elt F) f = X⌝ ∗ (b.view.loc c ↦[b.view.set]{q} f)) := rfl

/-- A store through a rectangle of a buffer's memref, by the memref's own location. -/
theorem store_at {α : Type} {Q : α → sProp 𝕄} (c : Dev nD) {sh : Shape} (M : Memref sig .tc .vmem sh .f32) (r : Rect sh) {w : r.shape.Idx → Elt F .f32}
    {S : Finset (Idx (M.view.loc (c : Thread nD τ)))} {f : Buf (Elt F) (M.view.loc (c : Thread nD τ))} (hS : (M.access r).set ⊆ S)
    {hx : (M.access r).Stores Finset.univ} {hm} {k : PUnit → Prog (TpuEff nD τ sig (Elt F) Λ₀ .tc) α} :
    (M.view.loc (c : Thread nD τ) ↦[S]{fullShare} f)
      ⊢ iprop(((M.view.loc (c : Thread nD τ) ↦[S]{fullShare} ((M.access r).write (Elt F) f w Finset.univ)) -∗ wpc c (k ⟨⟩) Q)
        -∗ wpc c (.op (.store M r w Finset.univ hx hm) k) Q) :=
  wp_store 𝒱₀ (c : Thread nD τ) none Set.univ (m := M) (r := r) (Mk := Finset.univ) (S := S) (f := f) hS

/-! ## The arguments -/

/-! ## The heads -/

/-- The attention buffer, `n` heads stored: the rows of entry 0 head by head, then those of entry 1. -/
def attI (c : Dev nD) (n : ℕ) : sProp 𝕄 :=
  iprop(∃ f : S256x512.Idx → F .f32, ⌜∀ i, 8 * ((i 0).val / 128) + (i 1).val / 64 < n → f i = attV m c i⌝ ∗ owns (c : Thread nD τ) attM fullShare f)

/-- The rectangle of head `h` of entry `b`. -/
theorem headR_inb (b : Fin 2) (h : Fin 8) : ∀ a, (![128 * b.val, 64 * h.val] : Fin 2 → ℕ) a + S128x64.size a ≤ S256x512.size a := by revert b h; decide

/-- The store of one head (and the load of the place it goes to, unused). -/
theorem step_head {α : Type} {Q : α → sProp 𝕄} (c : Dev nD) (b : Fin 2) (h : Fin 8) {n n' : ℕ} (hn : n = 8 * b.val + h.val) (hn' : n' = n + 1)
    {o : Fin 2 → ℕ} (ho : o = ![128 * b.val, 64 * h.val]) {hi hi' : ∀ a, o a + S128x64.size a ≤ S256x512.size a}
    {w : S128x64.Idx → Elt F .f32} (hw : w = headVal (qv m c) (kv m c) (vv m c) b h)
    {hl : attM.view.LoadsAt (Rect.unit (s := S256x512) o S128x64.size hi).toLoadRect}
    {hx : (attM.access (Rect.unit (s := S256x512) o S128x64.size hi')).Stores Finset.univ} {hm}
    {k : PUnit → Prog (TpuEff nD τ sig (Elt F) Λ₀ .tc) α} :
    attI m c n ⊢ iprop((attI m c n' -∗ wpc c (k ⟨⟩) Q)
      -∗ wpc c (.op (.load attM (Rect.unit (s := S256x512) o S128x64.size hi).toLoadRect hl)
          (fun _ => .op (.store attM (Rect.unit (s := S256x512) o S128x64.size hi') w Finset.univ hx hm) k)) Q) := by
  subst hn' hn ho hw
  unfold attI
  iintro ⟨%f, %hf, H⟩ Hk
  ihave H := (Entails.of_eq (owns_whole (c : Thread nD τ) cc0_scratch0 fullShare f)) $$ H
  iapply (wp_load 𝒱₀ (c : Thread nD τ) none Set.univ (m := attM) (S := Finset.univ) (Finset.subset_univ _)) $$ H
  iintro H
  iapply (store_at c attM (Rect.unit (s := S256x512) ![128 * b.val, 64 * h.val] S128x64.size hi') (S := Finset.univ) (f := f) (Finset.subset_univ _)) $$ H
  iintro H
  iapply Hk
  iexists _
  isplitr
  rotate_left
  · iapply (Entails.of_eq (owns_whole (c : Thread nD τ) cc0_scratch0 fullShare _).symm)
    iexact H
  ipureintro
  intro i hlt
  have h0 := idx2_lt0 i; have h1 := idx2_lt1 i
  by_cases hmem : (i 0).val / 128 = b.val ∧ (i 1).val / 64 = h.val
  · obtain ⟨e0, e1⟩ := hmem
    have hj : i = (Rect.unit (s := S256x512) ![128 * b.val, 64 * h.val] S128x64.size hi').emb (ix2 ⟨(i 0).val % 128, Nat.mod_lt _ (by decide)⟩ ⟨(i 1).val % 64, Nat.mod_lt _ (by decide)⟩) := by
      funext a; apply Fin.ext
      fin_cases a
      · show (i 0).val = 128 * b.val + 1 * ((i 0).val % 128); omega
      · show (i 1).val = 64 * h.val + 1 * ((i 1).val % 64); omega
    have e0' : (⟨(i 0).val / 128, by omega⟩ : Fin 2) = b := Fin.ext e0
    have e1' : (⟨(i 1).val / 64, by omega⟩ : Fin 8) = h := Fin.ext e1
    unfold attV
    rw [e0', e1']
    have := View.read_slice_write_emb (v := attM.view) (Val := Elt F) (Rect.unit (s := S256x512) ![128 * b.val, 64 * h.val] S128x64.size hi') f
      (headVal (qv m c) (kv m c) (vv m c) b h) (Finset.mem_univ (ix2 ⟨(i 0).val % 128, Nat.mod_lt _ (by decide)⟩ ⟨(i 1).val % 64, Nat.mod_lt _ (by decide)⟩))
    rw [← hj] at this
    exact this
  · have hnot : i ∉ (Finset.univ : Finset S128x64.Idx).map (Rect.unit (s := S256x512) ![128 * b.val, 64 * h.val] S128x64.size hi').emb := by
      rw [Rect.map_emb_univ, Rect.mem_set_unit]
      intro hh
      have a0 := hh 0; have a1 := hh 1
      simp at a0 a1
      exact hmem ⟨by omega, by omega⟩
    have := View.read_slice_write_of_not_mem (v := attM.view) (Val := Elt F) (Rect.unit (s := S256x512) ![128 * b.val, 64 * h.val] S128x64.size hi') f
      (headVal (qv m c) (kv m c) (vv m c) b h) Finset.univ hnot
    refine Eq.trans this (hf i ?_)
    have hbv := b.isLt; have hhv := h.isLt
    omega

/-- The load of the rows of entry `b`, its eight heads stored. -/
theorem step_att {α : Type} {Q : α → sProp 𝕄} (c : Dev nD) (b : Fin 2) {n : ℕ} (hn : 8 * b.val + 8 ≤ n)
    {o : Fin 2 → ℕ} (ho : o = ![128 * b.val, 0]) {hi : ∀ a, o a + S128x512.size a ≤ S256x512.size a}
    {hl : attM.view.LoadsAt (Rect.unit (s := S256x512) o S128x512.size hi).toLoadRect}
    {k : (S128x512.Idx → Elt F .f32) → Prog (TpuEff nD τ sig (Elt F) Λ₀ .tc) α} :
    attI m c n ⊢ iprop((attI m c n -∗ wpc c (k (attB m c b)) Q)
      -∗ wpc c (.op (.load attM (Rect.unit (s := S256x512) o S128x512.size hi).toLoadRect hl) k) Q) := by
  subst ho
  unfold attI
  iintro ⟨%f, %hf, H⟩ Hk
  ihave H := (Entails.of_eq (owns_whole (c : Thread nD τ) cc0_scratch0 fullShare f)) $$ H
  have hv : attM.view.readAt (Elt F) (Rect.unit (s := S256x512) ![128 * b.val, 0] S128x512.size hi).toLoadRect f = attB m c b := by
    funext j
    refine hf ((halfR b).emb j) ?_
    have hj0 := idx2_lt0 j; have hj1 := idx2_lt1 j
    have h0 : ((halfR b).emb j 0).val = 128 * b.val + (j 0).val := by simp [Rect.emb, Rect.unit]
    have h1 : ((halfR b).emb j 1).val = (j 1).val := by simp [Rect.emb, Rect.unit]
    rw [h0, h1]; omega
  iapply (wp_load 𝒱₀ (c : Thread nD τ) none Set.univ (m := attM) (S := Finset.univ) (Finset.subset_univ _)) $$ H
  iintro H
  rw [hv]
  iapply Hk
  iexists f
  isplitr; · ipureintro; exact hf
  iapply (Entails.of_eq (owns_whole (c : Thread nD τ) cc0_scratch0 fullShare f).symm)
  iexact H

/-! ## The halves of the partial product -/

/-- The rows of entry `b` of the partial product's buffer. -/
abbrev halfM (b : Fin 2) : Memref sig .tc .vmem S128x512 .f32 := parM.slice (halfR b) (fun _ => rfl)

/-- Half `b` of the partial product's buffer, its contents not named. -/
def parH (c : Dev nD) (b : Fin 2) : sProp 𝕄 := iprop(∃ Y, owns (c : Thread nD τ) (halfM b) fullShare Y)

/-- A batch entry's rows of the partial product, held at any contents. -/
theorem parH_intro (c : Dev nD) (b : Fin 2) (Y : S128x512.Idx → F .f32) : (owns (c : Thread nD τ) (halfM b) fullShare Y : sProp 𝕄) ⊢ parH c b := by
  unfold parH; iintro H; iexists Y; iexact H

/-- The buffer is its two halves. -/
theorem halves_split (c : Dev nD) (f : S256x512.Idx → F .f32) :
    (owns (c : Thread nD τ) parM fullShare f : sProp 𝕄) ⊢ bigSep Finset.univ fun b => parH c b :=
  (owns_rects (Val := Elt F) (c : Thread nD τ) parM fullShare halfR (fun _ _ => rfl) (fun b b' => half_disj b b') half_cover (f : S256x512.Idx → Elt F .f32)).trans
    (bigSep_mono fun b _ => parH_intro c b _)

/-- The load of the half a store goes to, unused. -/
theorem step_peek {α : Type} {Q : α → sProp 𝕄} (c : Dev nD) (b : Fin 2)
    {o : Fin 2 → ℕ} (ho : o = ![128 * b.val, 0]) {hi : ∀ a, o a + S128x512.size a ≤ S256x512.size a}
    {hl : parM.view.LoadsAt (Rect.unit (s := S256x512) o S128x512.size hi).toLoadRect}
    {k : Prog (TpuEff nD τ sig (Elt F) Λ₀ .tc) α} :
    parH c b ⊢ iprop((parH c b -∗ wpc c k Q)
      -∗ wpc c (.op (.load parM (Rect.unit (s := S256x512) o S128x512.size hi).toLoadRect hl) (fun _ => k)) Q) := by
  subst ho
  unfold parH owns
  iintro ⟨%Y, %f, %hf, H⟩ Hk
  iapply (wp_load 𝒱₀ (c : Thread nD τ) none Set.univ (m := parM) (S := (halfM b).view.set) (by rw [View.set_slice]; exact Finset.Subset.refl _)) $$ H
  iintro H
  iapply Hk
  iexists Y; iexists f
  isplitr; · ipureintro; exact hf
  iexact H

/-- A store into a batch entry's rows is read back there. -/
theorem half_read (b : Fin 2) (hi : ∀ a, (![128 * b.val, 0] : Fin 2 → ℕ) a + S128x512.size a ≤ S256x512.size a) (f : S256x512.Idx → Elt F .f32) (w : S128x512.Idx → Elt F .f32) (j : S128x512.Idx) :
    parM.view.read (Elt F) ((parM.access (Rect.unit (s := S256x512) ![128 * b.val, 0] S128x512.size hi)).write (Elt F) f w Finset.univ)
      ((Rect.unit (s := S256x512) ![128 * b.val, 0] S128x512.size hi).emb j) = w j :=
  View.read_slice_write_emb (v := parM.view) (Val := Elt F) (Rect.unit (s := S256x512) ![128 * b.val, 0] S128x512.size hi) f w (Finset.mem_univ j)

/-- What a store of a half leaves at one of its elements. -/
theorem half_written (b : Fin 2) (hi : ∀ a, (![128 * b.val, 0] : Fin 2 → ℕ) a + S128x512.size a ≤ S256x512.size a) (f : S256x512.Idx → Elt F .f32) (w : S128x512.Idx → Elt F .f32)
    (g : S256x512.Idx → Elt F .f32) (hg : g = (parM.access (Rect.unit (s := S256x512) ![128 * b.val, 0] S128x512.size hi)).write (Elt F) f w Finset.univ)
    (i : S256x512.Idx) (hmem : i ∈ (halfR b).set) : g i = w (ix2 ⟨(i 0).val % 128, Nat.mod_lt _ (by decide)⟩ (i 1)) := by
  have e0 := (mem_half b i).mp hmem
  have hj : i = (Rect.unit (s := S256x512) ![128 * b.val, 0] S128x512.size hi).emb (ix2 ⟨(i 0).val % 128, Nat.mod_lt _ (by decide)⟩ (i 1)) := by
    funext a; apply Fin.ext
    fin_cases a
    · show (i 0).val = 128 * b.val + 1 * ((i 0).val % 128); omega
    · show (i 1).val = 0 + 1 * (i 1).val; omega
  generalize (ix2 ⟨(i 0).val % 128, Nat.mod_lt _ (by decide)⟩ (i 1) : S128x512.Idx) = j at hj ⊢
  subst hj
  have h1 := half_read b hi f w j
  rw [← hg] at h1
  clear hg
  have h2 : parM.view.read (Elt F) g ((Rect.unit (s := S256x512) ![128 * b.val, 0] S128x512.size hi).emb j) = g ((Rect.unit (s := S256x512) ![128 * b.val, 0] S128x512.size hi).emb j) := rfl
  exact h2.symm.trans h1

/-- A row block of the partial product, held at contents that agree with a value, is held at that value. -/
theorem row_intro (c t : Dev nD) (g : S256x512.Idx → F .f32) {X : FVec F S16x512 .f32} (h : ∀ j, g ((rowR t).emb j) = X j) :
    (parM.view.loc (c : Thread nD τ) ↦[(rowM parM t).view.set]{fullShare} g : sProp 𝕄) ⊢ blk c (rowM parM t) fullShare X := by
  unfold blk owns
  iintro H
  iexists g
  isplitr; · ipureintro; exact funext h
  iexact H

/-- The store of half `b` of the partial product. -/
theorem step_half {α : Type} {Q : α → sProp 𝕄} (c : Dev nD) (b : Fin 2)
    {o : Fin 2 → ℕ} (ho : o = ![128 * b.val, 0]) {hi : ∀ a, o a + S128x512.size a ≤ S256x512.size a}
    {w : S128x512.Idx → Elt F .f32} (hw : w = k0_pay33 (attB m c b) (stg4 m c))
    {hx : (parM.access (Rect.unit (s := S256x512) o S128x512.size hi)).Stores Finset.univ} {hm}
    {k : PUnit → Prog (TpuEff nD τ sig (Elt F) Λ₀ .tc) α} :
    parH c b ⊢ iprop((bigSep (Finset.univ.filter fun t : Dev nD => half t = b) (fun t => blk c (rowM parM t) fullShare (parB m c t)) -∗ wpc c (k ⟨⟩) Q)
      -∗ wpc c (.op (.store parM (Rect.unit (s := S256x512) o S128x512.size hi) w Finset.univ hx hm) k) Q) := by
  subst ho hw
  unfold parH
  iintro ⟨%Y, HY⟩ Hk
  ihave HY := (Entails.of_eq (owns_open (c : Thread nD τ) (halfM b) fullShare Y)) $$ HY
  icases HY with ⟨%f, %hf, H⟩
  iapply (store_at c parM (Rect.unit (s := S256x512) ![128 * b.val, 0] S128x512.size hi) (S := (halfM b).view.set) (f := f) (Finset.Subset.refl _)) $$ H
  iintro H
  iapply Hk
  generalize hw : (parM.access (Rect.unit (s := S256x512) ![128 * b.val, 0] S128x512.size hi)).write (Elt F) f (k0_pay33 (attB m c b) (stg4 m c)) Finset.univ = g
  have hg : ∀ i ∈ (halfR b).set, g i = parV m c i := by
    intro i hmem
    have e0' : (⟨(i 0).val / 128, by have h0 := idx2_lt0 i; omega⟩ : Fin 2) = b := Fin.ext ((mem_half b i).mp hmem)
    unfold parV
    rw [e0']
    exact half_written b hi f _ g hw.symm i hmem
  have hset : (halfM b).view.set = (Finset.univ.filter fun t : Dev nD => half t = b).biUnion (fun t => (rowM parM t).view.set) := by
    have h1 : ∀ t : Dev nD, (rowM parM t).view.set = (rowR t).set := fun t => View.set_slice_whole _ _
    rw [show (halfM b).view.set = (halfR b).set from View.set_slice_whole _ _, ← half_rows b]
    exact (Finset.biUnion_congr rfl fun t _ => h1 t).symm
  have hd : ∀ t ∈ (Finset.univ.filter fun t : Dev nD => half t = b), ∀ u ∈ (Finset.univ.filter fun t : Dev nD => half t = b), t ≠ u → Disjoint (rowM parM t).view.set (rowM parM u).view.set := by
    intro t _ u _ htu
    rw [show (rowM parM t).view.set = (rowR t).set from View.set_slice_whole _ _, show (rowM parM u).view.set = (rowR u).set from View.set_slice_whole _ _]
    exact row_disj t u htu
  have hsplit : ((parM.view.loc (c : Thread nD τ)) ↦[(halfM b).view.set]{fullShare} g : sProp 𝕄)
      ⊢ bigSep (Finset.univ.filter fun t : Dev nD => half t = b) (fun t => blk c (rowM parM t) fullShare (parB m c t)) := by
    rw [hset, pointsTo_biUnion _ _ hd]
    refine bigSep_mono fun t ht => ?_
    refine row_intro c t g fun j => hg ((rowR t).emb j) ?_
    rw [← half_rows b]
    exact Finset.mem_biUnion.mpr ⟨t, ht, by rw [← Rect.map_emb_univ]; exact Finset.mem_map_of_mem _ (Finset.mem_univ j)⟩
  iapply hsplit
  iexact H

end Cert.KernelIdealProof
-- ==== Proof.KernelIdeal.Walk.lean ====
/-
The steps of a device in the form in which the body is walked: what is left over, then what the step touches, entails
the rest of the program.
-/
module

public import proofs.«01_k».proof.Proof.KernelIdeal.Data

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 idx2_lt0 idx2_lt1)

variable {F : FTy → Type} [FloatOps F]

local notation "𝕄" => MT nD τ sig Unit (Elt F) ℕ UU ℕ

variable (m : (ℓ : Loc nD τ sig) → Buf (Elt F) ℓ)

/-! ## Loads and stores through a rectangle owned as a slice -/

/-- A load through a rectangle whose slice is owned. -/
theorem load_slice {α : Type} {Q : α → sProp 𝕄} (c : Dev nD) {sh : Shape} (M : Memref sig .tc .vmem sh .f32) (r : Rect sh) (hr : ∀ a, r.stride a = 1) (q : PosShare TreeShare)
    (X : r.shape.Idx → Elt F .f32) {hl : M.view.LoadsAt r.toLoadRect} {k : (r.shape.Idx → Elt F .f32) → Prog (TpuEff nD τ sig (Elt F) Λ₀ .tc) α} :
    (owns (c : Thread nD τ) (M.slice r hr) q X : sProp 𝕄)
      ⊢ iprop((owns (c : Thread nD τ) (M.slice r hr) q X -∗ wpc c (k X) Q) -∗ wpc c (.op (.load M r.toLoadRect hl) k) Q) := by
  unfold owns
  iintro ⟨%f, %hf, H⟩ Hk
  subst hf
  iapply (wp_load 𝒱₀ (c : Thread nD τ) none Set.univ (m := M) (S := (M.slice r hr).view.set) (by rw [View.set_slice]; exact Finset.Subset.refl _)) $$ H
  iintro H
  iapply Hk
  iexists f
  isplitr; · ipureintro; rfl
  iexact H

/-- A store through a rectangle whose slice is owned. -/
theorem store_slice {α : Type} {Q : α → sProp 𝕄} (c : Dev nD) {sh : Shape} (M : Memref sig .tc .vmem sh .f32) (r : Rect sh) (hr : ∀ a, r.stride a = 1)
    (X w : r.shape.Idx → Elt F .f32) {hx : (M.access r).Stores Finset.univ} {hm} {k : PUnit → Prog (TpuEff nD τ sig (Elt F) Λ₀ .tc) α} :
    (owns (c : Thread nD τ) (M.slice r hr) fullShare X : sProp 𝕄)
      ⊢ iprop((owns (c : Thread nD τ) (M.slice r hr) fullShare w -∗ wpc c (k ⟨⟩) Q) -∗ wpc c (.op (.store M r w Finset.univ hx hm) k) Q) := by
  unfold owns
  iintro ⟨%f, %hf, H⟩ Hk
  iapply (store_at c M r (S := (M.slice r hr).view.set) (f := f) (Finset.Subset.refl _)) $$ H
  iintro H
  iapply Hk
  iexists _
  isplitr
  rotate_left
  · iexact H
  ipureintro
  exact View.read_write_univ (v := (M.slice r hr).view) (Val := Elt F) f w

/-- The load of a whole memref. -/
theorem load_all {α : Type} {Q : α → sProp 𝕄} (c : Dev nD) {sh : Shape} (M : Memref sig .tc .vmem sh .f32) (X : sh.Idx → Elt F .f32) {off : Fin sh.rank → ℕ} (hz : off = fun _ => 0)
    {hi : ∀ a, off a + sh.size a ≤ sh.size a} {hl : M.view.LoadsAt (Rect.unit (s := sh) off sh.size hi).toLoadRect}
    {k : (sh.Idx → Elt F .f32) → Prog (TpuEff nD τ sig (Elt F) Λ₀ .tc) α} :
    (owns (c : Thread nD τ) M fullShare X : sProp 𝕄)
      ⊢ iprop((owns (c : Thread nD τ) M fullShare X -∗ wpc c (k X) Q) -∗ wpc c (.op (.load M (Rect.unit (s := sh) off sh.size hi).toLoadRect hl) k) Q) := by
  unfold owns
  iintro ⟨%f, %hf, H⟩ Hk
  have hv : M.view.readAt (Elt F) (Rect.unit (s := sh) off sh.size hi).toLoadRect f = X := by
    subst hz
    rw [← hf]
    funext j
    rw [View.readAt_apply]
    refine congrArg _ (funext fun a => Fin.ext ?_)
    show 0 + 1 * (j a).val = (j a).val
    omega
  iapply (wp_load 𝒱₀ (c : Thread nD τ) none Set.univ (m := M) (S := M.view.set) (View.setOn_subset_set _ _)) $$ H
  iintro H
  rw [hv]
  iapply Hk
  iexists f
  isplitr; · ipureintro; exact hf
  iexact H

/-! ## Walking -/

/-- A step, and the rest of the walk. -/
theorem walk {R S S' W W' : sProp 𝕄} (st : S ⊢ iprop((S' -∗ W') -∗ W)) (h : iprop(R ∗ S') ⊢ W') : iprop(R ∗ S) ⊢ W := by
  iintro ⟨HR, HS⟩
  iapply st $$ HS
  iintro HS
  iapply h
  isplitl [HR] <;> iassumption

/-- A step that needs the persistent context, which stays. -/
theorem keep {C S S' W W' : sProp 𝕄} [BI.Persistent C] (st : iprop(C ∗ S) ⊢ iprop((S' -∗ W') -∗ W)) : iprop(C ∗ S) ⊢ iprop(((C ∗ S') -∗ W') -∗ W) := by
  iintro ⟨#HC, HS⟩ Hk
  iapply st $$ [HS]
  · isplitr; · iexact HC
    iexact HS
  iintro HS
  iapply Hk
  isplitr; · iexact HC
  iexact HS

/-- Two resources beside a third may change places. -/
theorem swap {R A B W : sProp 𝕄} (h : iprop((R ∗ B) ∗ A) ⊢ W) : iprop((R ∗ A) ∗ B) ⊢ W := by
  refine BIBase.Entails.trans ?_ h
  iintro ⟨⟨HR, HA⟩, HB⟩
  isplitr [HA]
  · isplitl [HR] <;> iassumption
  · iexact HA

/-- Three resources beside a fourth may be turned around. -/
theorem rot {R A B C W : sProp 𝕄} (h : iprop(((R ∗ B) ∗ C) ∗ A) ⊢ W) : iprop(((R ∗ A) ∗ B) ∗ C) ⊢ W := by
  refine BIBase.Entails.trans ?_ h
  iintro ⟨⟨⟨HR, HA⟩, HB⟩, HC⟩
  isplitr [HA]
  · isplitr [HC]
    · isplitl [HR] <;> iassumption
    · iexact HC
  · iexact HA

/-! ## The steps of the body -/

variable (K : Dev nD × Kind → ℕ)

/-- The signal to the `n + 1`st device. -/
theorem w_sig {α : Type} {Q : α → sProp 𝕄} {R : sProp 𝕄} (c : Dev nD) (n : Fin 15) {x : ℕ} (hx : x = (c.val + (n.val + 1)) % 16) {hlt : x < nD}
    {k : PUnit → Prog (TpuEff nD τ sig (Elt F) Λ₀ .tc) α}
    (h : iprop(R ∗ ctx m K ∗ sigP c (n.val + 1) ∗ ow c (n.val + 1) ![0, 0] 0) ⊢ wpc c (k ⟨⟩) Q) :
    iprop(R ∗ ctx m K ∗ sigP c n.val ∗ ow c n.val ![0, 0] 0) ⊢ wpc c (.op (.semSignal ((⟨x, hlt⟩ : Dev nD), Proc.tc) barS (1#32 : BitVec 32).toInt.toNat) k) Q :=
  walk (keep (step_signal m K c n ![0, 0] 0 (dst := ⟨x, hlt⟩) (Fin.ext hx) rfl rfl)) h

/-- The barrier's wait. -/
theorem w_bar {α : Type} {Q : α → sProp 𝕄} {R : sProp 𝕄} (c : Dev nD) {k : PUnit → Prog (TpuEff nD τ sig (Elt F) Λ₀ .tc) α}
    (h : iprop(R ∗ ctx m K ∗ dests c ∗ semVal (barC c) 0 ∗ ow c 15 ![0, 0] 0) ⊢ wpc c (k ⟨⟩) Q) :
    iprop(R ∗ ctx m K ∗ cred (tallyAt (barC c) () 15) ∗ atPos ER (barC c) 0 ∅ 0 ∗ ow c 15 ![0, 0] 0) ⊢ wpc c (.op (.semWait barS (15#32 : BitVec 32).toInt.toNat) k) Q :=
  walk (keep (step_barrier m K c ![0, 0] 0 rfl rfl)) h

/-- The turn of the `n + 1`st device among the sends of half `b`. -/
theorem w_rs {α : Type} {Q : α → sProp 𝕄} {R : sProp 𝕄} (c : Dev nD) (b : Fin 2) (n : Fin 15) (e : Fin 2 → ℕ) (he : e b = n.val) (e' : Fin 2 → ℕ) (he' : e' = Function.update e b (n.val + 1))
    {p : Prop} [Decidable p] (hp : p ↔ half (peer c (n.val + 1)) = b) {x : ℕ} (hx : x = (c.val + (n.val + 1)) % 16) {hlt : p → x < nD}
    {o0 o1 : Fin 1 → ℕ} {o2 : Fin 3 → ℕ} {o3 : Fin 2 → ℕ} (h0 : o0 = ![n.val + 1]) (h1 : o1 = ![c.val]) (h2 : o2 = ![c.val, 0, 0]) (h3 : o3 = ![16 * ((c.val + (n.val + 1)) % 16), 0])
    {i0 : p → ∀ a, o0 a + S1.size a ≤ S16.size a} {i1 : p → ∀ a, o1 a + S1.size a ≤ S16.size a} {i2 : p → ∀ a, o2 a + S1x16x512.size a ≤ S16x16x512.size a} {i3 : p → ∀ a, o3 a + S16x512.size a ≤ S256x512.size a}
    {hsc : ∀ h, ((rsM.slice (Rect.unit (s := S16x16x512) o2 S1x16x512.size (i2 h)) (fun _ => rfl)).squeeze S16x512 squeezes_S1x16x512_S16x512).view.ref.isScScratch = false}
    {hsrc : ∀ h, (parM.slice (Rect.unit (s := S256x512) o3 S16x512.size (i3 h)) (fun _ => rfl)).view.WordExact}
    {hdst : ∀ h, ((rsM.slice (Rect.unit (s := S16x16x512) o2 S1x16x512.size (i2 h)) (fun _ => rfl)).squeeze S16x512 squeezes_S1x16x512_S16x512).view.WordExact}
    {hsem : ∀ h, DmaTarget.Typed .vmem (.dma ((cc0_scratch4.slice (Rect.unit (s := S16) o1 S1.size (i1 h))).squeeze S_ squeezes_S1_S_).sem)
      (.remote (Dev.tc (⟨x, hlt h⟩ : Dev nD) : Thread nD τ) ((rsM.slice (Rect.unit (s := S16x16x512) o2 S1x16x512.size (i2 h)) (fun _ => rfl)).squeeze S16x512 squeezes_S1x16x512_S16x512)
        (.dma ((cc0_scratch3.slice (Rect.unit (s := S16) o0 S1.size (i0 h))).squeeze S_ squeezes_S1_S_).sem) (hsc h))}
    {k : Prog (TpuEff nD τ sig (Elt F) Λ₀ .tc) α}
    (h : iprop(R ∗ ctx m K ∗ rsP m c b (n.val + 1) ∗ ow c 15 e' 0) ⊢ wpc c k Q) :
    iprop(R ∗ ctx m K ∗ rsP m c b n.val ∗ ow c 15 e 0) ⊢ wpc c
      (if h : p then .op (.enqueueDma (parM.slice (Rect.unit (s := S256x512) o3 S16x512.size (i3 h)) (fun _ => rfl))
          (.remote (Dev.tc (⟨x, hlt h⟩ : Dev nD) : Thread nD τ) ((rsM.slice (Rect.unit (s := S16x16x512) o2 S1x16x512.size (i2 h)) (fun _ => rfl)).squeeze S16x512 squeezes_S1x16x512_S16x512)
            (.dma ((cc0_scratch3.slice (Rect.unit (s := S16) o0 S1.size (i0 h))).squeeze S_ squeezes_S1_S_).sem) (hsc h))
          (.dma ((cc0_scratch4.slice (Rect.unit (s := S16) o1 S1.size (i1 h))).squeeze S_ squeezes_S1_S_).sem) (hsrc h) (hdst h) (hsem h)) (fun _ => k) else k) Q :=
  walk (keep (step_rs m K c b n 15 e e' he he' 0 hp (fun h => Fin.ext hx)
    (src := fun h => parM.slice (Rect.unit (s := S256x512) o3 S16x512.size (i3 h)) (fun _ => rfl))
    (dst := fun h => (rsM.slice (Rect.unit (s := S16x16x512) o2 S1x16x512.size (i2 h)) (fun _ => rfl)).squeeze S16x512 squeezes_S1x16x512_S16x512)
    (sS := fun h => ((cc0_scratch3.slice (Rect.unit (s := S16) o0 S1.size (i0 h))).squeeze S_ squeezes_S1_S_).sem)
    (sR := fun h => ((cc0_scratch4.slice (Rect.unit (s := S16) o1 S1.size (i1 h))).squeeze S_ squeezes_S1_S_).sem)
    (fun h => row_of parM (peer c (n.val + 1)) h3 (i3 h)) (fun h => slot_of c h2 (i2 h))
    (fun h => sem_of 0 ⟨n.val + 1, by omega⟩ h0 (i0 h)) (fun h => sem_of 1 c h1 (i1 h)))) h

/-- A test whose two outcomes both go on in the same way goes on after the test. -/
theorem turn_join {α : Type} {p : Prop} [Decidable p] (A : p → TpuEff nD τ sig (Elt F) Λ₀ .tc PUnit) (k : Prog (TpuEff nD τ sig (Elt F) Λ₀ .tc) α) :
    (if h : p then Prog.lift (A h) >>= (fun _ => k) else k) = Prog.bind (if h : p then Prog.lift (A h) else .ret ⟨⟩) (fun _ => k) := by
  by_cases h : p
  · rw [dif_pos h, dif_pos h]; rfl
  · rw [dif_neg h, dif_neg h]; rfl

/-- A step taken under a condition and then a continuation is a choice between the two programs. -/
theorem turn_eq {α : Type} {p : Prop} [Decidable p] (A : p → TpuEff nD τ sig (Elt F) Λ₀ .tc PUnit) (k : Prog (TpuEff nD τ sig (Elt F) Λ₀ .tc) α) :
    Prog.bind (if h : p then Prog.lift (A h) else .ret ⟨⟩) (fun _ => k) = if h : p then .op (A h) (fun _ => k) else k := by
  by_cases h : p
  · rw [dif_pos h, dif_pos h]; rfl
  · rw [dif_neg h, dif_neg h]; rfl

/-- The turn of the `n + 1`st device, as a test that comes before what follows. -/
theorem w_turn {α : Type} {Q : α → sProp 𝕄} {R : sProp 𝕄} (c : Dev nD) (b : Fin 2) (n : Fin 15) (e : Fin 2 → ℕ) (he : e b = n.val) (e' : Fin 2 → ℕ) (he' : e' = Function.update e b (n.val + 1))
    {p : Prop} [Decidable p] (hp : p ↔ half (peer c (n.val + 1)) = b) {x : ℕ} (hx : x = (c.val + (n.val + 1)) % 16) {hlt : p → x < nD}
    {o0 o1 : Fin 1 → ℕ} {o2 : Fin 3 → ℕ} {o3 : Fin 2 → ℕ} (h0 : o0 = ![n.val + 1]) (h1 : o1 = ![c.val]) (h2 : o2 = ![c.val, 0, 0]) (h3 : o3 = ![16 * ((c.val + (n.val + 1)) % 16), 0])
    {i0 : p → ∀ a, o0 a + S1.size a ≤ S16.size a} {i1 : p → ∀ a, o1 a + S1.size a ≤ S16.size a} {i2 : p → ∀ a, o2 a + S1x16x512.size a ≤ S16x16x512.size a} {i3 : p → ∀ a, o3 a + S16x512.size a ≤ S256x512.size a}
    {hsc : ∀ h, ((rsM.slice (Rect.unit (s := S16x16x512) o2 S1x16x512.size (i2 h)) (fun _ => rfl)).squeeze S16x512 squeezes_S1x16x512_S16x512).view.ref.isScScratch = false}
    {hsrc : ∀ h, (parM.slice (Rect.unit (s := S256x512) o3 S16x512.size (i3 h)) (fun _ => rfl)).view.WordExact}
    {hdst : ∀ h, ((rsM.slice (Rect.unit (s := S16x16x512) o2 S1x16x512.size (i2 h)) (fun _ => rfl)).squeeze S16x512 squeezes_S1x16x512_S16x512).view.WordExact}
    {hsem : ∀ h, DmaTarget.Typed .vmem (.dma ((cc0_scratch4.slice (Rect.unit (s := S16) o1 S1.size (i1 h))).squeeze S_ squeezes_S1_S_).sem)
      (.remote (Dev.tc (⟨x, hlt h⟩ : Dev nD) : Thread nD τ) ((rsM.slice (Rect.unit (s := S16x16x512) o2 S1x16x512.size (i2 h)) (fun _ => rfl)).squeeze S16x512 squeezes_S1x16x512_S16x512)
        (.dma ((cc0_scratch3.slice (Rect.unit (s := S16) o0 S1.size (i0 h))).squeeze S_ squeezes_S1_S_).sem) (hsc h))}
    {k : Prog (TpuEff nD τ sig (Elt F) Λ₀ .tc) α}
    (h : iprop(R ∗ ctx m K ∗ rsP m c b (n.val + 1) ∗ ow c 15 e' 0) ⊢ wpc c k Q) :
    iprop(R ∗ ctx m K ∗ rsP m c b n.val ∗ ow c 15 e 0) ⊢ wpc c
      (Prog.bind (if h : p then (Prog.lift (.enqueueDma (parM.slice (Rect.unit (s := S256x512) o3 S16x512.size (i3 h)) (fun _ => rfl))
          (.remote (Dev.tc (⟨x, hlt h⟩ : Dev nD) : Thread nD τ) ((rsM.slice (Rect.unit (s := S16x16x512) o2 S1x16x512.size (i2 h)) (fun _ => rfl)).squeeze S16x512 squeezes_S1x16x512_S16x512)
            (.dma ((cc0_scratch3.slice (Rect.unit (s := S16) o0 S1.size (i0 h))).squeeze S_ squeezes_S1_S_).sem) (hsc h))
          (.dma ((cc0_scratch4.slice (Rect.unit (s := S16) o1 S1.size (i1 h))).squeeze S_ squeezes_S1_S_).sem) (hsrc h) (hdst h) (hsem h))) else .ret ⟨⟩) (fun _ => k)) Q := by
  rw [turn_eq]
  exact w_rs m K c b n e he e' he' hp hx h0 h1 h2 h3 h

/-- The transfer of the reduced rows to the `n + 1`st device. -/
theorem w_gs {α : Type} {Q : α → sProp 𝕄} {R : sProp 𝕄} (c : Dev nD) (n : Fin 15) {x : ℕ} (hx : x = (c.val + (n.val + 1)) % 16) {hlt : x < nD}
    {o0 o1 : Fin 1 → ℕ} {o3 : Fin 2 → ℕ} (h0 : o0 = ![n.val + 1]) (h1 : o1 = ![c.val]) (h3 : o3 = ![16 * c.val, 0])
    {i0 : ∀ a, o0 a + S1.size a ≤ S16.size a} {i1 : ∀ a, o1 a + S1.size a ≤ S16.size a} {i3 i3' : ∀ a, o3 a + S16x512.size a ≤ S256x512.size a}
    {hsc : (outM.slice (Rect.unit (s := S256x512) o3 S16x512.size i3) (fun _ => rfl)).view.ref.isScScratch = false}
    {hsrc : (outM.slice (Rect.unit (s := S256x512) o3 S16x512.size i3') (fun _ => rfl)).view.WordExact}
    {hdst : (outM.slice (Rect.unit (s := S256x512) o3 S16x512.size i3) (fun _ => rfl)).view.WordExact}
    {hsem : DmaTarget.Typed .vmem (.dma ((cc0_scratch6.slice (Rect.unit (s := S16) o1 S1.size i1)).squeeze S_ squeezes_S1_S_).sem)
      (.remote (Dev.tc (⟨x, hlt⟩ : Dev nD) : Thread nD τ) (outM.slice (Rect.unit (s := S256x512) o3 S16x512.size i3) (fun _ => rfl))
        (.dma ((cc0_scratch5.slice (Rect.unit (s := S16) o0 S1.size i0)).squeeze S_ squeezes_S1_S_).sem) hsc)}
    {k : PUnit → Prog (TpuEff nD τ sig (Elt F) Λ₀ .tc) α}
    (h : iprop(R ∗ ctx m K ∗ gsP m c (n.val + 1) ∗ ow c 15 ![15, 15] (n.val + 1)) ⊢ wpc c (k ⟨⟩) Q) :
    iprop(R ∗ ctx m K ∗ gsP m c n.val ∗ ow c 15 ![15, 15] n.val) ⊢ wpc c
      (.op (.enqueueDma (outM.slice (Rect.unit (s := S256x512) o3 S16x512.size i3') (fun _ => rfl))
          (.remote (Dev.tc (⟨x, hlt⟩ : Dev nD) : Thread nD τ) (outM.slice (Rect.unit (s := S256x512) o3 S16x512.size i3) (fun _ => rfl))
            (.dma ((cc0_scratch5.slice (Rect.unit (s := S16) o0 S1.size i0)).squeeze S_ squeezes_S1_S_).sem) hsc)
          (.dma ((cc0_scratch6.slice (Rect.unit (s := S16) o1 S1.size i1)).squeeze S_ squeezes_S1_S_).sem) hsrc hdst hsem) k) Q :=
  walk (keep (step_gs m K c n 15 ![15, 15] (t := ⟨x, hlt⟩) (Fin.ext hx) (row_of outM c h3 i3') (row_of outM c h3 i3)
    (sem_of 2 ⟨n.val + 1, by omega⟩ h0 i0) (sem_of 3 c h1 i1))) h

/-- What the receipts of partial products, of reduced rows, and the sends' completions hand over. -/
abbrev rvW (c : Dev nD) (n : ℕ) : sProp 𝕄 := waitP c (fun t => (1, t)) (fun t => blk c (slotM t) fullShare (parB m t c)) n
abbrev gvW (c : Dev nD) (n : ℕ) : sProp 𝕄 := waitP c (fun t => (3, t)) (fun t => blk c (rowM outM t) fullShare (redB m t)) n
abbrev ssW (c : Dev nD) (n : ℕ) : sProp 𝕄 := waitP c (fun t => (0, place c t)) (fun t => blk c (rowM parM t) fullShare (parB m c t)) n
abbrev gsW (c : Dev nD) (n : ℕ) : sProp 𝕄 := waitP c (fun t => (2, place c t)) (fun t => blk c (rowM outM c) (lent t) (redB m c)) n

/-- The wait for the partial product of the `n + 1`st device. -/
theorem w_rv {α : Type} {Q : α → sProp 𝕄} {R : sProp 𝕄} (c : Dev nD) (n : Fin 15) {o : Fin 1 → ℕ} (ho : o = ![(c.val + n.val + 1) % 16]) {hi : ∀ a, o a + S1.size a ≤ S16.size a}
    {sp sp' : Space} {sh sh' : Shape} {el el' : EltTy} {κ' : Idealize.ShloMosaic.Kind} {src : Memref sig .tc sp' sh' el'} {dst : Memref sig κ' sp sh el} (hN : dst.view.dmaCredit = N)
    {hsrc : src.view.WordExact} {hdst : dst.view.WordExact} {k : PUnit → Prog (TpuEff nD τ sig (Elt F) Λ₀ .tc) α}
    (h : iprop(R ∗ ctx m K ∗ rvW m c (n.val + 1) ∗ ow c 15 ![15, 15] 0) ⊢ wpc c (k ⟨⟩) Q) :
    iprop(R ∗ ctx m K ∗ rvW m c n.val ∗ ow c 15 ![15, 15] 0) ⊢ wpc c
      (.op (.waitDma2 ((cc0_scratch4.slice (Rect.unit (s := S16) o S1.size hi)).squeeze S_ squeezes_S1_S_).sem src dst hsrc hdst) k) Q :=
  walk (keep (step_wait m K c (fun t => (1, t)) (fun t => blk c (slotM t) fullShare (parB m t c)) n 15 ![15, 15] 0 2 (s := peer c (n.val + 1))
    (if_neg (peer_ne c n)) rfl (Nat.le_refl 2) (.inl (Nat.le_refl 15)) (.inl (by decide)) (.inr (by decide)) (sem_of 1 (peer c (n.val + 1)) ho hi) hN)) h

/-- The wait for the reduced rows of the `n + 1`st device. -/
theorem w_gv {α : Type} {Q : α → sProp 𝕄} {R : sProp 𝕄} (c : Dev nD) (n : Fin 15) {o : Fin 1 → ℕ} (ho : o = ![(c.val + n.val + 1) % 16]) {hi : ∀ a, o a + S1.size a ≤ S16.size a}
    {sp sp' : Space} {sh sh' : Shape} {el el' : EltTy} {κ' : Idealize.ShloMosaic.Kind} {src : Memref sig .tc sp' sh' el'} {dst : Memref sig κ' sp sh el} (hN : dst.view.dmaCredit = N)
    {hsrc : src.view.WordExact} {hdst : dst.view.WordExact} {k : PUnit → Prog (TpuEff nD τ sig (Elt F) Λ₀ .tc) α}
    (h : iprop(R ∗ ctx m K ∗ gvW m c (n.val + 1) ∗ ow c 15 ![15, 15] 15) ⊢ wpc c (k ⟨⟩) Q) :
    iprop(R ∗ ctx m K ∗ gvW m c n.val ∗ ow c 15 ![15, 15] 15) ⊢ wpc c
      (.op (.waitDma2 ((cc0_scratch6.slice (Rect.unit (s := S16) o S1.size hi)).squeeze S_ squeezes_S1_S_).sem src dst hsrc hdst) k) Q :=
  walk (keep (step_wait m K c (fun t => (3, t)) (fun t => blk c (rowM outM t) fullShare (redB m t)) n 15 ![15, 15] 15 3 (s := peer c (n.val + 1))
    (if_neg (peer_ne c n)) rfl (Nat.le_refl 3) (.inl (Nat.le_refl 15)) (.inl (by decide)) (.inl (Nat.le_refl 15)) (sem_of 3 (peer c (n.val + 1)) ho hi) hN)) h

/-- The wait for the send of the `n + 1`st device's partial product to complete. -/
theorem w_ss {α : Type} {Q : α → sProp 𝕄} {R : sProp 𝕄} (c : Dev nD) (n : Fin 15) {o : Fin 1 → ℕ} (ho : o = ![n.val + 1]) {hi : ∀ a, o a + S1.size a ≤ S16.size a}
    {sp sp' : Space} {sh sh' : Shape} {el el' : EltTy} {κ' : Idealize.ShloMosaic.Kind} {src : Memref sig .tc sp' sh' el'} {dst : Memref sig κ' sp sh el} (hN : dst.view.dmaCredit = N)
    {hsrc : src.view.WordExact} {hdst : dst.view.WordExact} {k : PUnit → Prog (TpuEff nD τ sig (Elt F) Λ₀ .tc) α}
    (h : iprop(R ∗ ctx m K ∗ ssW m c (n.val + 1) ∗ ow c 15 ![15, 15] 15) ⊢ wpc c (k ⟨⟩) Q) :
    iprop(R ∗ ctx m K ∗ ssW m c n.val ∗ ow c 15 ![15, 15] 15) ⊢ wpc c
      (.op (.waitDma2 ((cc0_scratch3.slice (Rect.unit (s := S16) o S1.size hi)).squeeze S_ squeezes_S1_S_).sem src dst hsrc hdst) k) Q :=
  walk (keep (step_wait m K c (fun t => (0, place c t)) (fun t => blk c (rowM parM t) fullShare (parB m c t)) n 15 ![15, 15] 15 0 (s := c)
    (if_neg (place_ne c _ (peer_ne c n))) (by show blk c (rowM parM (peer c (place c (peer c (n.val + 1))).val)) _ _ = _; rw [peer_place]) (Nat.le_refl 0) (.inl (Nat.le_refl 15)) (.inl (by decide)) (.inl (Nat.le_refl 15))
    (by rw [place_peer]; exact sem_of 0 ⟨n.val + 1, by omega⟩ ho hi) hN)) h

/-- The wait for the send of the reduced rows to the `n + 1`st device to complete. -/
theorem w_gw {α : Type} {Q : α → sProp 𝕄} {R : sProp 𝕄} (c : Dev nD) (n : Fin 15) {o : Fin 1 → ℕ} (ho : o = ![n.val + 1]) {hi : ∀ a, o a + S1.size a ≤ S16.size a}
    {sp sp' : Space} {sh sh' : Shape} {el el' : EltTy} {κ' : Idealize.ShloMosaic.Kind} {src : Memref sig .tc sp' sh' el'} {dst : Memref sig κ' sp sh el} (hN : dst.view.dmaCredit = N)
    {hsrc : src.view.WordExact} {hdst : dst.view.WordExact} {k : PUnit → Prog (TpuEff nD τ sig (Elt F) Λ₀ .tc) α}
    (h : iprop(R ∗ ctx m K ∗ gsW m c (n.val + 1) ∗ ow c 15 ![15, 15] 15) ⊢ wpc c (k ⟨⟩) Q) :
    iprop(R ∗ ctx m K ∗ gsW m c n.val ∗ ow c 15 ![15, 15] 15) ⊢ wpc c
      (.op (.waitDma2 ((cc0_scratch5.slice (Rect.unit (s := S16) o S1.size hi)).squeeze S_ squeezes_S1_S_).sem src dst hsrc hdst) k) Q :=
  walk (keep (step_wait m K c (fun t => (2, place c t)) (fun t => blk c (rowM outM c) (lent t) (redB m c)) n 15 ![15, 15] 15 0 (s := c)
    (if_neg (place_ne c _ (peer_ne c n))) (by show blk c (rowM outM c) (lent (peer c (place c (peer c (n.val + 1))).val)) _ = _; rw [peer_place]) (Nat.le_refl 0) (.inl (Nat.le_refl 15)) (.inl (by decide)) (.inl (Nat.le_refl 15))
    (by rw [place_peer]; exact sem_of 2 ⟨n.val + 1, by omega⟩ ho hi) hN)) h

/-! ## The data steps of the body -/

/-- The load of an argument's block. -/
theorem w_arg {α : Type} {Q : α → sProp 𝕄} {R : sProp 𝕄} (c : Dev nD) {sh : Shape} (M : Memref sig .tc .vmem sh .f32) (X : sh.Idx → Elt F .f32) {off : Fin sh.rank → ℕ} (hz : off = fun _ => 0)
    {hi : ∀ a, off a + sh.size a ≤ sh.size a} {hl : M.view.LoadsAt (Rect.unit (s := sh) off sh.size hi).toLoadRect} {k : (sh.Idx → Elt F .f32) → Prog (TpuEff nD τ sig (Elt F) Λ₀ .tc) α}
    (h : iprop(R ∗ owns (c : Thread nD τ) M fullShare X) ⊢ wpc c (k X) Q) :
    iprop(R ∗ owns (c : Thread nD τ) M fullShare X) ⊢ wpc c (.op (.load M (Rect.unit (s := sh) off sh.size hi).toLoadRect hl) k) Q :=
  walk (load_all c M X hz) h

/-- The store of head `h` of entry `b`. -/
theorem w_head {α : Type} {Q : α → sProp 𝕄} {R : sProp 𝕄} (c : Dev nD) (b : Fin 2) (h : Fin 8) {n : ℕ} (hn : n = 8 * b.val + h.val)
    {o : Fin 2 → ℕ} (ho : o = ![128 * b.val, 64 * h.val]) {hi hi' : ∀ a, o a + S128x64.size a ≤ S256x512.size a}
    {w : S128x64.Idx → Elt F .f32} (hw : w = headVal (qv m c) (kv m c) (vv m c) b h)
    {hl : attM.view.LoadsAt (Rect.unit (s := S256x512) o S128x64.size hi).toLoadRect}
    {hx : (attM.access (Rect.unit (s := S256x512) o S128x64.size hi')).Stores Finset.univ} {hm}
    {k : PUnit → Prog (TpuEff nD τ sig (Elt F) Λ₀ .tc) α}
    (hk : iprop(R ∗ attI m c (n + 1)) ⊢ wpc c (k ⟨⟩) Q) :
    iprop(R ∗ attI m c n) ⊢ wpc c (.op (.load attM (Rect.unit (s := S256x512) o S128x64.size hi).toLoadRect hl)
          (fun _ => .op (.store attM (Rect.unit (s := S256x512) o S128x64.size hi') w Finset.univ hx hm) k)) Q :=
  walk (step_head m c b h hn rfl ho hw) hk

/-- The load of entry `b`'s attention rows. -/
theorem w_att {α : Type} {Q : α → sProp 𝕄} {R : sProp 𝕄} (c : Dev nD) (b : Fin 2) {n : ℕ} (hn : 8 * b.val + 8 ≤ n)
    {o : Fin 2 → ℕ} (ho : o = ![128 * b.val, 0]) {hi : ∀ a, o a + S128x512.size a ≤ S256x512.size a}
    {hl : attM.view.LoadsAt (Rect.unit (s := S256x512) o S128x512.size hi).toLoadRect}
    {k : (S128x512.Idx → Elt F .f32) → Prog (TpuEff nD τ sig (Elt F) Λ₀ .tc) α}
    (hk : iprop(R ∗ attI m c n) ⊢ wpc c (k (attB m c b)) Q) :
    iprop(R ∗ attI m c n) ⊢ wpc c (.op (.load attM (Rect.unit (s := S256x512) o S128x512.size hi).toLoadRect hl) k) Q :=
  walk (step_att m c b hn ho) hk

/-- The rows of half `b` of device `c`'s partial product. -/
def rowsH (c : Dev nD) (b : Fin 2) : sProp 𝕄 := bigSep (Finset.univ.filter fun t : Dev nD => half t = b) (fun t => blk c (rowM parM t) fullShare (parB m c t))

/-- The load, unused, of the half a store goes to. -/
theorem w_peek {α : Type} {Q : α → sProp 𝕄} {R : sProp 𝕄} (c : Dev nD) (b : Fin 2)
    {o : Fin 2 → ℕ} (ho : o = ![128 * b.val, 0]) {hi : ∀ a, o a + S128x512.size a ≤ S256x512.size a}
    {hl : parM.view.LoadsAt (Rect.unit (s := S256x512) o S128x512.size hi).toLoadRect} {k : Prog (TpuEff nD τ sig (Elt F) Λ₀ .tc) α}
    (hk : iprop(R ∗ parH c b) ⊢ wpc c k Q) :
    iprop(R ∗ parH c b) ⊢ wpc c (.op (.load parM (Rect.unit (s := S256x512) o S128x512.size hi).toLoadRect hl) (fun _ => k)) Q :=
  walk (step_peek c b ho) hk

/-- The store of half `b`. -/
theorem w_half {α : Type} {Q : α → sProp 𝕄} {R : sProp 𝕄} (c : Dev nD) (b : Fin 2)
    {o : Fin 2 → ℕ} (ho : o = ![128 * b.val, 0]) {hi : ∀ a, o a + S128x512.size a ≤ S256x512.size a}
    {w : S128x512.Idx → Elt F .f32} (hw : w = k0_pay33 (attB m c b) (stg4 m c))
    {hx : (parM.access (Rect.unit (s := S256x512) o S128x512.size hi)).Stores Finset.univ} {hm} {k : PUnit → Prog (TpuEff nD τ sig (Elt F) Λ₀ .tc) α}
    (hk : iprop(R ∗ rowsH m c b) ⊢ wpc c (k ⟨⟩) Q) :
    iprop(R ∗ parH c b) ⊢ wpc c (.op (.store parM (Rect.unit (s := S256x512) o S128x512.size hi) w Finset.univ hx hm) k) Q :=
  walk (step_half m c b ho hw) hk

/-- The load of sixteen rows owned. -/
theorem w_row {α : Type} {Q : α → sProp 𝕄} {R : sProp 𝕄} (c t : Dev nD) (b : Memref sig .tc .vmem S256x512 .f32) (X : FVec F S16x512 .f32)
    {o : Fin 2 → ℕ} (ho : o = ![16 * t.val, 0]) {hi : ∀ a, o a + S16x512.size a ≤ S256x512.size a}
    {hl : b.view.LoadsAt (Rect.unit (s := S256x512) o S16x512.size hi).toLoadRect} {k : (S16x512.Idx → Elt F .f32) → Prog (TpuEff nD τ sig (Elt F) Λ₀ .tc) α}
    (hk : iprop(R ∗ blk c (rowM b t) fullShare X) ⊢ wpc c (k X) Q) :
    iprop(R ∗ blk c (rowM b t) fullShare X) ⊢ wpc c (.op (.load b (Rect.unit (s := S256x512) o S16x512.size hi).toLoadRect hl) k) Q := by
  subst ho
  exact walk (load_slice c b (rowR t) (fun _ => rfl) fullShare X) hk

/-- The store of sixteen rows owned. -/
theorem w_put {α : Type} {Q : α → sProp 𝕄} {R : sProp 𝕄} (c t : Dev nD) (b : Memref sig .tc .vmem S256x512 .f32) (X w : FVec F S16x512 .f32)
    {o : Fin 2 → ℕ} (ho : o = ![16 * t.val, 0]) {hi : ∀ a, o a + S16x512.size a ≤ S256x512.size a}
    {hx : (b.access (Rect.unit (s := S256x512) o S16x512.size hi)).Stores Finset.univ} {hm} {k : PUnit → Prog (TpuEff nD τ sig (Elt F) Λ₀ .tc) α}
    (hk : iprop(R ∗ blk c (rowM b t) fullShare w) ⊢ wpc c (k ⟨⟩) Q) :
    iprop(R ∗ blk c (rowM b t) fullShare X) ⊢ wpc c (.op (.store b (Rect.unit (s := S256x512) o S16x512.size hi) w Finset.univ hx hm) k) Q := by
  subst ho
  exact walk (store_slice c b (rowR t) (fun _ => rfl) X w) hk

/-- Sixteen rows as a slot's contents. -/
def castS (X : FVec F S16x512 .f32) : FVec F S1x16x512 .f32 := shapeCast S1x16x512 X shapeCasts_S16x512_S1x16x512

/-- A slot at contents `X` is its slice at `X`'s cast. -/
theorem slot_cast (c t : Dev nD) (X : FVec F S16x512 .f32) :
    (blk c (slotM t) fullShare X : sProp 𝕄) = owns (c : Thread nD τ) (rsM.slice (slotR t) (fun _ => rfl)) fullShare (castS X) := by
  rw [slot_eq]; unfold castS; rw [shapeCast_shapeCast]

/-- The load of a slot owned. -/
theorem w_slot {α : Type} {Q : α → sProp 𝕄} {R : sProp 𝕄} (c t : Dev nD) (X : FVec F S16x512 .f32)
    {o : Fin 3 → ℕ} (ho : o = ![t.val, 0, 0]) {hi : ∀ a, o a + S1x16x512.size a ≤ S16x16x512.size a}
    {hl : rsM.view.LoadsAt (Rect.unit (s := S16x16x512) o S1x16x512.size hi).toLoadRect} {k : (S1x16x512.Idx → Elt F .f32) → Prog (TpuEff nD τ sig (Elt F) Λ₀ .tc) α}
    (hk : iprop(R ∗ blk c (slotM t) fullShare X) ⊢ wpc c (k (castS X)) Q) :
    iprop(R ∗ blk c (slotM t) fullShare X) ⊢ wpc c (.op (.load rsM (Rect.unit (s := S16x16x512) o S1x16x512.size hi).toLoadRect hl) k) Q := by
  subst ho
  rw [slot_cast] at hk ⊢
  exact walk (load_slice c rsM (slotR t) (fun _ => rfl) fullShare (castS X)) hk

/-- The store of a slot owned. -/
theorem w_fill {α : Type} {Q : α → sProp 𝕄} {R : sProp 𝕄} (c t : Dev nD) (X Y : FVec F S16x512 .f32) {w : S1x16x512.Idx → Elt F .f32} (hw : w = castS Y)
    {o : Fin 3 → ℕ} (ho : o = ![t.val, 0, 0]) {hi : ∀ a, o a + S1x16x512.size a ≤ S16x16x512.size a}
    {hx : (rsM.access (Rect.unit (s := S16x16x512) o S1x16x512.size hi)).Stores Finset.univ} {hm} {k : PUnit → Prog (TpuEff nD τ sig (Elt F) Λ₀ .tc) α}
    (hk : iprop(R ∗ blk c (slotM t) fullShare Y) ⊢ wpc c (k ⟨⟩) Q) :
    iprop(R ∗ blk c (slotM t) fullShare X) ⊢ wpc c (.op (.store rsM (Rect.unit (s := S16x16x512) o S1x16x512.size hi) w Finset.univ hx hm) k) Q := by
  subst ho hw
  rw [slot_cast] at hk ⊢
  exact walk (store_slice c rsM (slotR t) (fun _ => rfl) (castS X) (castS Y)) hk

/-- The load of a slot received, `n'` waits having been made. -/
theorem w_got {α : Type} {Q : α → sProp 𝕄} {R : sProp 𝕄} (c : Dev nD) (n : Fin 15) (n' : ℕ) (hn : n.val + 1 ≤ n')
    {o : Fin 3 → ℕ} (ho : o = ![(c.val + n.val + 1) % 16, 0, 0]) {hi : ∀ a, o a + S1x16x512.size a ≤ S16x16x512.size a}
    {hl : rsM.view.LoadsAt (Rect.unit (s := S16x16x512) o S1x16x512.size hi).toLoadRect} {k : (S1x16x512.Idx → Elt F .f32) → Prog (TpuEff nD τ sig (Elt F) Λ₀ .tc) α}
    {C : sProp 𝕄}
    (hk : iprop(R ∗ ctx m K ∗ rvW m c n' ∗ C) ⊢ wpc c (k (castS (parB m (peer c (n.val + 1)) c))) Q) :
    iprop(R ∗ ctx m K ∗ rvW m c n' ∗ C) ⊢ wpc c (.op (.load rsM (Rect.unit (s := S16x16x512) o S1x16x512.size hi).toLoadRect hl) k) Q := by
  have hA : waitT c (fun t => (1, t)) (fun t => blk c (slotM t) fullShare (parB m t c)) n' (peer c (n.val + 1))
      = iprop(semVal (kcell (c, some (1, peer c (n.val + 1)))) 0 ∗ blk c (slotM (peer c (n.val + 1))) fullShare (parB m (peer c (n.val + 1)) c)) := by
    unfold waitT; rw [if_neg (peer_ne c n), dist_peer, if_pos hn]
  have hR : rvW m c n' = iprop((semVal (kcell (c, some (1, peer c (n.val + 1)))) 0 ∗ blk c (slotM (peer c (n.val + 1))) fullShare (parB m (peer c (n.val + 1)) c)) ∗
      bigSep (Finset.univ.erase (peer c (n.val + 1))) (waitT c (fun t => (1, t)) (fun t => blk c (slotM t) fullShare (parB m t c)) n')) := by
    rw [← hA]; exact bigSep_univ_at _ _
  rw [hR] at hk ⊢
  have p1 : ∀ A B D E : sProp 𝕄, iprop(R ∗ ctx m K ∗ ((A ∗ B) ∗ D) ∗ C) ⊢ iprop((R ∗ ctx m K ∗ A ∗ D ∗ C) ∗ B) := by
    intro A B D E
    iintro ⟨HR, HK, ⟨⟨HA, HB⟩, HD⟩, HC⟩
    isplitr [HB]
    · isplitl [HR]; · iexact HR
      isplitl [HK]; · iexact HK
      isplitl [HA]; · iexact HA
      isplitl [HD] <;> iassumption
    · iexact HB
  have p2 : ∀ A B D E : sProp 𝕄, iprop((R ∗ ctx m K ∗ A ∗ D ∗ C) ∗ B) ⊢ iprop(R ∗ ctx m K ∗ ((A ∗ B) ∗ D) ∗ C) := by
    intro A B D E
    iintro ⟨⟨HR, HK, HA, HD, HC⟩, HB⟩
    isplitl [HR]; · iexact HR
    isplitl [HK]; · iexact HK
    isplitr [HC]
    · isplitr [HD]
      · isplitl [HA] <;> iassumption
      · iexact HD
    · iexact HC
  exact (p1 _ _ _ iprop(emp)).trans (w_slot c (peer c (n.val + 1)) (parB m (peer c (n.val + 1)) c) ho ((p2 _ _ _ iprop(emp)).trans hk))

/-- One more addend. -/
theorem acc_step (c : Dev nD) (n : ℕ) : addf (accV m c n) (shapeCast S16x512 (castS (parB m (peer c (n + 1)) c)) shapeCasts_S1x16x512_S16x512) = accV m c (n + 1) := by
  unfold castS; rw [shapeCast_shapeCast]; rfl

/-- The copied row block is stored with a leading axis of one. -/
theorem pay34_eq (X : FVec F S16x512 .f32) : k0_pay34 X = castS X := by
  unfold k0_pay34 castS; exact shapeCast_self _ _
/-- The first sum is over the device and its first follower. -/
theorem pay35_eq (c : Dev nD) : k0_pay35 (castS (parB m c c)) (castS (parB m (peer c 1) c)) = accV m c 1 := by
  rw [← acc_step]; unfold k0_pay35 castS; rw [shapeCast_shapeCast]; rfl
/-- The running sum then covers 3 followers. -/
theorem pay36_eq (c : Dev nD) : k0_pay36 (accV m c 1) (castS (parB m (peer c 2) c)) (castS (parB m (peer c 3) c)) = accV m c 3 := by
  rw [← acc_step m c 2, ← acc_step m c 1]; rfl
/-- The running sum then covers 5 followers. -/
theorem pay37_eq (c : Dev nD) : k0_pay37 (accV m c 3) (castS (parB m (peer c 4) c)) (castS (parB m (peer c 5) c)) = accV m c 5 := by
  rw [← acc_step m c 4, ← acc_step m c 3]; rfl
/-- The running sum then covers 7 followers. -/
theorem pay38_eq (c : Dev nD) : k0_pay38 (accV m c 5) (castS (parB m (peer c 6) c)) (castS (parB m (peer c 7) c)) = accV m c 7 := by
  rw [← acc_step m c 6, ← acc_step m c 5]; rfl
/-- The running sum then covers 10 followers. -/
theorem pay39_eq (c : Dev nD) : k0_pay39 (accV m c 7) (castS (parB m (peer c 8) c)) (castS (parB m (peer c 9) c)) (castS (parB m (peer c 10) c)) = accV m c 10 := by
  rw [← acc_step m c 9, ← acc_step m c 8, ← acc_step m c 7]; rfl
/-- The running sum then covers 12 followers. -/
theorem pay40_eq (c : Dev nD) : k0_pay40 (accV m c 10) (castS (parB m (peer c 11) c)) (castS (parB m (peer c 12) c)) = accV m c 12 := by
  rw [← acc_step m c 11, ← acc_step m c 10]; rfl
/-- The running sum then covers 14 followers. -/
theorem pay41_eq (c : Dev nD) : k0_pay41 (accV m c 12) (castS (parB m (peer c 13) c)) (castS (parB m (peer c 14) c)) = accV m c 14 := by
  rw [← acc_step m c 13, ← acc_step m c 12]; rfl
/-- The last sum is the reduced row block. -/
theorem pay42_eq (c : Dev nD) : k0_pay42 (accV m c 14) (castS (parB m (peer c 15) c)) = redB m c := by
  unfold redB; rw [← acc_step m c 14]; rfl

end Cert.KernelIdealProof
-- ==== Proof.KernelIdeal.Body1.lean ====
/-
The first third of the body: the signals, the barrier, the projections, the first entry's heads, and the first half of the
partial product.
-/
module

public import proofs.«01_k».proof.Proof.KernelIdeal.Walk

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Kind → ℕ)

/-- A part of the body at the kernel's buffers. -/
abbrev onBufs {α : Type _} (f : (a0 : Memref sig .tc .vmem S2x128x512 .f32) → a0.IsWhole → (a1 : Memref sig .tc .vmem S512x512 .f32) → a1.IsWhole →
    (a2 : Memref sig .tc .vmem S512x512 .f32) → a2.IsWhole → (a3 : Memref sig .tc .vmem S512x512 .f32) → a3.IsWhole → (a4 : Memref sig .tc .vmem S512x512 .f32) → a4.IsWhole →
    (a5 : Memref sig .tc .vmem S256x512 .f32) → a5.IsWhole → (a6 : Memref sig .tc .vmem S256x512 .f32) → a6.IsWhole → (a7 : Memref sig .tc .vmem S256x512 .f32) → a7.IsWhole →
    (a8 : Memref sig .tc .vmem S16x16x512 .f32) → a8.IsWhole → DmaSems sig S16 → DmaSems sig S16 → DmaSems sig S16 → DmaSems sig S16 → α) : α :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) outM (Memref.isWhole_whole _) attM (Memref.isWhole_whole _)
    parM (Memref.isWhole_whole _) rsM (Memref.isWhole_whole _) cc0_scratch3 cc0_scratch4 cc0_scratch5 cc0_scratch6

/-- The barrier's array, as the body names it. -/
abbrev barA : Sems sig S_ := SemArray.scalar (sig.barrier 0 rfl)

/-- The first five signals. -/
theorem part1 {Q : _ → sProp 𝕄} {R : sProp 𝕄} (c : Dev nD)
    (h : ∀ v2 v24 w, iprop(R ∗ ctx m K ∗ sigP c 5 ∗ ow c 5 ![0, 0] 0) ⊢ Q ⟨c, v2, barA, v24, w⟩) :
    iprop(R ∗ ctx m K ∗ sigP c 0 ∗ ow c 0 ![0, 0] 0) ⊢ wpc c (onBufs (k0_part1 (F := F))) Q := by
  unfold onBufs wpc
  rw [k0_part1_eq_skeleton]
  unfold k0_part1_skel
  simp only [semSignalWord, semWaitWord, Prog.lift, Prog.bind_op, Prog.bind_ret, Prog.pure_eq_ret, wp_deviceId]
  refine w_sig m K c 0 (k0_dev1_eq c) ?_
  refine w_sig m K c 1 (k0_dev2_eq c) ?_
  refine w_sig m K c 2 (k0_dev3_eq c) ?_
  refine w_sig m K c 3 (k0_dev4_eq c) ?_
  refine w_sig m K c 4 (k0_dev5_eq c) ?_
  rw [wpc, wp_ret]
  exact (h _ _ _).trans fupd_intro

/-- Six more signals. -/
theorem part2 {Q : _ → sProp 𝕄} {R : sProp 𝕄} (c : Dev nD) (v2 v24 w : BitVec 32)
    (h : ∀ v48 w, iprop(R ∗ ctx m K ∗ sigP c 11 ∗ ow c 11 ![0, 0] 0) ⊢ Q ⟨v48, w⟩) :
    iprop(R ∗ ctx m K ∗ sigP c 5 ∗ ow c 5 ![0, 0] 0) ⊢ wpc c (onBufs (k0_part2 (F := F)) c v2 barA v24 w) Q := by
  unfold onBufs wpc
  rw [k0_part2_eq_skeleton]
  unfold k0_part2_skel
  simp only [semSignalWord, semWaitWord, Prog.lift, Prog.bind_op, Prog.bind_ret, Prog.pure_eq_ret]
  refine w_sig m K c 5 (k0_dev6_eq c) ?_
  refine w_sig m K c 6 (k0_dev7_eq c) ?_
  refine w_sig m K c 7 (k0_dev8_eq c) ?_
  refine w_sig m K c 8 (k0_dev9_eq c) ?_
  refine w_sig m K c 9 (k0_dev10_eq c) ?_
  refine w_sig m K c 10 (k0_dev11_eq c) ?_
  rw [wpc, wp_ret]
  exact (h _ _).trans fupd_intro

/-- A device's own argument blocks, as the body loads them. -/
abbrev argO (c : Dev nD) : sProp 𝕄 :=
  iprop(owns (c : Thread nD τ) (Memref.whole cc0_stg0_0) fullShare (stg0 m c) ∗ owns (c : Thread nD τ) (Memref.whole cc0_stg1_0) fullShare (stg1 m c)
    ∗ owns (c : Thread nD τ) (Memref.whole cc0_stg2_0) fullShare (stg2 m c))

/-- The zero offsets of a matrix. -/
theorem zero2 : (![0, 0] : Fin 2 → ℕ) = fun _ => 0 := by decide
/-- The zero offsets of an array of rank three. -/
theorem zero3 : (![0, 0, 0] : Fin 3 → ℕ) = fun _ => 0 := by decide

/-- The last four signals, the barrier's wait, and the query and key projections. -/
theorem part3 {Q : _ → sProp 𝕄} {R : sProp 𝕄} (c : Dev nD) (v2 v48 w : BitVec 32)
    (h : iprop((R ∗ argO m c) ∗ ctx m K ∗ dests c ∗ semVal (barC c) 0 ∗ ow c 15 ![0, 0] 0) ⊢ Q ⟨k0_pay1 (stg0 m c), qv m c, kv m c⟩) :
    iprop((R ∗ argO m c ∗ cred (tallyAt (barC c) () 15) ∗ atPos ER (barC c) 0 ∅ 0) ∗ ctx m K ∗ sigP c 11 ∗ ow c 11 ![0, 0] 0)
      ⊢ wpc c (onBufs (k0_part3 (F := F)) c v2 barA v48 w) Q := by
  unfold onBufs wpc
  rw [k0_part3_eq_skeleton]
  unfold k0_part3_skel
  simp only [semSignalWord, semWaitWord, Prog.lift, Prog.bind_op, Prog.bind_ret, Prog.pure_eq_ret]
  refine w_sig m K c 11 (k0_dev12_eq c) ?_
  refine w_sig m K c 12 (k0_dev13_eq c) ?_
  refine w_sig m K c 13 (k0_dev14_eq c) ?_
  refine w_sig m K c 14 (k0_dev15_eq c) ?_
  have p1 : iprop((R ∗ argO m c ∗ cred (tallyAt (barC c) () 15) ∗ atPos ER (barC c) 0 ∅ 0) ∗ ctx m K ∗ sigP c 15 ∗ ow c 15 ![0, 0] 0)
      ⊢ iprop((R ∗ argO m c) ∗ ctx m K ∗ cred (tallyAt (barC c) () 15) ∗ atPos ER (barC c) 0 ∅ 0 ∗ ow c 15 ![0, 0] 0) := by
    iintro ⟨⟨HR, HA, HC, HP⟩, HK, -, HO⟩
    isplitl [HR HA]
    · isplitl [HR] <;> iassumption
    isplitl [HK]; · iexact HK
    isplitl [HC]; · iexact HC
    isplitl [HP] <;> iassumption
  refine p1.trans (w_bar m K c ?_)
  have p2 : ∀ X A B C : sProp 𝕄, iprop((R ∗ A ∗ B ∗ C) ∗ X) ⊢ iprop((((R ∗ X) ∗ B) ∗ C) ∗ A) := by
    intro X A B C
    iintro ⟨⟨HR, HA, HB, HC⟩, HX⟩
    isplitr [HA]
    · isplitr [HC]
      · isplitr [HB]
        · isplitl [HR] <;> iassumption
        · iexact HB
      · iexact HC
    · iexact HA
  have p3 : ∀ X A B C : sProp 𝕄, iprop((((R ∗ X) ∗ A) ∗ B) ∗ C) ⊢ iprop((R ∗ A ∗ B ∗ C) ∗ X) := by
    intro X A B C
    iintro ⟨⟨⟨⟨HR, HX⟩, HA⟩, HB⟩, HC⟩
    isplitr [HX]
    · isplitl [HR]; · iexact HR
      isplitl [HA]; · iexact HA
      isplitl [HB] <;> iassumption
    · iexact HX
  refine (p2 _ _ _ _).trans ?_
  refine w_arg c _ (stg0 m c) zero3 ?_
  refine rot ?_
  refine w_arg c _ (stg1 m c) zero2 ?_
  refine rot ?_
  refine w_arg c _ (stg2 m c) zero2 ?_
  rw [wpc, wp_ret]
  exact ((p3 _ _ _ _).trans h).trans fupd_intro

/-- What the heads' stores and the partial product's work with: the attention buffer and the output projection's block. -/
theorem part4 {Q : _ → sProp 𝕄} {R : sProp 𝕄} (c : Dev nD)
    (h : iprop((R ∗ owns (c : Thread nD τ) (Memref.whole cc0_stg3_0) fullShare (stg3 m c)) ∗ attI m c 2) ⊢ Q ⟨vv m c, k0_pay7 (qv m c), k0_pay8 (kv m c)⟩) :
    iprop((R ∗ owns (c : Thread nD τ) (Memref.whole cc0_stg3_0) fullShare (stg3 m c)) ∗ attI m c 0)
      ⊢ wpc c (onBufs (k0_part4 (F := F)) (k0_pay1 (stg0 m c)) (qv m c) (kv m c)) Q := by
  unfold onBufs wpc
  rw [k0_part4_eq_skeleton]
  unfold k0_part4_skel
  simp only [Prog.lift, Prog.bind_op, Prog.bind_ret, Prog.pure_eq_ret]
  refine swap ?_
  refine w_arg c _ (stg3 m c) zero2 ?_
  refine swap ?_
  refine w_head m c 0 0 rfl rfl (pay5_eq _ _ _ _) ?_
  refine w_head m c 0 1 rfl rfl (pay6_eq _ _ _ _) ?_
  rw [wpc, wp_ret]
  exact h.trans fupd_intro

/-- Heads 2 and 3 of the first entry. -/
theorem part5 {Q : _ → sProp 𝕄} {R : sProp 𝕄} (c : Dev nD)
    (h : iprop(R ∗ attI m c 4) ⊢ Q ⟨k0_pay11 (vv m c), k0_pay12 (qv m c) (kv m c)⟩) :
    iprop(R ∗ attI m c 2) ⊢ wpc c (onBufs (k0_part5 (F := F)) (qv m c) (kv m c) (vv m c) (k0_pay7 (qv m c)) (k0_pay8 (kv m c))) Q := by
  unfold onBufs wpc
  rw [k0_part5_eq_skeleton]
  unfold k0_part5_skel
  simp only [Prog.lift, Prog.bind_op, Prog.bind_ret, Prog.pure_eq_ret]
  refine w_head m c 0 2 rfl rfl (pay9_eq _ _ _) ?_
  refine w_head m c 0 3 rfl rfl (pay10_eq _ _ _) ?_
  rw [wpc, wp_ret]
  exact h.trans fupd_intro

/-- Heads 4 and 5 of the first entry. -/
theorem part6 {Q : _ → sProp 𝕄} {R : sProp 𝕄} (c : Dev nD)
    (h : iprop(R ∗ attI m c 6) ⊢ Q ⟨k0_pay15 (vv m c), k0_pay16 (qv m c) (kv m c)⟩) :
    iprop(R ∗ attI m c 4) ⊢ wpc c (onBufs (k0_part6 (F := F)) (qv m c) (kv m c) (vv m c) (k0_pay11 (vv m c)) (k0_pay12 (qv m c) (kv m c))) Q := by
  unfold onBufs wpc
  rw [k0_part6_eq_skeleton]
  unfold k0_part6_skel
  simp only [Prog.lift, Prog.bind_op, Prog.bind_ret, Prog.pure_eq_ret]
  refine w_head m c 0 4 rfl rfl (pay13_eq _ _ _) ?_
  refine w_head m c 0 5 rfl rfl (pay14_eq _ _ _) ?_
  rw [wpc, wp_ret]
  exact h.trans fupd_intro

/-- Heads 6 and 7 of the first entry, and the first half of the partial product. -/
theorem part7 {Q : _ → sProp 𝕄} {R : sProp 𝕄} (c : Dev nD) (v2 : BitVec 32)
    (h : ∀ v236 w, iprop(((R ∗ attI m c 8) ∗ owns (c : Thread nD τ) (Memref.whole cc0_stg4_0) fullShare (stg4 m c)) ∗ rowsH m c 0) ⊢ Q ⟨v236, w⟩) :
    iprop(((R ∗ parH c 0) ∗ owns (c : Thread nD τ) (Memref.whole cc0_stg4_0) fullShare (stg4 m c)) ∗ attI m c 6)
      ⊢ wpc c (onBufs (k0_part7 (F := F)) v2 (qv m c) (kv m c) (vv m c) (k0_pay15 (vv m c)) (k0_pay16 (qv m c) (kv m c))) Q := by
  unfold onBufs wpc
  rw [k0_part7_eq_skeleton]
  unfold k0_part7_skel
  simp only [Prog.lift, Prog.bind_op, Prog.bind_ret, Prog.pure_eq_ret]
  refine w_head m c 0 6 rfl rfl (pay17_eq _ _ _) ?_
  refine w_head m c 0 7 rfl rfl (pay18_eq _ _ _) ?_
  refine w_att m c 0 (Nat.le_refl 8) rfl ?_
  refine swap ?_
  refine w_arg c _ (stg4 m c) zero2 ?_
  refine rot ?_
  refine rot ?_
  refine rot ?_
  refine rot ?_
  refine w_peek c 0 rfl ?_
  refine w_half m c 0 rfl (pay19_eq _ _) ?_
  rw [wpc, wp_ret]
  exact (h _ _).trans fupd_intro

end Cert.KernelIdealProof
-- ==== Proof.KernelIdeal.Pools.lean ====
/-
The pools of duties, destinations and positions the rounds of transfers start from and leave.
-/
module

public import proofs.«01_k».proof.Proof.KernelIdeal.Body1

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What the sends of half `b` start from, but for their sources. -/
def rsQT (c : Dev nD) (b : Fin 2) (t : Dev nD) : sProp 𝕄 :=
  if half t ≠ b then iprop(emp) else if t = c then iprop(emp)
  else iprop(dutyTok ER (kcell (c, some (0, place c t))) 0 c ∗ dutyTok ER (kcell (t, some (1, c))) 0 c ∗ blkAny t (slotM c))
def rsQ (c : Dev nD) (b : Fin 2) : sProp 𝕄 := bigSep Finset.univ (rsQT c b)

/-- One destination's part of the start of a batch entry's sends. -/
theorem rs_start_at (c : Dev nD) (b : Fin 2) (t : Dev nD) :
    iprop(rsQT c b t ∗ (if half t = b then blk c (rowM parM t) fullShare (parB m c t) else iprop(emp))) ⊢ rsT m c b 0 t := by
  unfold rsQT rsT
  by_cases hb : half t = b
  · by_cases ht : t = c
    · rw [if_neg (fun h => h hb), if_pos ht, if_pos hb, if_neg (fun h => h hb), if_pos ht, ht]
      iintro ⟨-, H⟩; iexact H
    · rw [if_neg (fun h => h hb), if_neg ht, if_pos hb, if_neg (fun h => h hb), if_neg ht, if_neg (by have := dist_pos c t; omega)]
      unfold xfer
      iintro ⟨⟨H1, H2, H3⟩, H⟩
      isplitl [H1]; · iexact H1
      isplitl [H2]; · iexact H2
      isplitl [H3] <;> iassumption
  · rw [if_pos hb, if_neg hb, if_pos hb]
    iintro ⟨H, -⟩; iexact H

/-- The sends of half `b` from their sources. -/
theorem rs_start (c : Dev nD) (b : Fin 2) : iprop(rsQ c b ∗ rowsH m c b) ⊢ rsP m c b 0 := by
  unfold rsQ rowsH rsP
  rw [bigSep_filter, ← bigSep_sep']
  exact bigSep_mono fun t _ => rs_start_at m c b t

/-- Another device stands at most fifteen places after `c`. -/
theorem dist_le' {c t : Dev nD} (ht : t ≠ c) : dist c t ≤ 15 := by revert c t; decide

/-- What the sends of reduced rows start from, but for their sources. -/
def gsQT (c t : Dev nD) : sProp 𝕄 :=
  if t = c then iprop(emp)
  else iprop(dutyTok ER (kcell (c, some (2, place c t))) 0 c ∗ dutyTok ER (kcell (t, some (3, c))) 0 c ∗ blkAny t (rowM outM c))
def gsQ (c : Dev nD) : sProp 𝕄 := bigSep Finset.univ (gsQT (F := F) c)

/-- The duties device `c` performs by its transfers to device `t`. -/
def tokT (c t : Dev nD) : sProp 𝕄 :=
  if t = c then iprop(emp)
  else iprop(dutyTok ER (kcell (c, some (0, place c t))) 0 c ∗ dutyTok ER (kcell (t, some (1, c))) 0 c
    ∗ dutyTok ER (kcell (c, some (2, place c t))) 0 c ∗ dutyTok ER (kcell (t, some (3, c))) 0 c)
def toks (c : Dev nD) : sProp 𝕄 := bigSep Finset.univ (tokT (F := F) c)

/-- What the barrier hands over is, of every other device, a slot and a row block of the result. -/
theorem dests_all (c : Dev nD) : dests (F := F) c = bigSep Finset.univ fun t => if t ≠ c then iprop(blkAny t (slotM c) ∗ blkAny t (rowM outM c)) else iprop(emp) := by
  unfold dests
  rw [← Finset.filter_ne' Finset.univ c, bigSep_filter]
  rfl

/-- One device's tokens and what it handed over, dealt to the steps that use them. -/
theorem deal_at (c t : Dev nD) :
    iprop(tokT (F := F) c t ∗ (if t ≠ c then iprop(blkAny t (slotM c) ∗ blkAny t (rowM outM c)) else iprop(emp))) ⊢ iprop(rsQT (F := F) c 0 t ∗ rsQT (F := F) c 1 t ∗ gsQT (F := F) c t) := by
  unfold tokT rsQT gsQT
  by_cases ht : t = c
  · simp only [if_pos ht, if_pos ht, if_pos ht, if_neg (not_not_intro ht), ite_self, ite_self]
    iintro ⟨H, -⟩
    isplitl [H]; · iexact H
    isplitl <;> iempintro
  · simp only [if_neg ht, if_neg ht, if_neg ht, if_pos ht]
    by_cases h0 : half t = 0
    · simp only [if_neg (not_not_intro h0), if_pos (show half t ≠ 1 by rw [h0]; decide)]
      iintro ⟨⟨H1, H2, H3, H4⟩, H5, H6⟩
      isplitl [H1 H2 H5]
      · isplitl [H1]; · iexact H1
        isplitl [H2] <;> iassumption
      isplitr; · iempintro
      isplitl [H3]; · iexact H3
      isplitl [H4] <;> iassumption
    · have h1 : half t = 1 := by revert h0; generalize half t = b; revert b; decide
      simp only [if_pos h0, if_neg (not_not_intro h1)]
      iintro ⟨⟨H1, H2, H3, H4⟩, H5, H6⟩
      isplitr; · iempintro
      isplitl [H1 H2 H5]
      · isplitl [H1]; · iexact H1
        isplitl [H2] <;> iassumption
      isplitl [H3]; · iexact H3
      isplitl [H4] <;> iassumption

/-- The duties and the destinations, dealt to the three rounds of transfers. -/
theorem deal (c : Dev nD) : iprop(toks (F := F) c ∗ dests (F := F) c) ⊢ iprop(rsQ (F := F) c 0 ∗ rsQ (F := F) c 1 ∗ gsQ (F := F) c) := by
  rw [dests_all]
  unfold toks rsQ gsQ
  rw [← bigSep_sep', ← bigSep_sep', ← bigSep_sep']
  exact bigSep_mono fun t _ => deal_at c t

/-- The starts of the cells `cell t` of device `c`. -/
def atsP (c : Dev nD) (cell : Dev nD → Fin 4 × Fin 16) : sProp 𝕄 := bigSep Finset.univ fun t => (atPos ER (kcell (c, some (cell t))) 0 ∅ 0 : sProp 𝕄)

/-- After the sends, one destination's part is what its wait needs, and the own row block stays. -/
theorem sent_at (c t : Dev nD) :
    iprop((rsT m c 0 15 t ∗ rsT m c 1 15 t) ∗ (atPos ER (kcell (c, some (0, place c t))) 0 ∅ 0 : sProp 𝕄))
      ⊢ iprop((if t = c then blk c (rowM parM c) fullShare (parB m c c) else iprop(emp)) ∗ waitT c (fun t => (0, place c t)) (fun t => blk c (rowM parM t) fullShare (parB m c t)) 0 t) := by
  unfold rsT waitT
  by_cases ht : t = c
  · simp only [if_pos ht, if_pos ht, if_pos ht, if_pos ht]
    by_cases h0 : half t = 0
    · simp only [if_neg (not_not_intro h0), if_pos (show half t ≠ 1 by rw [h0]; decide)]
      iintro ⟨⟨H, -⟩, H'⟩
      isplitl [H] <;> iassumption
    · have h1 : half t = 1 := by revert h0; generalize half t = b; revert b; decide
      simp only [if_pos h0, if_neg (not_not_intro h1)]
      iintro ⟨⟨-, H⟩, H'⟩
      isplitl [H] <;> iassumption
  · have hd := dist_pos c t
    simp only [if_neg ht, if_neg ht, if_neg ht, if_neg ht, if_pos (dist_le' ht), if_neg (Nat.not_le_of_lt hd)]
    by_cases h0 : half t = 0
    · simp only [if_neg (not_not_intro h0), if_pos (show half t ≠ 1 by rw [h0]; decide)]
      iintro ⟨⟨H, -⟩, H'⟩
      isplitr; · iempintro
      isplitl [H'] <;> iassumption
    · have h1 : half t = 1 := by revert h0; generalize half t = b; revert b; decide
      simp only [if_pos h0, if_neg (not_not_intro h1)]
      iintro ⟨⟨-, H⟩, H'⟩
      isplitr; · iempintro
      isplitl [H'] <;> iassumption

/-- The one part that is kept among the sixteen. -/
theorem pick (c : Dev nD) (X : sProp 𝕄) : (bigSep Finset.univ fun t : Dev nD => if t = c then X else iprop(emp)) ⊢ X := by
  have h := elim_at (fun t : Dev nD => if t = c then X else iprop(emp)) c
  rwa [if_pos rfl] at h

/-- All partial products sent: the device's own rows, and the waits for the sends at their start. -/
theorem sent (c : Dev nD) : iprop((rsP m c 0 15 ∗ rsP m c 1 15) ∗ atsP (F := F) c (fun t => (0, place c t)))
    ⊢ iprop(blk c (rowM parM c) fullShare (parB m c c) ∗ ssW m c 0) := by
  unfold rsP atsP ssW waitP
  rw [← bigSep_sep', ← bigSep_sep']
  refine (bigSep_mono fun t _ => sent_at m c t).trans ?_
  rw [bigSep_sep']
  exact sep_mono (pick c _) .rfl

/-- After the gather's sends, one destination's part is what its wait needs, and the own share stays. -/
theorem gathered_at (c t : Dev nD) :
    iprop(gsT m c 15 t ∗ (atPos ER (kcell (c, some (2, place c t))) 0 ∅ 0 : sProp 𝕄))
      ⊢ iprop((if t = c then blk c (rowM outM c) (lent c) (redB m c) else iprop(emp)) ∗ waitT c (fun t => (2, place c t)) (fun t => blk c (rowM outM c) (lent t) (redB m c)) 0 t) := by
  unfold gsT waitT
  by_cases ht : t = c
  · simp only [if_pos ht]
    exact .rfl
  · have hd := dist_pos c t
    simp only [if_neg ht, if_neg ht, if_neg ht, if_pos (dist_le' ht), if_neg (Nat.not_le_of_lt hd)]
    iintro ⟨H, H'⟩
    isplitr; · iempintro
    isplitl [H'] <;> iassumption

/-- All reduced rows sent: the share that stayed, and the waits for the sends at their start. -/
theorem gathered (c : Dev nD) : iprop(gsP m c 15 ∗ atsP (F := F) c (fun t => (2, place c t)))
    ⊢ iprop(blk c (rowM outM c) (lent c) (redB m c) ∗ gsW m c 0) := by
  unfold gsP atsP gsW waitP
  rw [← bigSep_sep']
  refine (bigSep_mono fun t _ => gathered_at m c t).trans ?_
  rw [bigSep_sep']
  exact sep_mono (pick c _) .rfl

/-- A block held at contents that read as a value is held at that value. -/
theorem blk_piece (c t : Dev nD) (b : Memref sig .tc .vmem S16x512 .f32) (q : PosShare TreeShare) (X : FVec F S16x512 .f32) (f) (hf : b.view.read (Elt F) f = X) :
    (b.view.loc (c : Thread nD τ) ↦[b.view.set]{q} f) ⊢ (blk c b q X : sProp 𝕄) := by
  iintro H
  iapply (Entails.of_eq (owns_open (c : Thread nD τ) b q X).symm)
  iexists f; isplitr; · ipureintro; exact hf
  iexact H

/-- A full share is the sixteen leaves of its fourfold halving. -/
theorem leaves_of {N : ℕ} (h : N = 2 ^ 4) (ℓ : Loc nD τ sig) (I : Finset (Idx ℓ)) (f : Buf (Elt F) ℓ) :
    ((ℓ ↦[I]{fullShare} f) : sProp 𝕄) = bigSep (Finset.univ : Finset (Fin N)) fun t => (ℓ ↦[I]{ShareLeaves.leaf 4 fullShare (Fin.cast h t)} f) := by
  subst h
  have e : ∀ t : Fin (2 ^ 4), Fin.cast rfl t = t := fun t => Fin.ext rfl
  simp only [e]
  rw [ShareLeaves.pointsTo_leaves I f 4 fullShare]

/-- A full share is the sixteen shares lent to the devices. -/
theorem leaves16 (ℓ : Loc nD τ sig) (I : Finset (Idx ℓ)) (f : Buf (Elt F) ℓ) :
    ((ℓ ↦[I]{fullShare} f) : sProp 𝕄) = bigSep (Finset.univ : Finset (Dev nD)) fun t => (ℓ ↦[I]{lent t} f) :=
  leaves_of (N := 16) (by decide) ℓ I f

/-- A block held in full can be lent to the sixteen devices. -/
theorem lend_at (c : Dev nD) (b : Memref sig .tc .vmem S16x512 .f32) (X : FVec F S16x512 .f32) (f) (hf : b.view.read (Elt F) f = X) :
    ((b.view.loc (c : Thread nD τ) ↦[b.view.set]{fullShare} f) : sProp 𝕄) ⊢ bigSep Finset.univ fun t : Dev nD => blk c b (lent t) X := by
  rw [leaves16]
  exact bigSep_mono fun t _ => blk_piece c t b (lent t) X f hf

/-- Rows lent out in sixteen shares. -/
theorem lend (c : Dev nD) (b : Memref sig .tc .vmem S16x512 .f32) (X : FVec F S16x512 .f32) :
    (blk c b fullShare X : sProp 𝕄) ⊢ bigSep Finset.univ fun t : Dev nD => blk c b (lent t) X := by
  iintro H
  ihave H := (Entails.of_eq (owns_open (c : Thread nD τ) b fullShare X)) $$ H
  icases H with ⟨%f, %hf, H⟩
  have h := lend_at (F := F) c b X f hf
  iapply h $$ H

/-- One destination's part of the start of the gather's sends. -/
theorem gs_start_at (c t : Dev nD) : iprop(gsQT (F := F) c t ∗ blk c (rowM outM c) (lent t) (redB m c)) ⊢ gsT m c 0 t := by
  unfold gsQT gsT
  by_cases ht : t = c
  · subst ht
    simp only [if_true]
    iintro ⟨-, H⟩; iexact H
  · simp only [if_neg ht, if_neg ht, if_neg (Nat.not_le_of_lt (dist_pos c t))]
    unfold xfer
    iintro ⟨⟨H1, H2, H3⟩, H⟩
    isplitl [H1]; · iexact H1
    isplitl [H2]; · iexact H2
    isplitl [H3] <;> iassumption

/-- The sends of reduced rows from the rows. -/
theorem gs_start (c : Dev nD) : iprop(gsQ (F := F) c ∗ blk c (rowM outM c) fullShare (redB m c)) ⊢ gsP m c 0 := by
  unfold gsQ gsP
  refine (sep_mono .rfl (lend c (rowM outM c) (redB m c))).trans ?_
  rw [← bigSep_sep']
  exact bigSep_mono fun t _ => gs_start_at m c t

/-- A block at whatever contents. -/
theorem w_any {R : sProp 𝕄} {W : sProp 𝕄} (c : Dev nD) (b : Memref sig .tc .vmem S16x512 .f32)
    (h : ∀ X, iprop(R ∗ blk c b fullShare X) ⊢ W) : iprop(R ∗ blkAny c b) ⊢ W := by
  unfold blkAny
  iintro ⟨HR, %X, HX⟩
  have hh := h X
  iapply hh
  isplitl [HR] <;> iassumption

end Cert.KernelIdealProof
-- ==== Proof.KernelIdeal.Body2.lean ====
/-
The second third of the body: the early sends of partial products, the second entry's heads and half, and the late sends.
-/
module

public import proofs.«01_k».proof.Proof.KernelIdeal.Pools

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Kind → ℕ)

/-- Updating the first of two counts. -/
theorem upd0 (a b n : ℕ) : (![n, b] : Fin 2 → ℕ) = Function.update ![a, b] 0 n := by
  funext i; fin_cases i <;> rfl
/-- Updating the second of two counts. -/
theorem upd1 (a b n : ℕ) : (![a, n] : Fin 2 → ℕ) = Function.update ![a, b] 1 n := by
  funext i; fin_cases i <;> rfl

/-! Whose turn it is: the device of each turn is of the half the turn's test asks for. -/

/-- The guard of the first batch entry's send to the device 1 places on. -/
theorem turn1 (c : Dev nD) : k0_cond1 c = 1#1 ↔ half (peer c 1) = 0 := by revert c; decide
/-- The guard of the first batch entry's send to the device 2 places on. -/
theorem turn2 (c : Dev nD) : k0_cond2 c = 1#1 ↔ half (peer c 2) = 0 := by revert c; decide
/-- The guard of the first batch entry's send to the device 3 places on. -/
theorem turn3 (c : Dev nD) : k0_cond3 c = 1#1 ↔ half (peer c 3) = 0 := by revert c; decide
/-- The guard of the first batch entry's send to the device 4 places on. -/
theorem turn4 (c : Dev nD) : k0_cond4 c = 1#1 ↔ half (peer c 4) = 0 := by revert c; decide
/-- The guard of the first batch entry's send to the device 5 places on. -/
theorem turn5 (c : Dev nD) : k0_cond5 c = 1#1 ↔ half (peer c 5) = 0 := by revert c; decide
/-- The guard of the first batch entry's send to the device 6 places on. -/
theorem turn6 (c : Dev nD) : k0_cond6 c = 1#1 ↔ half (peer c 6) = 0 := by revert c; decide
/-- The guard of the first batch entry's send to the device 7 places on. -/
theorem turn7 (c : Dev nD) : k0_cond7 c = 1#1 ↔ half (peer c 7) = 0 := by revert c; decide
/-- The guard of the first batch entry's send to the device 8 places on. -/
theorem turn8 (c : Dev nD) : k0_cond8 c = 1#1 ↔ half (peer c 8) = 0 := by revert c; decide
/-- The guard of the first batch entry's send to the device 9 places on. -/
theorem turn9 (c : Dev nD) : k0_cond9 c = 1#1 ↔ half (peer c 9) = 0 := by revert c; decide
/-- The guard of the first batch entry's send to the device 10 places on. -/
theorem turn10 (c : Dev nD) : k0_cond10 c = 1#1 ↔ half (peer c 10) = 0 := by revert c; decide
/-- The guard of the first batch entry's send to the device 11 places on. -/
theorem turn11 (c : Dev nD) : k0_cond11 c = 1#1 ↔ half (peer c 11) = 0 := by revert c; decide
/-- The guard of the first batch entry's send to the device 12 places on. -/
theorem turn12 (c : Dev nD) : k0_cond12 c = 1#1 ↔ half (peer c 12) = 0 := by revert c; decide
/-- The guard of the first batch entry's send to the device 13 places on. -/
theorem turn13 (c : Dev nD) : k0_cond13 c = 1#1 ↔ half (peer c 13) = 0 := by revert c; decide
/-- The guard of the first batch entry's send to the device 14 places on. -/
theorem turn14 (c : Dev nD) : k0_cond14 c = 1#1 ↔ half (peer c 14) = 0 := by revert c; decide
/-- The guard of the first batch entry's send to the device 15 places on. -/
theorem turn15 (c : Dev nD) : k0_cond15 c = 1#1 ↔ half (peer c 15) = 0 := by revert c; decide
/-- The guard of the second batch entry's send to the device 1 places on. -/
theorem turn16 (c : Dev nD) : k0_cond16 c = 1#1 ↔ half (peer c 1) = 1 := by revert c; decide
/-- The guard of the second batch entry's send to the device 2 places on. -/
theorem turn17 (c : Dev nD) : k0_cond17 c = 1#1 ↔ half (peer c 2) = 1 := by revert c; decide
/-- The guard of the second batch entry's send to the device 3 places on. -/
theorem turn18 (c : Dev nD) : k0_cond18 c = 1#1 ↔ half (peer c 3) = 1 := by revert c; decide
/-- The guard of the second batch entry's send to the device 4 places on. -/
theorem turn19 (c : Dev nD) : k0_cond19 c = 1#1 ↔ half (peer c 4) = 1 := by revert c; decide
/-- The guard of the second batch entry's send to the device 5 places on. -/
theorem turn20 (c : Dev nD) : k0_cond20 c = 1#1 ↔ half (peer c 5) = 1 := by revert c; decide
/-- The guard of the second batch entry's send to the device 6 places on. -/
theorem turn21 (c : Dev nD) : k0_cond21 c = 1#1 ↔ half (peer c 6) = 1 := by revert c; decide
/-- The guard of the second batch entry's send to the device 7 places on. -/
theorem turn22 (c : Dev nD) : k0_cond22 c = 1#1 ↔ half (peer c 7) = 1 := by revert c; decide
/-- The guard of the second batch entry's send to the device 8 places on. -/
theorem turn23 (c : Dev nD) : k0_cond23 c = 1#1 ↔ half (peer c 8) = 1 := by revert c; decide
/-- The guard of the second batch entry's send to the device 9 places on. -/
theorem turn24 (c : Dev nD) : k0_cond24 c = 1#1 ↔ half (peer c 9) = 1 := by revert c; decide
/-- The guard of the second batch entry's send to the device 10 places on. -/
theorem turn25 (c : Dev nD) : k0_cond25 c = 1#1 ↔ half (peer c 10) = 1 := by revert c; decide
/-- The guard of the second batch entry's send to the device 11 places on. -/
theorem turn26 (c : Dev nD) : k0_cond26 c = 1#1 ↔ half (peer c 11) = 1 := by revert c; decide
/-- The guard of the second batch entry's send to the device 12 places on. -/
theorem turn27 (c : Dev nD) : k0_cond27 c = 1#1 ↔ half (peer c 12) = 1 := by revert c; decide
/-- The guard of the second batch entry's send to the device 13 places on. -/
theorem turn28 (c : Dev nD) : k0_cond28 c = 1#1 ↔ half (peer c 13) = 1 := by revert c; decide
/-- The guard of the second batch entry's send to the device 14 places on. -/
theorem turn29 (c : Dev nD) : k0_cond29 c = 1#1 ↔ half (peer c 14) = 1 := by revert c; decide
/-- The guard of the second batch entry's send to the device 15 places on. -/
theorem turn30 (c : Dev nD) : k0_cond30 c = 1#1 ↔ half (peer c 15) = 1 := by revert c; decide

attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_dev16 k0_dev17 k0_dev18 k0_dev19 k0_dev20 k0_dev21 k0_dev22 k0_dev23 k0_dev24 k0_dev25 k0_dev26 k0_dev27 k0_dev28 k0_dev29 k0_dev30 k0_dev31 k0_dev32 k0_dev33 k0_dev34 k0_dev35 k0_dev36 k0_dev37 k0_dev38 k0_dev39 k0_dev40 k0_dev41 k0_dev42 k0_dev43 k0_dev44 k0_dev45 k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52 k0_off53 k0_off54 k0_off55 k0_off56 k0_off57 k0_off58 k0_off59 k0_off60 k0_off61 k0_off62 k0_off63 k0_off64 k0_off65 k0_off66 k0_off67 k0_off68 k0_off69 k0_off70 k0_off71 k0_off72 k0_off73 k0_off74 k0_off75 k0_off76 k0_off77 k0_off78 k0_off79 k0_off80 k0_off81 k0_off82 k0_off83 k0_off84 k0_off85 k0_off86 k0_off87 k0_off88 k0_off89 k0_off90 k0_off91 k0_off92 k0_off93 k0_off94 k0_off95 k0_off96

/-- A single operation and then a continuation. -/
theorem lift_bind {α β : Type} (e : TpuEff nD τ sig (Elt F) Λ₀ .tc β) (k : β → Prog (TpuEff nD τ sig (Elt F) Λ₀ .tc) α) : (Prog.lift e >>= k) = .op e k := rfl

/-- The early turns of the first five devices. -/
theorem part8 {Q : _ → sProp 𝕄} {R : sProp 𝕄} (c : Dev nD) (v2 v w : BitVec 32)
    (h : iprop(R ∗ ctx m K ∗ rsP m c 0 5 ∗ ow c 15 ![5, 0] 0) ⊢ Q ⟨⟩) :
    iprop(R ∗ ctx m K ∗ rsP m c 0 0 ∗ ow c 15 ![0, 0] 0) ⊢ wpc c (onBufs (k0_part8 (F := F)) c v2 v w) Q := by
  unfold onBufs wpc
  rw [k0_part8_eq_skeleton]
  unfold k0_part8_skel
  simp -proj only [turn_join, Prog.pure_eq_ret]
  refine w_turn m K c 0 0 ![0, 0] rfl ![1, 0] (upd0 _ _ _) (turn1 c) (k0_dev16_eq c) rfl (k0_off1_eq c) (k0_off2_eq c) (k0_off3_eq c) ?_
  refine w_turn m K c 0 1 ![1, 0] rfl ![2, 0] (upd0 _ _ _) (turn2 c) (k0_dev17_eq c) rfl (k0_off4_eq c) (k0_off5_eq c) (k0_off6_eq c) ?_
  refine w_turn m K c 0 2 ![2, 0] rfl ![3, 0] (upd0 _ _ _) (turn3 c) (k0_dev18_eq c) rfl (k0_off7_eq c) (k0_off8_eq c) (k0_off9_eq c) ?_
  refine w_turn m K c 0 3 ![3, 0] rfl ![4, 0] (upd0 _ _ _) (turn4 c) (k0_dev19_eq c) rfl (k0_off10_eq c) (k0_off11_eq c) (k0_off12_eq c) ?_
  refine w_turn m K c 0 4 ![4, 0] rfl ![5, 0] (upd0 _ _ _) (turn5 c) (k0_dev20_eq c) rfl (k0_off13_eq c) (k0_off14_eq c) (k0_off15_eq c) ?_
  rw [wpc, wp_ret]
  exact h.trans fupd_intro

/-- The early turns of the next four. -/
theorem part9 {Q : _ → sProp 𝕄} {R : sProp 𝕄} (c : Dev nD) (v2 : BitVec 32)
    (h : ∀ v w, iprop(R ∗ ctx m K ∗ rsP m c 0 9 ∗ ow c 15 ![9, 0] 0) ⊢ Q ⟨v, w⟩) :
    iprop(R ∗ ctx m K ∗ rsP m c 0 5 ∗ ow c 15 ![5, 0] 0) ⊢ wpc c (onBufs (k0_part9 (F := F)) c v2) Q := by
  unfold onBufs wpc
  rw [k0_part9_eq_skeleton]
  unfold k0_part9_skel
  simp -proj only [turn_join, Prog.pure_eq_ret]
  refine w_turn m K c 0 5 ![5, 0] rfl ![6, 0] (upd0 _ _ _) (turn6 c) (k0_dev21_eq c) rfl (k0_off16_eq c) (k0_off17_eq c) (k0_off18_eq c) ?_
  refine w_turn m K c 0 6 ![6, 0] rfl ![7, 0] (upd0 _ _ _) (turn7 c) (k0_dev22_eq c) rfl (k0_off19_eq c) (k0_off20_eq c) (k0_off21_eq c) ?_
  refine w_turn m K c 0 7 ![7, 0] rfl ![8, 0] (upd0 _ _ _) (turn8 c) (k0_dev23_eq c) rfl (k0_off22_eq c) (k0_off23_eq c) (k0_off24_eq c) ?_
  refine w_turn m K c 0 8 ![8, 0] rfl ![9, 0] (upd0 _ _ _) (turn9 c) (k0_dev24_eq c) rfl (k0_off25_eq c) (k0_off26_eq c) (k0_off27_eq c) ?_
  rw [wpc, wp_ret]
  exact ((h _ _)).trans fupd_intro

/-- The early turns of the next five. -/
theorem part10 {Q : _ → sProp 𝕄} {R : sProp 𝕄} (c : Dev nD) (v2 v : BitVec 32) (w : BitVec 1)
    (h : ∀ v w, iprop(R ∗ ctx m K ∗ rsP m c 0 14 ∗ ow c 15 ![14, 0] 0) ⊢ Q ⟨v, w⟩) :
    iprop(R ∗ ctx m K ∗ rsP m c 0 9 ∗ ow c 15 ![9, 0] 0) ⊢ wpc c (onBufs (k0_part10 (F := F)) c v2 v w) Q := by
  unfold onBufs wpc
  rw [k0_part10_eq_skeleton]
  unfold k0_part10_skel
  simp -proj only [turn_join, Prog.pure_eq_ret]
  refine w_turn m K c 0 9 ![9, 0] rfl ![10, 0] (upd0 _ _ _) (turn10 c) (k0_dev25_eq c) rfl (k0_off28_eq c) (k0_off29_eq c) (k0_off30_eq c) ?_
  refine w_turn m K c 0 10 ![10, 0] rfl ![11, 0] (upd0 _ _ _) (turn11 c) (k0_dev26_eq c) rfl (k0_off31_eq c) (k0_off32_eq c) (k0_off33_eq c) ?_
  refine w_turn m K c 0 11 ![11, 0] rfl ![12, 0] (upd0 _ _ _) (turn12 c) (k0_dev27_eq c) rfl (k0_off34_eq c) (k0_off35_eq c) (k0_off36_eq c) ?_
  refine w_turn m K c 0 12 ![12, 0] rfl ![13, 0] (upd0 _ _ _) (turn13 c) (k0_dev28_eq c) rfl (k0_off37_eq c) (k0_off38_eq c) (k0_off39_eq c) ?_
  refine w_turn m K c 0 13 ![13, 0] rfl ![14, 0] (upd0 _ _ _) (turn14 c) (k0_dev29_eq c) rfl (k0_off40_eq c) (k0_off41_eq c) (k0_off42_eq c) ?_
  rw [wpc, wp_ret]
  exact ((h _ _)).trans fupd_intro

/-- The last early turn, and head 0 of the second entry. -/
theorem part11 {Q : _ → sProp 𝕄} {R : sProp 𝕄} (c : Dev nD) (v w : BitVec 32)
    (h : iprop((R ∗ attI m c 9) ∗ ctx m K ∗ rsP m c 0 15 ∗ ow c 15 ![15, 0] 0) ⊢ Q (k0_pay21 (qv m c) (kv m c) (vv m c))) :
    iprop((R ∗ attI m c 8) ∗ ctx m K ∗ rsP m c 0 14 ∗ ow c 15 ![14, 0] 0) ⊢ wpc c (onBufs (k0_part11 (F := F)) c (qv m c) (kv m c) (vv m c) v w) Q := by
  unfold onBufs wpc
  rw [k0_part11_eq_skeleton]
  unfold k0_part11_skel
  simp -proj only [turn_join, Prog.pure_eq_ret]
  refine w_turn m K c 0 14 ![14, 0] rfl ![15, 0] (upd0 _ _ _) (turn15 c) (k0_dev30_eq c) rfl (k0_off43_eq c) (k0_off44_eq c) (k0_off45_eq c) ?_
  simp -proj only [lift_bind, Prog.bind_ret]
  refine swap ?_
  refine w_head m c 1 0 rfl rfl (pay20_eq _ _ _) ?_
  refine swap ?_
  rw [wpc, wp_ret]
  exact h.trans fupd_intro

/-- Heads 1 to 3 of the second entry. -/
theorem part12 {Q : _ → sProp 𝕄} {R : sProp 𝕄} (c : Dev nD)
    (h : iprop(R ∗ attI m c 12) ⊢ Q ⟨k0_pay25 (qv m c), k0_pay26 (kv m c)⟩) :
    iprop(R ∗ attI m c 9) ⊢ wpc c (onBufs (k0_part12 (F := F)) (qv m c) (kv m c) (vv m c) (k0_pay21 (qv m c) (kv m c) (vv m c))) Q := by
  unfold onBufs wpc
  rw [k0_part12_eq_skeleton]
  unfold k0_part12_skel
  simp only [Prog.lift, Prog.bind_op, Prog.bind_ret, Prog.pure_eq_ret]
  refine w_head m c 1 1 rfl rfl (pay22_eq _ _ _) ?_
  refine w_head m c 1 2 rfl rfl (pay23_eq _ _ _) ?_
  refine w_head m c 1 3 rfl rfl (pay24_eq _ _ _) ?_
  rw [wpc, wp_ret]
  exact h.trans fupd_intro

/-- Heads 4 and 5 of the second entry. -/
theorem part13 {Q : _ → sProp 𝕄} {R : sProp 𝕄} (c : Dev nD)
    (h : iprop(R ∗ attI m c 14) ⊢ Q ⟨k0_pay29 (vv m c), k0_pay30 (qv m c) (kv m c)⟩) :
    iprop(R ∗ attI m c 12) ⊢ wpc c (onBufs (k0_part13 (F := F)) (qv m c) (kv m c) (vv m c) (k0_pay25 (qv m c)) (k0_pay26 (kv m c))) Q := by
  unfold onBufs wpc
  rw [k0_part13_eq_skeleton]
  unfold k0_part13_skel
  simp only [Prog.lift, Prog.bind_op, Prog.bind_ret, Prog.pure_eq_ret]
  refine w_head m c 1 4 rfl rfl (pay27_eq _ _ _) ?_
  refine w_head m c 1 5 rfl rfl (pay28_eq _ _ _) ?_
  rw [wpc, wp_ret]
  exact h.trans fupd_intro

/-- The last two heads of the second entry, and its partial product. -/
theorem part14 {Q : _ → sProp 𝕄} {R : sProp 𝕄} (c : Dev nD)
    (h : iprop(((R ∗ attI m c 16) ∗ owns (c : Thread nD τ) (Memref.whole cc0_stg4_0) fullShare (stg4 m c)) ∗ parH c 1) ⊢ Q (k0_pay33 (attB m c 1) (stg4 m c))) :
    iprop(((R ∗ parH c 1) ∗ owns (c : Thread nD τ) (Memref.whole cc0_stg4_0) fullShare (stg4 m c)) ∗ attI m c 14)
      ⊢ wpc c (onBufs (k0_part14 (F := F)) (qv m c) (kv m c) (vv m c) (k0_pay29 (vv m c)) (k0_pay30 (qv m c) (kv m c))) Q := by
  unfold onBufs wpc
  rw [k0_part14_eq_skeleton]
  unfold k0_part14_skel
  simp only [Prog.lift, Prog.bind_op, Prog.bind_ret, Prog.pure_eq_ret]
  refine w_head m c 1 6 rfl rfl (pay31_eq _ _ _) ?_
  refine w_head m c 1 7 rfl rfl (pay32_eq _ _ _) ?_
  refine w_att m c 1 (Nat.le_refl 16) rfl ?_
  refine swap ?_
  refine w_arg c _ (stg4 m c) zero2 ?_
  refine rot ?_
  refine w_peek c 1 rfl ?_
  rw [wpc, wp_ret]
  exact h.trans fupd_intro

/-- The second batch entry's sends start from its rows of the partial product. -/
theorem late_start {R : sProp 𝕄} (c : Dev nD) :
    iprop((R ∗ (ctx m K ∗ rsQ c 1 ∗ ow c 15 ![15, 0] 0)) ∗ rowsH m c 1) ⊢ iprop(R ∗ ctx m K ∗ rsP m c 1 0 ∗ ow c 15 ![15, 0] 0) := by
  have p := rs_start m c 1
  iintro ⟨⟨HR, #Hc, HQ, HO⟩, HH⟩
  isplitl [HR]; · iexact HR
  isplitr; · iexact Hc
  isplitl [HQ HH]
  · iapply p
    isplitl [HQ] <;> iassumption
  iexact HO

/-- The second half stored, and the late turns of the first four devices. -/
theorem part15 {Q : _ → sProp 𝕄} {R : sProp 𝕄} (c : Dev nD) (v2 : BitVec 32)
    (h : ∀ v w, iprop(R ∗ ctx m K ∗ rsP m c 1 4 ∗ ow c 15 ![15, 4] 0) ⊢ Q ⟨v, w⟩) :
    iprop((R ∗ (ctx m K ∗ rsQ c 1 ∗ ow c 15 ![15, 0] 0)) ∗ parH c 1) ⊢ wpc c (onBufs (k0_part15 (F := F)) c v2 (k0_pay33 (attB m c 1) (stg4 m c))) Q := by
  unfold onBufs wpc
  rw [k0_part15_eq_skeleton]
  unfold k0_part15_skel
  simp -proj only [turn_join, Prog.pure_eq_ret]
  simp -proj only [lift_bind, Prog.bind_ret]
  refine w_half m c 1 rfl rfl ?_
  refine (late_start m K c).trans ?_
  refine w_turn m K c 1 0 ![15, 0] rfl ![15, 1] (upd1 _ _ _) (turn16 c) (k0_dev31_eq c) rfl (k0_off46_eq c) (k0_off47_eq c) (k0_off48_eq c) ?_
  refine w_turn m K c 1 1 ![15, 1] rfl ![15, 2] (upd1 _ _ _) (turn17 c) (k0_dev32_eq c) rfl (k0_off49_eq c) (k0_off50_eq c) (k0_off51_eq c) ?_
  refine w_turn m K c 1 2 ![15, 2] rfl ![15, 3] (upd1 _ _ _) (turn18 c) (k0_dev33_eq c) rfl (k0_off52_eq c) (k0_off53_eq c) (k0_off54_eq c) ?_
  refine w_turn m K c 1 3 ![15, 3] rfl ![15, 4] (upd1 _ _ _) (turn19 c) (k0_dev34_eq c) rfl (k0_off55_eq c) (k0_off56_eq c) (k0_off57_eq c) ?_
  rw [wpc, wp_ret]
  exact ((h _ _)).trans fupd_intro

/-- The late turns of the next five. -/
theorem part16 {Q : _ → sProp 𝕄} {R : sProp 𝕄} (c : Dev nD) (v2 v w : BitVec 32)
    (h : ∀ x, iprop(R ∗ ctx m K ∗ rsP m c 1 9 ∗ ow c 15 ![15, 9] 0) ⊢ Q x) :
    iprop(R ∗ ctx m K ∗ rsP m c 1 4 ∗ ow c 15 ![15, 4] 0) ⊢ wpc c (onBufs (k0_part16 (F := F)) c v2 v w) Q := by
  unfold onBufs wpc
  rw [k0_part16_eq_skeleton]
  unfold k0_part16_skel
  simp -proj only [turn_join, Prog.pure_eq_ret]
  refine w_turn m K c 1 4 ![15, 4] rfl ![15, 5] (upd1 _ _ _) (turn20 c) (k0_dev35_eq c) rfl (k0_off58_eq c) (k0_off59_eq c) (k0_off60_eq c) ?_
  refine w_turn m K c 1 5 ![15, 5] rfl ![15, 6] (upd1 _ _ _) (turn21 c) (k0_dev36_eq c) rfl (k0_off61_eq c) (k0_off62_eq c) (k0_off63_eq c) ?_
  refine w_turn m K c 1 6 ![15, 6] rfl ![15, 7] (upd1 _ _ _) (turn22 c) (k0_dev37_eq c) rfl (k0_off64_eq c) (k0_off65_eq c) (k0_off66_eq c) ?_
  refine w_turn m K c 1 7 ![15, 7] rfl ![15, 8] (upd1 _ _ _) (turn23 c) (k0_dev38_eq c) rfl (k0_off67_eq c) (k0_off68_eq c) (k0_off69_eq c) ?_
  refine w_turn m K c 1 8 ![15, 8] rfl ![15, 9] (upd1 _ _ _) (turn24 c) (k0_dev39_eq c) rfl (k0_off70_eq c) (k0_off71_eq c) (k0_off72_eq c) ?_
  rw [wpc, wp_ret]
  exact ((h _)).trans fupd_intro

/-- The late turns of the next four. -/
theorem part17 {Q : _ → sProp 𝕄} {R : sProp 𝕄} (c : Dev nD) (v2 v : BitVec 32)
    (h : ∀ x y, iprop(R ∗ ctx m K ∗ rsP m c 1 13 ∗ ow c 15 ![15, 13] 0) ⊢ Q ⟨x, y⟩) :
    iprop(R ∗ ctx m K ∗ rsP m c 1 9 ∗ ow c 15 ![15, 9] 0) ⊢ wpc c (onBufs (k0_part17 (F := F)) c v2 v) Q := by
  unfold onBufs wpc
  rw [k0_part17_eq_skeleton]
  unfold k0_part17_skel
  simp -proj only [turn_join, Prog.pure_eq_ret]
  refine w_turn m K c 1 9 ![15, 9] rfl ![15, 10] (upd1 _ _ _) (turn25 c) (k0_dev40_eq c) rfl (k0_off73_eq c) (k0_off74_eq c) (k0_off75_eq c) ?_
  refine w_turn m K c 1 10 ![15, 10] rfl ![15, 11] (upd1 _ _ _) (turn26 c) (k0_dev41_eq c) rfl (k0_off76_eq c) (k0_off77_eq c) (k0_off78_eq c) ?_
  refine w_turn m K c 1 11 ![15, 11] rfl ![15, 12] (upd1 _ _ _) (turn27 c) (k0_dev42_eq c) rfl (k0_off79_eq c) (k0_off80_eq c) (k0_off81_eq c) ?_
  refine w_turn m K c 1 12 ![15, 12] rfl ![15, 13] (upd1 _ _ _) (turn28 c) (k0_dev43_eq c) rfl (k0_off82_eq c) (k0_off83_eq c) (k0_off84_eq c) ?_
  rw [wpc, wp_ret]
  exact ((h _ _)).trans fupd_intro

/-- When both batch entries are sent, every send can be awaited. -/
theorem sent_all {R : sProp 𝕄} (c : Dev nD) :
    iprop((((R ∗ (rsP m c 0 15 ∗ atsP (F := F) c (fun t => (0, place c t)))) ∗ blkAny c (slotM c)) ∗ rvW m c 0) ∗ ctx m K ∗ rsP m c 1 15 ∗ ow c 15 ![15, 15] 0)
      ⊢ iprop((((R ∗ ssW m c 0) ∗ (ctx m K ∗ rvW m c 0 ∗ ow c 15 ![15, 15] 0)) ∗ blkAny c (slotM c)) ∗ blk c (rowM parM c) fullShare (parB m c c)) := by
  have p := sent m c
  iintro ⟨⟨⟨⟨HR, H0, HA⟩, HS⟩, HV⟩, #Hc, H1, HO⟩
  ihave H := p $$ [H0 H1 HA]
  · isplitl [H0 H1]
    · isplitl [H0] <;> iassumption
    iexact HA
  icases H with ⟨Hb, HW⟩
  isplitr [Hb]
  · isplitr [HS]
    · isplitl [HR HW]
      · isplitl [HR] <;> iassumption
      isplitr; · iexact Hc
      isplitl [HV] <;> iassumption
    iexact HS
  iexact Hb

/-- The last two late turns, the device's own rows put into its slot, and the first receipt. -/
theorem part18 {Q : _ → sProp 𝕄} {R : sProp 𝕄} (c : Dev nD) (v2 v w : BitVec 32)
    (h : iprop((((R ∗ ssW m c 0) ∗ blk c (rowM parM c) fullShare (parB m c c)) ∗ blk c (slotM c) fullShare (parB m c c)) ∗ (ctx m K ∗ rvW m c 1 ∗ ow c 15 ![15, 15] 0)) ⊢ Q (accV m c 1)) :
    iprop((((R ∗ (rsP m c 0 15 ∗ atsP (F := F) c (fun t => (0, place c t)))) ∗ blkAny c (slotM c)) ∗ rvW m c 0) ∗ ctx m K ∗ rsP m c 1 13 ∗ ow c 15 ![15, 13] 0)
      ⊢ wpc c (onBufs (k0_part18 (F := F)) c v2 v w) Q := by
  unfold onBufs wpc
  rw [k0_part18_eq_skeleton]
  unfold k0_part18_skel
  simp -proj only [turn_join, Prog.pure_eq_ret]
  refine w_turn m K c 1 13 ![15, 13] rfl ![15, 14] (upd1 _ _ _) (turn29 c) (k0_dev44_eq c) rfl (k0_off85_eq c) (k0_off86_eq c) (k0_off87_eq c) ?_
  refine w_turn m K c 1 14 ![15, 14] rfl ![15, 15] (upd1 _ _ _) (turn30 c) (k0_dev45_eq c) rfl (k0_off88_eq c) (k0_off89_eq c) (k0_off90_eq c) ?_
  refine (sent_all m K c).trans ?_
  simp -proj only [lift_bind, Prog.bind_ret]
  refine w_row c c parM (parB m c c) (k0_off91_eq c) ?_
  refine swap ?_
  refine w_any c (slotM c) fun X => ?_
  refine w_slot c c X (k0_off92_eq c) ?_
  refine w_fill c c X (parB m c c) (pay34_eq _) (k0_off92_eq c) ?_
  refine w_slot c c (parB m c c) (k0_off92_eq c) ?_
  refine rot ?_
  refine w_rv m K c 0 (k0_off93_eq c 0) (by rfl) ?_
  refine w_got m K c 0 1 (Nat.le_refl 1) (k0_off96_eq c 0) ?_
  rw [wpc, wp_ret]
  exact (h.trans (Entails.of_eq (congrArg Q (pay35_eq m c).symm))).trans fupd_intro

end Cert.KernelIdealProof
-- ==== Proof.KernelIdeal.Body3.lean ====
/-
The last third of the body: the receipts and the running sum, the reduced rows sent to every device, and the waits for the transfers.
-/
module

public import proofs.«01_k».proof.Proof.KernelIdeal.Body2

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Kind → ℕ)

attribute [local irreducible] k0_dev46 k0_dev47 k0_dev48 k0_dev49 k0_dev50 k0_dev51 k0_dev52 k0_dev53 k0_dev54 k0_dev55 k0_dev56 k0_dev57 k0_dev58 k0_dev59 k0_dev60 k0_off91 k0_off92 k0_off93 k0_off94 k0_off95 k0_off96 k0_off97 k0_off98 k0_off99

/-- The second and third receipts. -/
theorem part19 {Q : _ → sProp 𝕄} {R : sProp 𝕄} (c : Dev nD) (v2 : BitVec 32)
    (h : ∀ v w, iprop(R ∗ ctx m K ∗ rvW m c 3 ∗ ow c 15 ![15, 15] 0) ⊢ Q ⟨accV m c 3, v, w⟩) :
    iprop(R ∗ ctx m K ∗ rvW m c 1 ∗ ow c 15 ![15, 15] 0) ⊢ wpc c (onBufs (k0_part19 (F := F)) c v2 (accV m c 1)) Q := by
  unfold onBufs wpc
  rw [k0_part19_eq_skeleton]
  unfold k0_part19_skel
  simp -proj only [Prog.lift, Prog.bind_op, Prog.bind_ret, Prog.pure_eq_ret]
  refine w_rv m K c 1 (k0_off93_eq c 1) (by rfl) ?_
  refine w_got m K c 1 2 (Nat.le_refl _) (k0_off96_eq c 1) ?_
  refine w_rv m K c 2 (k0_off93_eq c 2) (by rfl) ?_
  refine w_got m K c 2 3 (Nat.le_refl _) (k0_off96_eq c 2) ?_
  rw [wpc, wp_ret]
  exact ((h _ _).trans (Entails.of_eq (congrArg (fun a => Q ⟨a, _, _⟩) (pay36_eq m c).symm))).trans fupd_intro

/-- The next two. -/
theorem part20 {Q : _ → sProp 𝕄} {R : sProp 𝕄} (c : Dev nD) (v2 v w : BitVec 32)
    (h : ∀ x, iprop(R ∗ ctx m K ∗ rvW m c 5 ∗ ow c 15 ![15, 15] 0) ⊢ Q ⟨accV m c 5, x⟩) :
    iprop(R ∗ ctx m K ∗ rvW m c 3 ∗ ow c 15 ![15, 15] 0) ⊢ wpc c (onBufs (k0_part20 (F := F)) c v2 (accV m c 3) v w) Q := by
  unfold onBufs wpc
  rw [k0_part20_eq_skeleton]
  unfold k0_part20_skel
  simp -proj only [Prog.lift, Prog.bind_op, Prog.bind_ret, Prog.pure_eq_ret]
  refine w_rv m K c 3 (k0_off93_eq c 3) (by rfl) ?_
  refine w_got m K c 3 4 (Nat.le_refl _) (k0_off96_eq c 3) ?_
  refine w_rv m K c 4 (k0_off93_eq c 4) (by rfl) ?_
  refine w_got m K c 4 5 (Nat.le_refl _) (k0_off96_eq c 4) ?_
  rw [wpc, wp_ret]
  exact ((h _).trans (Entails.of_eq (congrArg (fun a => Q ⟨a, _⟩) (pay37_eq m c).symm))).trans fupd_intro

/-- The next three, the last of them not yet added. -/
theorem part21 {Q : _ → sProp 𝕄} {R : sProp 𝕄} (c : Dev nD) (v2 v : BitVec 32)
    (h : iprop(R ∗ ctx m K ∗ rvW m c 8 ∗ ow c 15 ![15, 15] 0) ⊢ Q ⟨accV m c 7, castS (parB m (peer c 8) c)⟩) :
    iprop(R ∗ ctx m K ∗ rvW m c 5 ∗ ow c 15 ![15, 15] 0) ⊢ wpc c (onBufs (k0_part21 (F := F)) c v2 (accV m c 5) v) Q := by
  unfold onBufs wpc
  rw [k0_part21_eq_skeleton]
  unfold k0_part21_skel
  simp -proj only [Prog.lift, Prog.bind_op, Prog.bind_ret, Prog.pure_eq_ret]
  refine w_rv m K c 5 (k0_off93_eq c 5) (by rfl) ?_
  refine w_got m K c 5 6 (Nat.le_refl _) (k0_off96_eq c 5) ?_
  refine w_rv m K c 6 (k0_off93_eq c 6) (by rfl) ?_
  refine w_got m K c 6 7 (Nat.le_refl _) (k0_off96_eq c 6) ?_
  refine w_rv m K c 7 (k0_off93_eq c 7) (by rfl) ?_
  refine w_got m K c 7 8 (Nat.le_refl _) (k0_off96_eq c 7) ?_
  rw [wpc, wp_ret]
  exact (h.trans (Entails.of_eq (congrArg (fun a => Q ⟨a, castS (parB m (peer c 8) c)⟩) (pay38_eq m c).symm))).trans fupd_intro

/-- The next two. -/
theorem part22 {Q : _ → sProp 𝕄} {R : sProp 𝕄} (c : Dev nD) (v2 : BitVec 32)
    (h : ∀ x, iprop(R ∗ ctx m K ∗ rvW m c 10 ∗ ow c 15 ![15, 15] 0) ⊢ Q ⟨accV m c 10, x⟩) :
    iprop(R ∗ ctx m K ∗ rvW m c 8 ∗ ow c 15 ![15, 15] 0) ⊢ wpc c (onBufs (k0_part22 (F := F)) c v2 (accV m c 7) (castS (parB m (peer c 8) c))) Q := by
  unfold onBufs wpc
  rw [k0_part22_eq_skeleton]
  unfold k0_part22_skel
  simp -proj only [Prog.lift, Prog.bind_op, Prog.bind_ret, Prog.pure_eq_ret]
  refine w_rv m K c 8 (k0_off93_eq c 8) (by rfl) ?_
  refine w_got m K c 8 9 (Nat.le_refl _) (k0_off96_eq c 8) ?_
  refine w_rv m K c 9 (k0_off93_eq c 9) (by rfl) ?_
  refine w_got m K c 9 10 (Nat.le_refl _) (k0_off96_eq c 9) ?_
  rw [wpc, wp_ret]
  exact ((h _).trans (Entails.of_eq (congrArg (fun a => Q ⟨a, _⟩) (pay39_eq m c).symm))).trans fupd_intro

/-- The next two. -/
theorem part23 {Q : _ → sProp 𝕄} {R : sProp 𝕄} (c : Dev nD) (v2 v : BitVec 32)
    (h : ∀ x, iprop(R ∗ ctx m K ∗ rvW m c 12 ∗ ow c 15 ![15, 15] 0) ⊢ Q ⟨accV m c 12, x⟩) :
    iprop(R ∗ ctx m K ∗ rvW m c 10 ∗ ow c 15 ![15, 15] 0) ⊢ wpc c (onBufs (k0_part23 (F := F)) c v2 (accV m c 10) v) Q := by
  unfold onBufs wpc
  rw [k0_part23_eq_skeleton]
  unfold k0_part23_skel
  simp -proj only [Prog.lift, Prog.bind_op, Prog.bind_ret, Prog.pure_eq_ret]
  refine w_rv m K c 10 (k0_off93_eq c 10) (by rfl) ?_
  refine w_got m K c 10 11 (Nat.le_refl _) (k0_off96_eq c 10) ?_
  refine w_rv m K c 11 (k0_off93_eq c 11) (by rfl) ?_
  refine w_got m K c 11 12 (Nat.le_refl _) (k0_off96_eq c 11) ?_
  rw [wpc, wp_ret]
  exact ((h _).trans (Entails.of_eq (congrArg (fun a => Q ⟨a, _⟩) (pay40_eq m c).symm))).trans fupd_intro

/-- The last three, the last of them not yet added. -/
theorem part24 {Q : _ → sProp 𝕄} {R : sProp 𝕄} (c : Dev nD) (v2 v : BitVec 32)
    (h : iprop(R ∗ ctx m K ∗ rvW m c 15 ∗ ow c 15 ![15, 15] 0) ⊢ Q (accV m c 14)) :
    iprop(R ∗ ctx m K ∗ rvW m c 12 ∗ ow c 15 ![15, 15] 0) ⊢ wpc c (onBufs (k0_part24 (F := F)) c v2 (accV m c 12) v) Q := by
  unfold onBufs wpc
  rw [k0_part24_eq_skeleton]
  unfold k0_part24_skel
  simp -proj only [Prog.lift, Prog.bind_op, Prog.bind_ret, Prog.pure_eq_ret]
  refine w_rv m K c 12 (k0_off93_eq c 12) (by rfl) ?_
  refine w_got m K c 12 13 (Nat.le_refl _) (k0_off96_eq c 12) ?_
  refine w_rv m K c 13 (k0_off93_eq c 13) (by rfl) ?_
  refine w_got m K c 13 14 (Nat.le_refl _) (k0_off96_eq c 13) ?_
  refine w_rv m K c 14 (k0_off93_eq c 14) (by rfl) ?_
  rw [wpc, wp_ret]
  exact (h.trans (Entails.of_eq (congrArg Q (pay41_eq m c).symm))).trans fupd_intro

/-- The reduced row block, stored in the result, is lent to the gather's sends. -/
theorem reduced {R : sProp 𝕄} (c : Dev nD) :
    iprop(((R ∗ gsQ (F := F) c) ∗ (ctx m K ∗ rvW m c 15 ∗ ow c 15 ![15, 15] 0)) ∗ blk c (rowM outM c) fullShare (redB m c)) ⊢ iprop((R ∗ rvW m c 15) ∗ ctx m K ∗ gsP m c 0 ∗ ow c 15 ![15, 15] 0) := by
  have p := gs_start m c
  iintro ⟨⟨⟨HR, HQ⟩, #Hc, HV, HO⟩, HB⟩
  isplitl [HR HV]
  · isplitl [HR] <;> iassumption
  isplitr; · iexact Hc
  isplitl [HQ HB]
  · iapply p
    isplitl [HQ] <;> iassumption
  iexact HO

/-- The last addition, the reduced rows stored and sent to the first two devices. -/
theorem part25 {Q : _ → sProp 𝕄} {R : sProp 𝕄} (c : Dev nD) (v2 : BitVec 32)
    (h : iprop((R ∗ rvW m c 15) ∗ ctx m K ∗ gsP m c 2 ∗ ow c 15 ![15, 15] 2) ⊢ Q ⟨⟩) :
    iprop(((R ∗ gsQ (F := F) c) ∗ blkAny c (rowM outM c)) ∗ ctx m K ∗ rvW m c 15 ∗ ow c 15 ![15, 15] 0) ⊢ wpc c (onBufs (k0_part25 (F := F)) c v2 (accV m c 14)) Q := by
  unfold onBufs wpc
  rw [k0_part25_eq_skeleton]
  unfold k0_part25_skel
  simp -proj only [Prog.lift, Prog.bind_op, Prog.bind_ret, Prog.pure_eq_ret]
  refine w_got m K c 14 15 (Nat.le_refl _) (k0_off96_eq c 14) ?_
  refine swap ?_
  refine w_any c (rowM outM c) fun X => ?_
  refine w_row c c outM X (k0_off91_eq c) ?_
  refine w_put c c outM X (k0_pay42 (accV m c 14) (castS (parB m (peer c 15) c))) (k0_off91_eq c) ?_
  rw [pay42_eq]
  refine (reduced m K c).trans ?_
  refine w_gs m K c 0 (k0_dev46_eq c) rfl (k0_off97_eq c) (k0_off98_eq c) ?_
  refine w_gs m K c 1 (k0_dev47_eq c) rfl (k0_off97_eq c) (k0_off98_eq c) ?_
  rw [wpc, wp_ret]
  exact h.trans fupd_intro

/-- The reduced rows sent to the next four devices. -/
theorem part26 {Q : _ → sProp 𝕄} {R : sProp 𝕄} (c : Dev nD) (v2 : BitVec 32)
    (h : ∀ v, iprop(R ∗ ctx m K ∗ gsP m c 6 ∗ ow c 15 ![15, 15] 6) ⊢ Q v) :
    iprop(R ∗ ctx m K ∗ gsP m c 2 ∗ ow c 15 ![15, 15] 2) ⊢ wpc c (onBufs (k0_part26 (F := F)) c v2) Q := by
  unfold onBufs wpc
  rw [k0_part26_eq_skeleton]
  unfold k0_part26_skel
  simp -proj only [Prog.lift, Prog.bind_op, Prog.bind_ret, Prog.pure_eq_ret]
  refine w_gs m K c 2 (k0_dev48_eq c) rfl (k0_off97_eq c) (k0_off98_eq c) ?_
  refine w_gs m K c 3 (k0_dev49_eq c) rfl (k0_off97_eq c) (k0_off98_eq c) ?_
  refine w_gs m K c 4 (k0_dev50_eq c) rfl (k0_off97_eq c) (k0_off98_eq c) ?_
  refine w_gs m K c 5 (k0_dev51_eq c) rfl (k0_off97_eq c) (k0_off98_eq c) ?_
  rw [wpc, wp_ret]
  exact (h _).trans fupd_intro

/-- The reduced rows sent to the next three. -/
theorem part27 {Q : _ → sProp 𝕄} {R : sProp 𝕄} (c : Dev nD) (v2 v : BitVec 32)
    (h : ∀ x y, iprop(R ∗ ctx m K ∗ gsP m c 9 ∗ ow c 15 ![15, 15] 9) ⊢ Q ⟨x, y⟩) :
    iprop(R ∗ ctx m K ∗ gsP m c 6 ∗ ow c 15 ![15, 15] 6) ⊢ wpc c (onBufs (k0_part27 (F := F)) c v2 v) Q := by
  unfold onBufs wpc
  rw [k0_part27_eq_skeleton]
  unfold k0_part27_skel
  simp -proj only [Prog.lift, Prog.bind_op, Prog.bind_ret, Prog.pure_eq_ret]
  refine w_gs m K c 6 (k0_dev52_eq c) rfl (k0_off97_eq c) (k0_off98_eq c) ?_
  refine w_gs m K c 7 (k0_dev53_eq c) rfl (k0_off97_eq c) (k0_off98_eq c) ?_
  refine w_gs m K c 8 (k0_dev54_eq c) rfl (k0_off97_eq c) (k0_off98_eq c) ?_
  rw [wpc, wp_ret]
  exact (h _ _).trans fupd_intro

/-- The reduced rows sent to the next three. -/
theorem part28 {Q : _ → sProp 𝕄} {R : sProp 𝕄} (c : Dev nD) (v2 v w : BitVec 32)
    (h : iprop(R ∗ ctx m K ∗ gsP m c 12 ∗ ow c 15 ![15, 15] 12) ⊢ Q ⟨⟩) :
    iprop(R ∗ ctx m K ∗ gsP m c 9 ∗ ow c 15 ![15, 15] 9) ⊢ wpc c (onBufs (k0_part28 (F := F)) c v2 v w) Q := by
  unfold onBufs wpc
  rw [k0_part28_eq_skeleton]
  unfold k0_part28_skel
  simp -proj only [Prog.lift, Prog.bind_op, Prog.bind_ret, Prog.pure_eq_ret]
  refine w_gs m K c 9 (k0_dev55_eq c) rfl (k0_off97_eq c) (k0_off98_eq c) ?_
  refine w_gs m K c 10 (k0_dev56_eq c) rfl (k0_off97_eq c) (k0_off98_eq c) ?_
  refine w_gs m K c 11 (k0_dev57_eq c) rfl (k0_off97_eq c) (k0_off98_eq c) ?_
  rw [wpc, wp_ret]
  exact h.trans fupd_intro

/-- One pool put by, another taken up. -/
theorem turn_over {R A B O : sProp 𝕄} : iprop((R ∗ A) ∗ ctx m K ∗ B ∗ O) ⊢ iprop((R ∗ B) ∗ ctx m K ∗ A ∗ O) := by
  iintro ⟨⟨HR, HA⟩, #Hc, HB, HO⟩
  isplitl [HR HB]
  · isplitl [HR] <;> iassumption
  isplitr; · iexact Hc
  isplitl [HA] <;> iassumption

/-- The reduced rows sent to the last three devices, and the first rows received. -/
theorem part29 {Q : _ → sProp 𝕄} {R : sProp 𝕄} (c : Dev nD) (v2 : BitVec 32)
    (h : iprop((R ∗ gsP m c 15) ∗ ctx m K ∗ gvW m c 1 ∗ ow c 15 ![15, 15] 15) ⊢ Q ⟨⟩) :
    iprop((R ∗ gvW m c 0) ∗ ctx m K ∗ gsP m c 12 ∗ ow c 15 ![15, 15] 12) ⊢ wpc c (onBufs (k0_part29 (F := F)) c v2) Q := by
  unfold onBufs wpc
  rw [k0_part29_eq_skeleton]
  unfold k0_part29_skel
  simp -proj only [Prog.lift, Prog.bind_op, Prog.bind_ret, Prog.pure_eq_ret]
  refine w_gs m K c 12 (k0_dev58_eq c) rfl (k0_off97_eq c) (k0_off98_eq c) ?_
  refine w_gs m K c 13 (k0_dev59_eq c) rfl (k0_off97_eq c) (k0_off98_eq c) ?_
  refine w_gs m K c 14 (k0_dev60_eq c) rfl (k0_off97_eq c) (k0_off98_eq c) ?_
  refine (turn_over m K).trans ?_
  refine w_gv m K c 0 (k0_off93_eq c 0) (by rfl) ?_
  rw [wpc, wp_ret]
  exact h.trans fupd_intro

/-- The next three rows received. -/
theorem part30 {Q : _ → sProp 𝕄} {R : sProp 𝕄} (c : Dev nD) (v2 : BitVec 32)
    (h : iprop(R ∗ ctx m K ∗ gvW m c 4 ∗ ow c 15 ![15, 15] 15) ⊢ Q ⟨⟩) :
    iprop(R ∗ ctx m K ∗ gvW m c 1 ∗ ow c 15 ![15, 15] 15) ⊢ wpc c (onBufs (k0_part30 (F := F)) c v2) Q := by
  unfold onBufs wpc
  rw [k0_part30_eq_skeleton]
  unfold k0_part30_skel
  simp -proj only [Prog.lift, Prog.bind_op, Prog.bind_ret, Prog.pure_eq_ret]
  refine w_gv m K c 1 (k0_off93_eq c 1) (by rfl) ?_
  refine w_gv m K c 2 (k0_off93_eq c 2) (by rfl) ?_
  refine w_gv m K c 3 (k0_off93_eq c 3) (by rfl) ?_
  rw [wpc, wp_ret]
  exact h.trans fupd_intro

/-- The next three rows received. -/
theorem part31 {Q : _ → sProp 𝕄} {R : sProp 𝕄} (c : Dev nD) (v2 : BitVec 32)
    (h : iprop(R ∗ ctx m K ∗ gvW m c 7 ∗ ow c 15 ![15, 15] 15) ⊢ Q ⟨⟩) :
    iprop(R ∗ ctx m K ∗ gvW m c 4 ∗ ow c 15 ![15, 15] 15) ⊢ wpc c (onBufs (k0_part31 (F := F)) c v2) Q := by
  unfold onBufs wpc
  rw [k0_part31_eq_skeleton]
  unfold k0_part31_skel
  simp -proj only [Prog.lift, Prog.bind_op, Prog.bind_ret, Prog.pure_eq_ret]
  refine w_gv m K c 4 (k0_off93_eq c 4) (by rfl) ?_
  refine w_gv m K c 5 (k0_off93_eq c 5) (by rfl) ?_
  refine w_gv m K c 6 (k0_off93_eq c 6) (by rfl) ?_
  rw [wpc, wp_ret]
  exact h.trans fupd_intro

/-- The next three rows received. -/
theorem part32 {Q : _ → sProp 𝕄} {R : sProp 𝕄} (c : Dev nD) (v2 : BitVec 32)
    (h : iprop(R ∗ ctx m K ∗ gvW m c 10 ∗ ow c 15 ![15, 15] 15) ⊢ Q ⟨⟩) :
    iprop(R ∗ ctx m K ∗ gvW m c 7 ∗ ow c 15 ![15, 15] 15) ⊢ wpc c (onBufs (k0_part32 (F := F)) c v2) Q := by
  unfold onBufs wpc
  rw [k0_part32_eq_skeleton]
  unfold k0_part32_skel
  simp -proj only [Prog.lift, Prog.bind_op, Prog.bind_ret, Prog.pure_eq_ret]
  refine w_gv m K c 7 (k0_off93_eq c 7) (by rfl) ?_
  refine w_gv m K c 8 (k0_off93_eq c 8) (by rfl) ?_
  refine w_gv m K c 9 (k0_off93_eq c 9) (by rfl) ?_
  rw [wpc, wp_ret]
  exact h.trans fupd_intro

/-- The next three rows received. -/
theorem part33 {Q : _ → sProp 𝕄} {R : sProp 𝕄} (c : Dev nD) (v2 : BitVec 32)
    (h : iprop(R ∗ ctx m K ∗ gvW m c 13 ∗ ow c 15 ![15, 15] 15) ⊢ Q ⟨⟩) :
    iprop(R ∗ ctx m K ∗ gvW m c 10 ∗ ow c 15 ![15, 15] 15) ⊢ wpc c (onBufs (k0_part33 (F := F)) c v2) Q := by
  unfold onBufs wpc
  rw [k0_part33_eq_skeleton]
  unfold k0_part33_skel
  simp -proj only [Prog.lift, Prog.bind_op, Prog.bind_ret, Prog.pure_eq_ret]
  refine w_gv m K c 10 (k0_off93_eq c 10) (by rfl) ?_
  refine w_gv m K c 11 (k0_off93_eq c 11) (by rfl) ?_
  refine w_gv m K c 12 (k0_off93_eq c 12) (by rfl) ?_
  rw [wpc, wp_ret]
  exact h.trans fupd_intro

/-- The last two rows received, and the first partial product known to be sent. -/
theorem part34 {Q : _ → sProp 𝕄} {R : sProp 𝕄} (c : Dev nD) (v2 : BitVec 32)
    (h : ∀ v w, iprop((R ∗ gvW m c 15) ∗ ctx m K ∗ ssW m c 1 ∗ ow c 15 ![15, 15] 15) ⊢ Q ⟨v, w⟩) :
    iprop((R ∗ ssW m c 0) ∗ ctx m K ∗ gvW m c 13 ∗ ow c 15 ![15, 15] 15) ⊢ wpc c (onBufs (k0_part34 (F := F)) c v2) Q := by
  unfold onBufs wpc
  rw [k0_part34_eq_skeleton]
  unfold k0_part34_skel
  simp -proj only [Prog.lift, Prog.bind_op, Prog.bind_ret, Prog.pure_eq_ret]
  refine w_gv m K c 13 (k0_off93_eq c 13) (by rfl) ?_
  refine w_gv m K c 14 (k0_off93_eq c 14) (by rfl) ?_
  refine (turn_over m K).trans ?_
  refine w_ss m K c 0 rfl (by rfl) ?_
  rw [wpc, wp_ret]
  exact (h _ _).trans fupd_intro

/-- The next three partial products known to be sent. -/
theorem part35 {Q : _ → sProp 𝕄} {R : sProp 𝕄} (c : Dev nD) (v2 v w : BitVec 32)
    (h : iprop(R ∗ ctx m K ∗ ssW m c 4 ∗ ow c 15 ![15, 15] 15) ⊢ Q ⟨⟩) :
    iprop(R ∗ ctx m K ∗ ssW m c 1 ∗ ow c 15 ![15, 15] 15) ⊢ wpc c (onBufs (k0_part35 (F := F)) c v2 v w) Q := by
  unfold onBufs wpc
  rw [k0_part35_eq_skeleton]
  unfold k0_part35_skel
  simp -proj only [Prog.lift, Prog.bind_op, Prog.bind_ret, Prog.pure_eq_ret]
  refine w_ss m K c 1 rfl (by rfl) ?_
  refine w_ss m K c 2 rfl (by rfl) ?_
  refine w_ss m K c 3 rfl (by rfl) ?_
  rw [wpc, wp_ret]
  exact h.trans fupd_intro

/-- The next four. -/
theorem part36 {Q : _ → sProp 𝕄} {R : sProp 𝕄} (c : Dev nD) (v2 : BitVec 32)
    (h : ∀ x, iprop(R ∗ ctx m K ∗ ssW m c 8 ∗ ow c 15 ![15, 15] 15) ⊢ Q x) :
    iprop(R ∗ ctx m K ∗ ssW m c 4 ∗ ow c 15 ![15, 15] 15) ⊢ wpc c (onBufs (k0_part36 (F := F)) c v2) Q := by
  unfold onBufs wpc
  rw [k0_part36_eq_skeleton]
  unfold k0_part36_skel
  simp -proj only [Prog.lift, Prog.bind_op, Prog.bind_ret, Prog.pure_eq_ret]
  refine w_ss m K c 4 rfl (by rfl) ?_
  refine w_ss m K c 5 rfl (by rfl) ?_
  refine w_ss m K c 6 rfl (by rfl) ?_
  refine w_ss m K c 7 rfl (by rfl) ?_
  rw [wpc, wp_ret]
  exact (h _).trans fupd_intro

/-- The next three. -/
theorem part37 {Q : _ → sProp 𝕄} {R : sProp 𝕄} (c : Dev nD) (v2 v : BitVec 32)
    (h : iprop(R ∗ ctx m K ∗ ssW m c 11 ∗ ow c 15 ![15, 15] 15) ⊢ Q ⟨⟩) :
    iprop(R ∗ ctx m K ∗ ssW m c 8 ∗ ow c 15 ![15, 15] 15) ⊢ wpc c (onBufs (k0_part37 (F := F)) c v2 v) Q := by
  unfold onBufs wpc
  rw [k0_part37_eq_skeleton]
  unfold k0_part37_skel
  simp -proj only [Prog.lift, Prog.bind_op, Prog.bind_ret, Prog.pure_eq_ret]
  refine w_ss m K c 8 rfl (by rfl) ?_
  refine w_ss m K c 9 rfl (by rfl) ?_
  refine w_ss m K c 10 rfl (by rfl) ?_
  rw [wpc, wp_ret]
  exact h.trans fupd_intro

/-- The last four. -/
theorem part38 {Q : _ → sProp 𝕄} {R : sProp 𝕄} (c : Dev nD) (v2 : BitVec 32)
    (h : iprop(R ∗ ctx m K ∗ ssW m c 15 ∗ ow c 15 ![15, 15] 15) ⊢ Q ⟨⟩) :
    iprop(R ∗ ctx m K ∗ ssW m c 11 ∗ ow c 15 ![15, 15] 15) ⊢ wpc c (onBufs (k0_part38 (F := F)) c v2) Q := by
  unfold onBufs wpc
  rw [k0_part38_eq_skeleton]
  unfold k0_part38_skel
  simp -proj only [Prog.lift, Prog.bind_op, Prog.bind_ret, Prog.pure_eq_ret]
  refine w_ss m K c 11 rfl (by rfl) ?_
  refine w_ss m K c 12 rfl (by rfl) ?_
  refine w_ss m K c 13 rfl (by rfl) ?_
  refine w_ss m K c 14 rfl (by rfl) ?_
  rw [wpc, wp_ret]
  exact h.trans fupd_intro

/-- The reduced rows known to be sent to the first seven devices. -/
theorem part39 {Q : _ → sProp 𝕄} {R : sProp 𝕄} (c : Dev nD)
    (h : iprop(R ∗ ctx m K ∗ gsW m c 7 ∗ ow c 15 ![15, 15] 15) ⊢ Q ⟨⟩) :
    iprop(R ∗ ctx m K ∗ gsW m c 0 ∗ ow c 15 ![15, 15] 15) ⊢ wpc c (onBufs (k0_part39 (F := F)) c) Q := by
  unfold onBufs wpc
  rw [k0_part39_eq_skeleton]
  unfold k0_part39_skel
  simp -proj only [Prog.lift, Prog.bind_op, Prog.bind_ret, Prog.pure_eq_ret]
  refine w_gw m K c 0 rfl (by rfl) ?_
  refine w_gw m K c 1 rfl (by rfl) ?_
  refine w_gw m K c 2 rfl (by rfl) ?_
  refine w_gw m K c 3 rfl (by rfl) ?_
  refine w_gw m K c 4 rfl (by rfl) ?_
  refine w_gw m K c 5 rfl (by rfl) ?_
  refine w_gw m K c 6 rfl (by rfl) ?_
  rw [wpc, wp_ret]
  exact h.trans fupd_intro

/-- To the next six. -/
theorem part40 {Q : _ → sProp 𝕄} {R : sProp 𝕄} (c : Dev nD)
    (h : iprop(R ∗ ctx m K ∗ gsW m c 13 ∗ ow c 15 ![15, 15] 15) ⊢ Q ⟨⟩) :
    iprop(R ∗ ctx m K ∗ gsW m c 7 ∗ ow c 15 ![15, 15] 15) ⊢ wpc c (onBufs (k0_part40 (F := F)) c) Q := by
  unfold onBufs wpc
  rw [k0_part40_eq_skeleton]
  unfold k0_part40_skel
  simp -proj only [Prog.lift, Prog.bind_op, Prog.bind_ret, Prog.pure_eq_ret]
  refine w_gw m K c 7 rfl (by rfl) ?_
  refine w_gw m K c 8 rfl (by rfl) ?_
  refine w_gw m K c 9 rfl (by rfl) ?_
  refine w_gw m K c 10 rfl (by rfl) ?_
  refine w_gw m K c 11 rfl (by rfl) ?_
  refine w_gw m K c 12 rfl (by rfl) ?_
  rw [wpc, wp_ret]
  exact h.trans fupd_intro

end Cert.KernelIdealProof
-- ==== Proof.KernelIdeal.Whole.lean ====
/-
The body from its start to its end, the parts one after another.
-/
module

public import proofs.«01_k».proof.Proof.KernelIdeal.Body3

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Kind → ℕ)

/-- Two resources may change places. -/
theorem comm_le (a b : sProp 𝕄) : iprop(a ∗ b) ⊢ iprop(b ∗ a) := by
  iintro ⟨HA, HB⟩; isplitl [HB] <;> iassumption

/-- Three resources regrouped to the right. -/
theorem assoc_le (a b c : sProp 𝕄) : iprop((a ∗ b) ∗ c) ⊢ iprop(a ∗ b ∗ c) := by
  iintro ⟨⟨HA, HB⟩, HC⟩
  isplitl [HA]; · iexact HA
  isplitl [HB] <;> iassumption
/-- Three resources regrouped to the left. -/
theorem assoc_ge (a b c : sProp 𝕄) : iprop(a ∗ b ∗ c) ⊢ iprop((a ∗ b) ∗ c) := by
  iintro ⟨HA, HB, HC⟩
  isplitl [HA HB]; · isplitl [HA] <;> iassumption
  iexact HC

instance sep_assoc_inst : Std.Associative (α := sProp 𝕄) BIBase.sep := ⟨fun a b c => BI.Entails.antisymm (assoc_le a b c) (assoc_ge a b c)⟩
instance sep_comm_inst : Std.Commutative (α := sProp 𝕄) BIBase.sep := ⟨fun a b => BI.Entails.antisymm (comm_le a b) (comm_le b a)⟩

/-- A conjunction may be put in another order. -/
theorem re {A B W : sProp 𝕄} (e : A = B) (h : B ⊢ W) : A ⊢ W := (Entails.of_eq e).trans h

/-- What device `c`'s body starts from. -/
abbrev startP (c : Dev nD) : sProp 𝕄 := iprop(owns (c : Thread nD τ) (Memref.whole cc0_stg3_0) fullShare (stg3 m c) ∗ owns (c : Thread nD τ) (Memref.whole cc0_stg4_0) fullShare (stg4 m c) ∗ attI m c 0 ∗ parH (F := F) c 0 ∗ parH (F := F) c 1 ∗ blkAny (F := F) c (slotM c) ∗ blkAny (F := F) c (rowM outM c) ∗ toks (F := F) c ∗ rvW m c 0 ∗ gvW m c 0 ∗ atsP (F := F) c (fun t => (0, place c t)) ∗ atsP (F := F) c (fun t => (2, place c t)))
/-- What it leaves. -/
abbrev endP (c : Dev nD) : sProp 𝕄 := iprop(argO m c ∗ semVal (barC c) 0 ∗ owns (c : Thread nD τ) (Memref.whole cc0_stg3_0) fullShare (stg3 m c) ∗ owns (c : Thread nD τ) (Memref.whole cc0_stg4_0) fullShare (stg4 m c) ∗ attI m c 16 ∗ blk c (rowM parM c) fullShare (parB m c c) ∗ blk c (slotM c) fullShare (parB m c c) ∗ ssW m c 15 ∗ rvW m c 15 ∗ gvW m c 15 ∗ blk c (rowM outM c) (lent c) (redB m c))

/-- A device's tokens are dealt to the steps that use them. -/
theorem deal_step {R : sProp 𝕄} (c : Dev nD) : iprop(R ∗ toks (F := F) c ∗ dests (F := F) c) ⊢ iprop(R ∗ rsQ (F := F) c 0 ∗ rsQ (F := F) c 1 ∗ gsQ (F := F) c) := sep_mono .rfl (deal c)
/-- The first batch entry's sends start from its rows of the partial product. -/
theorem early_start {R : sProp 𝕄} (c : Dev nD) : iprop(R ∗ ctx m K ∗ (rsQ (F := F) c 0 ∗ rowsH m c 0) ∗ ow c 15 ![0, 0] 0) ⊢ iprop(R ∗ ctx m K ∗ rsP m c 0 0 ∗ ow c 15 ![0, 0] 0) :=
  sep_mono .rfl (sep_mono .rfl (sep_mono (rs_start m c 0) .rfl))
/-- When the gather's sends are started, every one can be awaited. -/
theorem gathered_step {R : sProp 𝕄} (c : Dev nD) : iprop(R ∗ ctx m K ∗ (gsP m c 15 ∗ atsP (F := F) c (fun t => (2, place c t))) ∗ ow c 15 ![15, 15] 15) ⊢ iprop((R ∗ blk c (rowM outM c) (lent c) (redB m c)) ∗ ctx m K ∗ gsW m c 0 ∗ ow c 15 ![15, 15] 15) := by
  have p := gathered m c
  iintro ⟨HR, #Hc, H, HO⟩
  ihave H := p $$ H
  icases H with ⟨Hb, HW⟩
  isplitl [HR Hb]
  · isplitl [HR] <;> iassumption
  isplitr; · iexact Hc
  isplitl [HW] <;> iassumption

attribute [local irreducible] k0_off98 k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40

/-- The body, from its start to its end. -/
theorem body_walk {Q : PUnit → sProp 𝕄} {R : sProp 𝕄} (c : Dev nD)
    (h : iprop((R ∗ endP m c) ∗ ctx m K ∗ gsW m c 15 ∗ ow c 15 ![15, 15] 15) ⊢ Q ⟨⟩) :
    iprop(((R ∗ startP m c) ∗ argO m c ∗ cred (tallyAt (barC c) () 15) ∗ atPos ER (barC c) 0 ∅ 0) ∗ ctx m K ∗ sigP c 0 ∗ ow c 0 ![0, 0] 0) ⊢ wpc c (onBufs (cc0_body (F := F))) Q := by
  unfold onBufs wpc startP
  rw [cc0_body_eq_skeleton]
  unfold cc0_body_skel
  rw [wp_bind]
  refine part1 m K c ?_
  intro v2 v24 w1
  try dsimp only
  rw [wp_bind]
  refine part2 m K c _ _ _ ?_
  intro v48 w2
  try dsimp only
  rw [wp_bind]
  refine re (by ac_rfl) (part3 m K (R := iprop(R ∗ owns (c : Thread nD τ) (Memref.whole cc0_stg3_0) fullShare (stg3 m c) ∗ owns (c : Thread nD τ) (Memref.whole cc0_stg4_0) fullShare (stg4 m c) ∗ attI m c 0 ∗ parH (F := F) c 0 ∗ parH (F := F) c 1 ∗ blkAny (F := F) c (slotM c) ∗ blkAny (F := F) c (rowM outM c) ∗ toks (F := F) c ∗ rvW m c 0 ∗ gvW m c 0 ∗ atsP (F := F) c (fun t => (0, place c t)) ∗ atsP (F := F) c (fun t => (2, place c t)))) c _ _ _ ?_)
  try dsimp only
  refine re (by ac_rfl) ((deal_step (R := iprop(R ∗ owns (c : Thread nD τ) (Memref.whole cc0_stg3_0) fullShare (stg3 m c) ∗ owns (c : Thread nD τ) (Memref.whole cc0_stg4_0) fullShare (stg4 m c) ∗ attI m c 0 ∗ parH (F := F) c 0 ∗ parH (F := F) c 1 ∗ blkAny (F := F) c (slotM c) ∗ blkAny (F := F) c (rowM outM c) ∗ rvW m c 0 ∗ gvW m c 0 ∗ atsP (F := F) c (fun t => (0, place c t)) ∗ atsP (F := F) c (fun t => (2, place c t)) ∗ argO m c ∗ semVal (barC c) 0 ∗ ctx m K ∗ ow c 15 ![0, 0] 0)) c).trans ?_)
  rw [wp_bind]
  refine re (by ac_rfl) (part4 m (R := iprop(R ∗ owns (c : Thread nD τ) (Memref.whole cc0_stg4_0) fullShare (stg4 m c) ∗ parH (F := F) c 0 ∗ parH (F := F) c 1 ∗ blkAny (F := F) c (slotM c) ∗ blkAny (F := F) c (rowM outM c) ∗ rvW m c 0 ∗ gvW m c 0 ∗ atsP (F := F) c (fun t => (0, place c t)) ∗ atsP (F := F) c (fun t => (2, place c t)) ∗ argO m c ∗ semVal (barC c) 0 ∗ ctx m K ∗ ow c 15 ![0, 0] 0 ∗ rsQ (F := F) c 0 ∗ rsQ (F := F) c 1 ∗ gsQ (F := F) c)) c ?_)
  try dsimp only
  rw [wp_bind]
  refine part5 m c ?_
  try dsimp only
  rw [wp_bind]
  refine part6 m c ?_
  try dsimp only
  rw [wp_bind]
  refine re (by ac_rfl) (part7 m (R := iprop(R ∗ owns (c : Thread nD τ) (Memref.whole cc0_stg3_0) fullShare (stg3 m c) ∗ parH (F := F) c 1 ∗ blkAny (F := F) c (slotM c) ∗ blkAny (F := F) c (rowM outM c) ∗ rvW m c 0 ∗ gvW m c 0 ∗ atsP (F := F) c (fun t => (0, place c t)) ∗ atsP (F := F) c (fun t => (2, place c t)) ∗ argO m c ∗ semVal (barC c) 0 ∗ ctx m K ∗ ow c 15 ![0, 0] 0 ∗ rsQ (F := F) c 0 ∗ rsQ (F := F) c 1 ∗ gsQ (F := F) c)) c _ ?_)
  intro v236 w3
  try dsimp only
  refine re (by ac_rfl) ((early_start m K (R := iprop(R ∗ owns (c : Thread nD τ) (Memref.whole cc0_stg3_0) fullShare (stg3 m c) ∗ owns (c : Thread nD τ) (Memref.whole cc0_stg4_0) fullShare (stg4 m c) ∗ parH (F := F) c 1 ∗ blkAny (F := F) c (slotM c) ∗ blkAny (F := F) c (rowM outM c) ∗ rvW m c 0 ∗ gvW m c 0 ∗ atsP (F := F) c (fun t => (0, place c t)) ∗ atsP (F := F) c (fun t => (2, place c t)) ∗ argO m c ∗ semVal (barC c) 0 ∗ rsQ (F := F) c 1 ∗ gsQ (F := F) c ∗ attI m c 8)) c).trans ?_)
  rw [wp_bind]
  refine part8 m K c _ _ _ ?_
  try dsimp only
  rw [wp_bind]
  refine part9 m K c _ ?_
  intro v290 v292
  try dsimp only
  rw [wp_bind]
  refine part10 m K c _ _ _ ?_
  intro v319 w4
  try dsimp only
  rw [wp_bind]
  refine re (by ac_rfl) (part11 m K (R := iprop(R ∗ owns (c : Thread nD τ) (Memref.whole cc0_stg3_0) fullShare (stg3 m c) ∗ owns (c : Thread nD τ) (Memref.whole cc0_stg4_0) fullShare (stg4 m c) ∗ parH (F := F) c 1 ∗ blkAny (F := F) c (slotM c) ∗ blkAny (F := F) c (rowM outM c) ∗ rvW m c 0 ∗ gvW m c 0 ∗ atsP (F := F) c (fun t => (0, place c t)) ∗ atsP (F := F) c (fun t => (2, place c t)) ∗ argO m c ∗ semVal (barC c) 0 ∗ rsQ (F := F) c 1 ∗ gsQ (F := F) c)) c _ _ ?_)
  try dsimp only
  rw [wp_bind]
  refine re (by ac_rfl) (part12 m (R := iprop(R ∗ owns (c : Thread nD τ) (Memref.whole cc0_stg3_0) fullShare (stg3 m c) ∗ owns (c : Thread nD τ) (Memref.whole cc0_stg4_0) fullShare (stg4 m c) ∗ parH (F := F) c 1 ∗ blkAny (F := F) c (slotM c) ∗ blkAny (F := F) c (rowM outM c) ∗ rvW m c 0 ∗ gvW m c 0 ∗ atsP (F := F) c (fun t => (0, place c t)) ∗ atsP (F := F) c (fun t => (2, place c t)) ∗ argO m c ∗ semVal (barC c) 0 ∗ rsQ (F := F) c 1 ∗ gsQ (F := F) c ∗ ctx m K ∗ rsP m c 0 15 ∗ ow c 15 ![15, 0] 0)) c ?_)
  try dsimp only
  rw [wp_bind]
  refine part13 m c ?_
  try dsimp only
  rw [wp_bind]
  refine re (by ac_rfl) (part14 m (R := iprop(R ∗ owns (c : Thread nD τ) (Memref.whole cc0_stg3_0) fullShare (stg3 m c) ∗ blkAny (F := F) c (slotM c) ∗ blkAny (F := F) c (rowM outM c) ∗ rvW m c 0 ∗ gvW m c 0 ∗ atsP (F := F) c (fun t => (0, place c t)) ∗ atsP (F := F) c (fun t => (2, place c t)) ∗ argO m c ∗ semVal (barC c) 0 ∗ rsQ (F := F) c 1 ∗ gsQ (F := F) c ∗ ctx m K ∗ rsP m c 0 15 ∗ ow c 15 ![15, 0] 0)) c ?_)
  try dsimp only
  rw [wp_bind]
  refine re (by ac_rfl) (part15 m K (R := iprop(R ∗ owns (c : Thread nD τ) (Memref.whole cc0_stg3_0) fullShare (stg3 m c) ∗ owns (c : Thread nD τ) (Memref.whole cc0_stg4_0) fullShare (stg4 m c) ∗ blkAny (F := F) c (slotM c) ∗ blkAny (F := F) c (rowM outM c) ∗ rvW m c 0 ∗ gvW m c 0 ∗ atsP (F := F) c (fun t => (0, place c t)) ∗ atsP (F := F) c (fun t => (2, place c t)) ∗ argO m c ∗ semVal (barC c) 0 ∗ gsQ (F := F) c ∗ rsP m c 0 15 ∗ attI m c 16)) c _ ?_)
  intro v509 w5
  try dsimp only
  rw [wp_bind]
  refine part16 m K c _ _ _ ?_
  intro v538
  try dsimp only
  rw [wp_bind]
  refine part17 m K c _ _ ?_
  intro v563 v566
  try dsimp only
  rw [wp_bind]
  refine re (by ac_rfl) (part18 m K (R := iprop(R ∗ owns (c : Thread nD τ) (Memref.whole cc0_stg3_0) fullShare (stg3 m c) ∗ owns (c : Thread nD τ) (Memref.whole cc0_stg4_0) fullShare (stg4 m c) ∗ blkAny (F := F) c (rowM outM c) ∗ gvW m c 0 ∗ atsP (F := F) c (fun t => (2, place c t)) ∗ argO m c ∗ semVal (barC c) 0 ∗ gsQ (F := F) c ∗ attI m c 16)) c _ _ _ ?_)
  try dsimp only
  rw [wp_bind]
  refine part19 m K c _ ?_
  intro v628 w6
  try dsimp only
  rw [wp_bind]
  refine part20 m K c _ _ _ ?_
  intro v656
  try dsimp only
  rw [wp_bind]
  refine part21 m K c _ _ ?_
  try dsimp only
  rw [wp_bind]
  refine part22 m K c _ ?_
  intro v726
  try dsimp only
  rw [wp_bind]
  refine part23 m K c _ _ ?_
  intro v754
  try dsimp only
  rw [wp_bind]
  refine part24 m K c _ _ ?_
  try dsimp only
  rw [wp_bind]
  refine re (by ac_rfl) (part25 m K (R := iprop(R ∗ owns (c : Thread nD τ) (Memref.whole cc0_stg3_0) fullShare (stg3 m c) ∗ owns (c : Thread nD τ) (Memref.whole cc0_stg4_0) fullShare (stg4 m c) ∗ gvW m c 0 ∗ atsP (F := F) c (fun t => (2, place c t)) ∗ argO m c ∗ semVal (barC c) 0 ∗ attI m c 16 ∗ ssW m c 0 ∗ blk c (rowM parM c) fullShare (parB m c c) ∗ blk c (slotM c) fullShare (parB m c c))) c _ ?_)
  try dsimp only
  rw [wp_bind]
  refine part26 m K c _ ?_
  intro v858
  try dsimp only
  rw [wp_bind]
  refine part27 m K c _ _ ?_
  intro v890 w7
  try dsimp only
  rw [wp_bind]
  refine part28 m K c _ _ _ ?_
  try dsimp only
  rw [wp_bind]
  refine re (by ac_rfl) (part29 m K (R := iprop(R ∗ owns (c : Thread nD τ) (Memref.whole cc0_stg3_0) fullShare (stg3 m c) ∗ owns (c : Thread nD τ) (Memref.whole cc0_stg4_0) fullShare (stg4 m c) ∗ atsP (F := F) c (fun t => (2, place c t)) ∗ argO m c ∗ semVal (barC c) 0 ∗ attI m c 16 ∗ ssW m c 0 ∗ blk c (rowM parM c) fullShare (parB m c c) ∗ blk c (slotM c) fullShare (parB m c c) ∗ rvW m c 15)) c _ ?_)
  try dsimp only
  rw [wp_bind]
  refine part30 m K c _ ?_
  try dsimp only
  rw [wp_bind]
  refine part31 m K c _ ?_
  try dsimp only
  rw [wp_bind]
  refine part32 m K c _ ?_
  try dsimp only
  rw [wp_bind]
  refine part33 m K c _ ?_
  try dsimp only
  rw [wp_bind]
  refine re (by ac_rfl) (part34 m K (R := iprop(R ∗ owns (c : Thread nD τ) (Memref.whole cc0_stg3_0) fullShare (stg3 m c) ∗ owns (c : Thread nD τ) (Memref.whole cc0_stg4_0) fullShare (stg4 m c) ∗ atsP (F := F) c (fun t => (2, place c t)) ∗ argO m c ∗ semVal (barC c) 0 ∗ attI m c 16 ∗ blk c (rowM parM c) fullShare (parB m c c) ∗ blk c (slotM c) fullShare (parB m c c) ∗ rvW m c 15 ∗ gsP m c 15)) c _ ?_)
  intro v1106 w8
  try dsimp only
  rw [wp_bind]
  refine part35 m K c _ _ _ ?_
  try dsimp only
  rw [wp_bind]
  refine part36 m K c _ ?_
  intro v1163
  try dsimp only
  rw [wp_bind]
  refine part37 m K c _ _ ?_
  try dsimp only
  rw [wp_bind]
  refine part38 m K c _ ?_
  try dsimp only
  refine re (by ac_rfl) ((gathered_step m K (R := iprop(R ∗ owns (c : Thread nD τ) (Memref.whole cc0_stg3_0) fullShare (stg3 m c) ∗ owns (c : Thread nD τ) (Memref.whole cc0_stg4_0) fullShare (stg4 m c) ∗ argO m c ∗ semVal (barC c) 0 ∗ attI m c 16 ∗ blk c (rowM parM c) fullShare (parB m c c) ∗ blk c (slotM c) fullShare (parB m c c) ∗ rvW m c 15 ∗ gvW m c 15 ∗ ssW m c 15)) c).trans ?_)
  rw [wp_bind]
  refine part39 m K c ?_
  try dsimp only
  rw [wp_bind]
  refine part40 m K c ?_
  try dsimp only
  simp -proj only [Prog.lift, Prog.bind_op, Prog.bind_ret, Prog.pure_eq_ret]
  refine w_gw m K c 13 rfl (by rfl) ?_
  refine w_gw m K c 14 rfl (by rfl) ?_
  rw [wpc, wp_ret]
  unfold endP at h
  exact (re (by show _ = iprop((R ∗ argO m c ∗ semVal (barC c) 0 ∗ owns (c : Thread nD τ) (Memref.whole cc0_stg3_0) fullShare (stg3 m c) ∗ owns (c : Thread nD τ) (Memref.whole cc0_stg4_0) fullShare (stg4 m c) ∗ attI m c 16 ∗ blk c (rowM parM c) fullShare (parB m c c) ∗ blk c (slotM c) fullShare (parB m c c) ∗ ssW m c 15 ∗ rvW m c 15 ∗ gvW m c 15 ∗ blk c (rowM outM c) (lent c) (redB m c)) ∗ ctx m K ∗ gsW m c (14 + 1) ∗ ow c 15 ![15, 15] 15); ac_rfl) h).trans fupd_intro

end Cert.KernelIdealProof
-- ==== Proof.KernelIdeal.Ends.lean ====
/-
What surrounds the body: from what the launch gives a device to the body's start, and from the body's end to what the launch
takes back.
-/
module

public import proofs.«01_k».proof.Proof.KernelIdeal.Whole
public import Idealize.ShloMosaic.Lib.ViewIndex

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (m : (ℓ : Loc nD τ sig) → Buf (Elt F) ℓ)

/-! ## A conjunction over the devices, one device apart -/

/-- A conjunction over the devices is its part at `c` and the parts at the others. -/
theorem apart (Φ : Dev nD → sProp 𝕄) (c : Dev nD) :
    (bigSep Finset.univ Φ : sProp 𝕄) = iprop(Φ c ∗ bigSep Finset.univ fun t => if t ≠ c then Φ t else iprop(emp)) := by
  rw [bigSep_univ_at Φ c, ← Finset.filter_ne' Finset.univ c, bigSep_filter]
  rfl

/-- Contents a view reads alike are alike on its elements. -/
theorem same_on {b : Memref sig .tc .vmem S16x512 .f32} (c : Dev nD) {f g : Buf (Elt F) (b.view.loc (c : Thread nD τ))}
    (h : b.view.read (Elt F) f = b.view.read (Elt F) g) : ∀ i ∈ b.view.set, f i = g i := by
  intro i hi
  obtain ⟨x, -, rfl⟩ := Finset.mem_map.mp hi
  exact View.eq_of_read_eq (congrFun h x)

/-- A lent share of a block is a share of its array's elements. -/
theorem unlend_at (c t : Dev nD) (b : Memref sig .tc .vmem S16x512 .f32) (X : FVec F S16x512 .f32) (f) (hf : b.view.read (Elt F) f = X) :
    (blk c b (lent t) X : sProp 𝕄) ⊢ (b.view.loc (c : Thread nD τ) ↦[b.view.set]{lent t} f) := by
  iintro H
  ihave H := (Entails.of_eq (owns_open (c : Thread nD τ) b (lent t) X)) $$ H
  icases H with ⟨%g, %hg, H⟩
  have e := pointsTo_congr (Ix := Unit) (Name := ℕ) (U := UU) (Lvl := ℕ) (Val := Elt F) (ℓ := b.view.loc (c : Thread nD τ)) (q := lent t)
    (same_on c (hg.trans hf.symm))
  iapply (Entails.of_eq e)
  iexact H

/-- The same for every device but the lender. -/
theorem unlend_at' (c t : Dev nD) (b : Memref sig .tc .vmem S16x512 .f32) (X : FVec F S16x512 .f32) (f) (hf : b.view.read (Elt F) f = X) :
    (if t ≠ c then blk c b (lent t) X else iprop(emp) : sProp 𝕄) ⊢ (if t ≠ c then (b.view.loc (c : Thread nD τ) ↦[b.view.set]{lent t} f) else iprop(emp)) := by
  by_cases h : t ≠ c
  · simp only [if_pos h]; exact unlend_at c t b X f hf
  · simp only [if_neg h]; exact .rfl

/-- Rows lent out in sixteen shares, all back. -/
theorem unlend (c : Dev nD) (b : Memref sig .tc .vmem S16x512 .f32) (X : FVec F S16x512 .f32) :
    iprop(blk c b (lent c) X ∗ bigSep Finset.univ fun t : Dev nD => if t ≠ c then blk c b (lent t) X else iprop(emp)) ⊢ (blk c b fullShare X : sProp 𝕄) := by
  iintro ⟨H, HR⟩
  ihave H := (Entails.of_eq (owns_open (c : Thread nD τ) b (lent c) X)) $$ H
  icases H with ⟨%f, %hf, H⟩
  have hm : (bigSep Finset.univ fun t : Dev nD => if t ≠ c then blk c b (lent t) X else iprop(emp) : sProp 𝕄)
      ⊢ bigSep Finset.univ fun t : Dev nD => if t ≠ c then (b.view.loc (c : Thread nD τ) ↦[b.view.set]{lent t} f) else iprop(emp) :=
    bigSep_mono fun t _ => unlend_at' c t b X f hf
  ihave HR := hm $$ HR
  have hj := (apart (fun t : Dev nD => (b.view.loc (c : Thread nD τ) ↦[b.view.set]{lent t} f : sProp 𝕄)) c).symm.trans (leaves16 _ _ _).symm
  iapply (Entails.of_eq (owns_open (c : Thread nD τ) b fullShare X).symm)
  iexists f
  isplitr; · ipureintro; exact hf
  iapply (Entails.of_eq hj)
  isplitl [H] <;> iassumption

/-! ## From the launch's holdings to the body's start -/

/-- The duties of the barriers device `c` signals. -/
def barToks (c : Dev nD) : sProp 𝕄 := bigSep Finset.univ fun t => if t ≠ c then dutyTok ER (barC t) 0 c else iprop(emp)
/-- The credits for the transfers device `c` receives on array `a`. -/
def recvCreds (c : Dev nD) (a : Fin 4) : sProp 𝕄 :=
  bigSep Finset.univ fun t => if t ≠ c then cred (tallyAt (kcell (c, some (a, t))) () N) else iprop(emp)

/-- A block held at a value is held at some contents. -/
theorem blkAny_intro (c : Dev nD) (b : Memref sig .tc .vmem S16x512 .f32) (X : FVec F S16x512 .f32) : (blk c b fullShare X : sProp 𝕄) ⊢ blkAny c b := by
  unfold blkAny; iintro H; iexists X; iexact H

/-- An array held is its sixteen row blocks held at some contents. -/
theorem rows_any (c : Dev nD) (b : Memref sig .tc .vmem S256x512 .f32) (f : S256x512.Idx → F .f32) :
    (owns (c : Thread nD τ) b fullShare f : sProp 𝕄) ⊢ bigSep Finset.univ fun t => blkAny c (rowM b t) :=
  (rows_split c b f).trans (bigSep_mono fun t _ => blkAny_intro c _ _)

/-- One slot of the receive buffer, held, is held at some contents. -/
theorem slot_any (c t : Dev nD) (Y : S1x16x512.Idx → F .f32) :
    (owns (c : Thread nD τ) (rsM.slice (slotR t) (fun _ => rfl)) fullShare Y : sProp 𝕄) ⊢ blkAny c (slotM t) := by
  rw [slot_eq]; exact blkAny_intro c _ _

/-- The receive buffer held is its sixteen slots held at some contents. -/
theorem slots_any (c : Dev nD) (f : S16x16x512.Idx → F .f32) :
    (owns (c : Thread nD τ) rsM fullShare f : sProp 𝕄) ⊢ bigSep Finset.univ fun t => blkAny c (slotM t) :=
  (owns_rects (Val := Elt F) (c : Thread nD τ) rsM fullShare slotR (fun _ _ => rfl) (fun t u => slot_disj t u) slot_cover (f : S16x16x512.Idx → Elt F .f32)).trans
    (bigSep_mono fun t _ => slot_any c t _)

/-- One device's part of the start of the barrier's signals. -/
theorem sig_start_at (c t : Dev nD) :
    iprop((if t ≠ c then dutyTok ER (barC t) 0 c else iprop(emp)) ∗ (if t ≠ c then blkAny c (slotM t) else iprop(emp))
      ∗ (if t ≠ c then blkAny c (rowM outM t) else iprop(emp))) ⊢ (sigT c 0 t : sProp 𝕄) := by
  unfold sigT
  by_cases h : t = c
  · simp only [if_pos h, if_neg (not_not_intro h)]; iintro -; iempintro
  · simp only [if_neg h, if_pos (show t ≠ c from h), if_neg (Nat.not_le_of_lt (dist_pos c t))]
    exact .rfl

/-- The signals' start, from the barriers' duties and the two buffers the other devices write. -/
theorem sig_start (c : Dev nD) (f : S256x512.Idx → F .f32) (g : S16x16x512.Idx → F .f32) :
    iprop(barToks c ∗ owns (c : Thread nD τ) rsM fullShare g ∗ owns (c : Thread nD τ) outM fullShare f)
      ⊢ (iprop(sigP c 0 ∗ blkAny c (slotM c) ∗ blkAny c (rowM outM c)) : sProp 𝕄) := by
  refine (sep_mono .rfl (sep_mono ((slots_any c g).trans (Entails.of_eq (apart _ c))) ((rows_any c outM f).trans (Entails.of_eq (apart _ c))))).trans ?_
  have hs : iprop(barToks c ∗ (bigSep Finset.univ fun t => if t ≠ c then blkAny c (slotM t) else iprop(emp))
      ∗ bigSep Finset.univ fun t => if t ≠ c then blkAny c (rowM outM t) else iprop(emp)) ⊢ (sigP c 0 : sProp 𝕄) := by
    unfold barToks sigP
    rw [← bigSep_sep', ← bigSep_sep']
    exact bigSep_mono fun t _ => sig_start_at c t
  iintro ⟨HT, ⟨Hs, HS⟩, Hr, HR⟩
  isplitl [HT HS HR]
  · iapply hs
    isplitl [HT]; · iexact HT
    isplitl [HS] <;> iassumption
  isplitl [Hs] <;> iassumption

/-- One semaphore's part of the start of a row of waits. -/
theorem wait_start_at (c : Dev nD) (a : Fin 4) (pay : Dev nD → sProp 𝕄) (t : Dev nD) :
    iprop((atPos ER (kcell (c, some (a, t))) 0 ∅ 0 : sProp 𝕄) ∗ (if t ≠ c then cred (tallyAt (kcell (c, some (a, t))) () N) else iprop(emp)))
      ⊢ waitT c (fun t => (a, t)) pay 0 t := by
  unfold waitT
  by_cases h : t = c
  · simp only [if_pos h, if_neg (not_not_intro h)]; iintro ⟨H, -⟩; iexact H
  · simp only [if_neg h, if_pos (show t ≠ c from h), if_neg (Nat.not_le_of_lt (dist_pos c t))]
    exact .rfl

/-- The waits for receipts at their start. -/
theorem wait_start (c : Dev nD) (a : Fin 4) (pay : Dev nD → sProp 𝕄) :
    iprop(atsP c (fun t => (a, t)) ∗ recvCreds c a) ⊢ waitP c (fun t => (a, t)) pay 0 := by
  unfold atsP recvCreds waitP
  rw [← bigSep_sep']
  exact bigSep_mono fun t _ => wait_start_at c a pay t

/-- The attention buffer at any contents is where the heads' stores start. -/
theorem att_start (c : Dev nD) (f : S256x512.Idx → F .f32) : (owns (c : Thread nD τ) attM fullShare f : sProp 𝕄) ⊢ attI m c 0 := by
  unfold attI
  iintro H
  iexists f
  isplitr; · ipureintro; exact fun i h => absurd h (Nat.not_lt_zero _)
  iexact H

/-- The partial product's buffer at any contents is its two halves to be stored. -/
theorem par_start (c : Dev nD) (f : S256x512.Idx → F .f32) : (owns (c : Thread nD τ) parM fullShare f : sProp 𝕄) ⊢ iprop(parH c 0 ∗ parH c 1) :=
  (halves_split c f).trans (Entails.of_eq (bigSep_univ_eq_bigSepL [0, 1] (by decide) (by decide) _))

/-! ## From the body's end to the launch's holdings -/

variable (K : Dev nD × Kind → ℕ)

/-- After its wait a semaphore is at zero and its payment is held. -/
theorem waited_at (c : Dev nD) (cell : Dev nD → Fin 4 × Fin 16) (pay : Dev nD → sProp 𝕄) (t : Dev nD) :
    (if t ≠ c then waitT c cell pay 15 t else iprop(emp))
      ⊢ iprop((if t ≠ c then semVal (kcell (c, some (cell t))) 0 else iprop(emp)) ∗ (if t ≠ c then pay t else iprop(emp))) := by
  unfold waitT
  by_cases h : t = c
  · simp only [if_neg (not_not_intro h)]; iintro -; isplitl <;> iempintro
  · simp only [if_neg h, if_pos (show t ≠ c from h), if_pos (dist_le' h)]
    exact .rfl

/-- The device's own semaphore is not waited on. -/
theorem waited_own (c : Dev nD) (cell : Dev nD → Fin 4 × Fin 16) (pay : Dev nD → sProp 𝕄) :
    waitT c cell pay 15 c = (atPos ER (kcell (c, some (cell c))) 0 ∅ 0 : sProp 𝕄) := if_pos rfl

/-- All waits made: every cell of the array is closed at zero, and every payload is there. -/
theorem waited (c : Dev nD) (cell : Dev nD → Fin 4 × Fin 16) (pay : Dev nD → sProp 𝕄) (hc : kduties c (some (cell c)) = ∅) :
    iprop(ctx m K ∗ waitP c cell pay 15)
      ⊢ |={Set.univ}=> iprop((bigSep Finset.univ fun t => semVal (kcell (c, some (cell t))) 0) ∗ bigSep Finset.univ fun t => if t ≠ c then pay t else iprop(emp)) := by
  unfold waitP
  rw [apart (waitT c cell pay 15) c, waited_own]
  have hR : (bigSep Finset.univ fun t => if t ≠ c then waitT c cell pay 15 t else iprop(emp))
      ⊢ iprop((bigSep Finset.univ fun t => if t ≠ c then semVal (kcell (c, some (cell t))) 0 else iprop(emp)) ∗ bigSep Finset.univ fun t => if t ≠ c then pay t else iprop(emp)) := by
    rw [← bigSep_sep']; exact bigSep_mono fun t _ => waited_at c cell pay t
  have hI := ctx_inv m K (c, some (cell c))
  iintro ⟨#Hc, Ha, HR⟩
  ihave HR := hR $$ HR
  icases HR with ⟨HS, HP⟩
  ihave HI := hI $$ Hc
  imod (Rounds.cell_close ER (sched m) (Set.mem_univ (K (c, some (cell c)))) (fun h => h) (R := 0) (duties_unpaid m c (some (cell c)) hc)) $$ [HI Ha] with Hz
  · isplitl [HI] <;> iassumption
  imodintro
  isplitl [Hz HS]
  · rw [apart (fun t => (semVal (kcell (c, some (cell t))) 0 : sProp 𝕄)) c]
    isplitl [Hz] <;> iassumption
  iexact HP

/-- A slot held as a block is held as a part of the receive buffer. -/
theorem slot_back (c t : Dev nD) (Y : FVec F S16x512 .f32) :
    (blk c (slotM t) fullShare Y : sProp 𝕄) ⊢ owns (c : Thread nD τ) (rsM.slice (slotR t) (fun _ => rfl)) fullShare (shapeCast S1x16x512 Y shapeCasts_S16x512_S1x16x512) := by
  rw [slot_eq, shapeCast_shapeCast]

/-- The slots' values side by side, read in slot `t`, are that slot's value. -/
theorem shapeCast_at (t : Dev nD) (Y : Dev nD → FVec F S16x512 .f32) (j : S1x16x512.Idx) :
    (fun i : S16x16x512.Idx => shapeCast S1x16x512 (Y (i 0)) shapeCasts_S16x512_S1x16x512 (Idealize.ShloMosaic.ValueIdx.ix3 0 (i 1) (i 2))) ((slotR t).emb j)
      = shapeCast S1x16x512 (Y t) shapeCasts_S16x512_S1x16x512 j := by
  have h0 : ((slotR t).emb j 0) = t := Fin.ext (by
    have : (j 0).val < 1 := (j 0).isLt
    show t.val + 1 * (j 0).val = t.val; omega)
  show shapeCast S1x16x512 (Y ((slotR t).emb j 0)) _ _ = _
  rw [h0]
  refine congrArg _ (funext fun a => ?_)
  fin_cases a
  · exact Fin.ext (by have : (j 0).val < 1 := (j 0).isLt; show 0 = (j 0).val; omega)
  · exact Fin.ext (by show 0 + 1 * (j 1).val = (j 1).val; omega)
  · exact Fin.ext (by show 0 + 1 * (j 2).val = (j 2).val; omega)

/-- The receive buffer from its sixteen slots. -/
theorem slots_back (c : Dev nD) (Y : Dev nD → FVec F S16x512 .f32) :
    (bigSep Finset.univ fun t => blk c (slotM t) fullShare (Y t) : sProp 𝕄) ⊢ iprop(∃ f, owns (c : Thread nD τ) rsM fullShare f) := by
  have h1 : (bigSep Finset.univ fun t => blk c (slotM t) fullShare (Y t) : sProp 𝕄)
      ⊢ owns (c : Thread nD τ) rsM fullShare (fun i : S16x16x512.Idx => shapeCast S1x16x512 (Y (i 0)) shapeCasts_S16x512_S1x16x512 (Idealize.ShloMosaic.ValueIdx.ix3 0 (i 1) (i 2))) := by
    refine BIBase.Entails.trans (bigSep_mono fun t _ => slot_back c t (Y t)) ?_
    refine BIBase.Entails.trans ?_ (owns_of_rects (Val := Elt F) (c : Thread nD τ) rsM fullShare slotR (fun _ _ => rfl) (fun t u => slot_disj t u) slot_cover _)
    refine Entails.of_eq (bigSep_congr fun t _ => congrArg _ (funext fun j => (shapeCast_at t Y j).symm))
  iintro H
  ihave H := h1 $$ H
  iexists _
  iexact H

/-- A buffer of 256 rows from its sixteen row blocks, one of them apart. -/
theorem rows_back (c : Dev nD) (b : Memref sig .tc .vmem S256x512 .f32) (X : S256x512.Idx → F .f32) (Y : Dev nD → FVec F S16x512 .f32)
    (hY : ∀ t, (fun j => X ((rowR t).emb j)) = Y t) :
    iprop(blk c (rowM b c) fullShare (Y c) ∗ bigSep Finset.univ fun t => if t ≠ c then blk c (rowM b t) fullShare (Y t) else iprop(emp))
      ⊢ (owns (c : Thread nD τ) b fullShare X : sProp 𝕄) := by
  refine (Entails.of_eq (apart (fun t => blk c (rowM b t) fullShare (Y t)) c).symm).trans ?_
  refine BIBase.Entails.trans (Entails.of_eq (bigSep_congr fun t _ => ?_)) (rows_join c b X)
  exact congrArg (blk c (rowM b t) fullShare) (hY t).symm

/-- The semaphores of array `a` of device `c`, all at zero, listed by `cell`. -/
abbrev zeros (c : Dev nD) (cell : Dev nD → Fin 4 × Fin 16) : sProp 𝕄 := bigSep Finset.univ fun t => semVal (kcell (c, some (cell t))) 0

/-- What device `c` holds when its body is done: the arguments, the result, its scratch buffers, its semaphores at zero. -/
def doneP (c : Dev nD) : sProp 𝕄 :=
  iprop(argO m c ∗ owns (c : Thread nD τ) (Memref.whole cc0_stg3_0) fullShare (stg3 m c) ∗ owns (c : Thread nD τ) (Memref.whole cc0_stg4_0) fullShare (stg4 m c)
    ∗ owns (c : Thread nD τ) outM fullShare (outV m)
    ∗ (∃ f, owns (c : Thread nD τ) attM fullShare f) ∗ owns (c : Thread nD τ) parM fullShare (parV m c) ∗ (∃ f, owns (c : Thread nD τ) rsM fullShare f)
    ∗ semVal (barC c) 0 ∗ zeros c (fun t => (0, place c t)) ∗ zeros c (fun t => (1, t)) ∗ zeros c (fun t => (2, place c t)) ∗ zeros c (fun t => (3, t)))

/-- Nobody pays the device's own semaphore of the first sends. -/
theorem unpaid_send (c : Dev nD) : kduties c (some (0, place c c)) = ∅ := by rw [place_self]; rfl
/-- Nobody pays the device's own semaphore of the first receives. -/
theorem unpaid_recv (c : Dev nD) : kduties c (some (1, c)) = ∅ := if_pos rfl
/-- Nobody pays the device's own semaphore of the gather's sends. -/
theorem unpaid_gsend (c : Dev nD) : kduties c (some (2, place c c)) = ∅ := by rw [place_self]; rfl
/-- Nobody pays the device's own semaphore of the gather's receives. -/
theorem unpaid_grecv (c : Dev nD) : kduties c (some (3, c)) = ∅ := if_pos rfl

/-- After the last wait every buffer is whole again and every semaphore is at zero. -/
theorem finish (c : Dev nD) : iprop(endP m c ∗ ctx m K ∗ gsW m c 15) ⊢ |={Set.univ}=> doneP m c := by
  have h0 := waited m K c (fun t => (0, place c t)) (fun t => blk c (rowM parM t) fullShare (parB m c t)) (unpaid_send c)
  have h1 := waited m K c (fun t => (1, t)) (fun t => blk c (slotM t) fullShare (parB m t c)) (unpaid_recv c)
  have h2 := waited m K c (fun t => (2, place c t)) (fun t => blk c (rowM outM c) (lent t) (redB m c)) (unpaid_gsend c)
  have h3 := waited m K c (fun t => (3, t)) (fun t => blk c (rowM outM t) fullShare (redB m t)) (unpaid_grecv c)
  have hpar := rows_back c parM (parV m c) (parB m c) (fun t => rfl)
  have hout := rows_back c outM (outV m) (redB m) (outV_rowR m)
  have hrs : iprop(blk c (slotM c) fullShare (parB m c c) ∗ bigSep Finset.univ fun t => if t ≠ c then blk c (slotM t) fullShare (parB m t c) else iprop(emp)) ⊢ iprop(∃ f, owns (c : Thread nD τ) rsM fullShare f) :=
    (Entails.of_eq (apart (fun t => blk c (slotM t) fullShare (parB m t c)) c).symm).trans (slots_back c fun t => parB m t c)
  have hl := unlend c (rowM outM c) (redB m c)
  unfold endP doneP zeros
  iintro ⟨⟨Harg, Hbar, H3, H4, Hatt, Hp, Hs, Hss, Hrv, Hgv, Ho⟩, #Hc, Hgs⟩
  imod h0 $$ [Hss] with ⟨Z0, P0⟩
  · isplitr; · iexact Hc
    iexact Hss
  imod h1 $$ [Hrv] with ⟨Z1, P1⟩
  · isplitr; · iexact Hc
    iexact Hrv
  imod h2 $$ [Hgs] with ⟨Z2, P2⟩
  · isplitr; · iexact Hc
    iexact Hgs
  imod h3 $$ [Hgv] with ⟨Z3, P3⟩
  · isplitr; · iexact Hc
    iexact Hgv
  ihave Ho := hl $$ [Ho P2]
  · isplitl [Ho] <;> iassumption
  ihave Ho := hout $$ [Ho P3]
  · isplitl [Ho] <;> iassumption
  ihave Hp := hpar $$ [Hp P0]
  · isplitl [Hp] <;> iassumption
  ihave Hs := hrs $$ [Hs P1]
  · isplitl [Hs] <;> iassumption
  unfold attI
  icases Hatt with ⟨%f, -, Hatt⟩
  imodintro
  isplitl [Harg]; · iexact Harg
  isplitl [H3]; · iexact H3
  isplitl [H4]; · iexact H4
  isplitl [Ho]; · iexact Ho
  isplitl [Hatt]; · iexists f; iexact Hatt
  isplitl [Hp]; · iexact Hp
  isplitl [Hs]; · iexact Hs
  isplitl [Hbar]; · iexact Hbar
  isplitl [Z0]; · iexact Z0
  isplitl [Z1]; · iexact Z1
  isplitl [Z2] <;> iassumption

/-- Nothing is owed once every signal and every transfer has been made. -/
theorem owed_done (c : Dev nD) : owed c 15 ![15, 15] 15 = 0 := by
  unfold owed
  refine Finset.sum_eq_zero fun t _ => ?_
  unfold owedT
  by_cases h : t = c
  · exact if_pos h
  · have hh : (![15, 15] : Fin 2 → ℕ) (half t) = 15 := by generalize half t = b; revert b; decide
    rw [if_neg h, hh, if_pos (dist_le' h), if_pos (dist_le' h), if_pos (dist_le' h), add_zero, add_zero]

end Cert.KernelIdealProof
-- ==== Proof.KernelIdeal.Cells.lean ====
/-
The launch's set-up of the devices' cells: the semaphores, the duties dealt to the devices that perform them, the credits.
-/
module

public import proofs.«01_k».proof.Proof.KernelIdeal.Ends

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells and semaphores -/

/-- The kernel's own semaphores, array by array. -/
abbrev osem : Fin 4 × Fin 16 → SemLoc sig := fun k => semOf (some k)

/-- A conjunction over a device's cells: the barrier's and the arrays'. -/
theorem over_kinds (Φ : Kind → sProp 𝕄) : bigSep Finset.univ Φ = iprop(Φ none ∗ bigSep Finset.univ fun k => Φ (some k)) := by
  have h : (Finset.univ : Finset Kind).erase none = Finset.univ.map ⟨some, Option.some_injective _⟩ := by
    ext k; rcases k with _ | k <;> simp
  rw [bigSep_univ_at Φ none, h, bigSep_map]; rfl

/-- A conjunction over the semaphores of the four arrays, array by array. -/
theorem over_arrays (Φ : Fin 4 × Fin 16 → sProp 𝕄) : bigSep Finset.univ Φ
    = iprop((bigSep Finset.univ fun i => Φ (0, i)) ∗ (bigSep Finset.univ fun i => Φ (1, i)) ∗ (bigSep Finset.univ fun i => Φ (2, i)) ∗ (bigSep Finset.univ fun i => Φ (3, i))) := by
  rw [bigSep_univ_prod, bigSep_univ_eq_bigSepL [0, 1, 2, 3] (by decide) (by decide)]; rfl

/-- Places after `c` and devices correspond. -/
def placeE (c : Dev nD) : Dev nD ≃ Fin 16 where
  toFun := place c
  invFun i := peer c i.val
  left_inv t := peer_place c t
  right_inv i := by revert c i; decide

/-- A product over the semaphores of an array is one over the devices by their places. -/
theorem over_places (c : Dev nD) (Φ : Fin 16 → sProp 𝕄) : bigSep Finset.univ Φ = bigSep Finset.univ fun t => Φ (place c t) := bigSep_univ_equiv (placeE c) Φ

/-- The arrays' parts, the sends' listed by the device sent to. -/
theorem over_cells (c : Dev nD) (Φ : Fin 4 × Fin 16 → sProp 𝕄) : bigSep Finset.univ Φ
    = iprop((bigSep Finset.univ fun t => Φ (0, place c t)) ∗ (bigSep Finset.univ fun t : Dev nD => Φ (1, t)) ∗ (bigSep Finset.univ fun t => Φ (2, place c t))
        ∗ (bigSep Finset.univ fun t : Dev nD => Φ (3, t))) := by
  rw [over_arrays, over_places c fun i => Φ (0, i), over_places c fun i => Φ (2, i)]

/-- The kernel's own semaphores at zero, one by one. -/
theorem ownSems0_eq (c : Dev nD) : (Pipeline.ownSems0 (Ix := Unit) (Name := ℕ) (U := UU) (Lvl := ℕ) (Val := Elt F) (τ := τ) osem c : sProp 𝕄)
    = iprop(zeros c (fun t => (0, place c t)) ∗ zeros c (fun t => (1, t)) ∗ zeros c (fun t => (2, place c t)) ∗ zeros c (fun t => (3, t))) :=
  over_cells c fun k => semVal (kcell (c, some k)) 0

/-- The one semaphore outside the kernel's scope is the barrier. -/
theorem unscopedSems0_eq (c : Dev nD) : (unscopedSems0 c : sProp 𝕄) = semVal (barC c) 0 := by
  unfold unscopedSems0; rw [bigSep_eq_bigSepL_of_eq [SemLoc.reg barS] (by decide) (by decide)]; rfl

/-- A device's semaphores at zero, the kernel's own and the runtime's, are its cells'. -/
theorem sems0_eq (c : Dev nD) :
    (iprop(Pipeline.ownSems0 (Ix := Unit) (Name := ℕ) (U := UU) (Lvl := ℕ) (Val := Elt F) (τ := τ) osem c ∗ unscopedSems0 c) : sProp 𝕄)
      ⊢ bigSep Finset.univ fun k : Kind => semVal (kcell (c, k)) 0 := by
  rw [unscopedSems0_eq, over_kinds]
  exact comm_le _ _

/-- The kernel's own semaphores are scoped, distinct and not the pipeline's. -/
theorem ownSemFacts : Pipeline.OwnSemFacts cfg0.spec osem where
  isScoped := by decide
  inj := fun k k' h => Option.some.inj (semOf_injective h)
  disj := by decide

/-! ## The launch's ghost state -/

abbrev meshCells : Finset (GSem nD τ sig) := Finset.univ.map ⟨kcell, kcell_injective⟩

/-- The duties between two devices: `s`'s signal to `t`, `s`'s two transfers to `t`, and the two sends of `t` to `s`. -/
def tokOf (x : (Dev nD × Dev nD) × Fin 5) : GSem nD τ sig × ℕ × Dev nD := match x.2 with
  | 0 => (kcell (x.1.1, none), 0, x.1.2)
  | 1 => (kcell (x.1.1, some (1, x.1.2)), 0, x.1.2)
  | 2 => (kcell (x.1.1, some (3, x.1.2)), 0, x.1.2)
  | 3 => (kcell (x.1.1, some (0, place x.1.1 x.1.2)), 0, x.1.1)
  | 4 => (kcell (x.1.1, some (2, place x.1.1 x.1.2)), 0, x.1.1)

/-- The pair and the kind of a duty, from the device, the cell and the payer. -/
def tokBack (t : Dev nD) (k : Kind) (s : Dev nD) : (Dev nD × Dev nD) × Fin 5 := match k with
  | none => ((t, s), 0)
  | some (a, i) => match a with
    | 0 => ((t, peer t i.val), 3)
    | 1 => ((t, s), 1)
    | 2 => ((t, peer t i.val), 4)
    | 3 => ((t, s), 2)

/-- Different duties have different tokens. -/
theorem tokOf_injective : Function.Injective tokOf := by
  have hb : ∀ x, ∃ ck : Dev nD × Kind, ∃ s, tokOf x = (kcell ck, 0, s) ∧ tokBack ck.1 ck.2 s = x := by
    rintro ⟨⟨t, s⟩, j⟩
    fin_cases j
    · exact ⟨(t, none), s, rfl, rfl⟩
    · exact ⟨(t, some (1, s)), s, rfl, rfl⟩
    · exact ⟨(t, some (3, s)), s, rfl, rfl⟩
    · exact ⟨(t, some (0, place t s)), t, rfl, by show ((t, peer t (place t s).val), _) = _; rw [peer_place]; rfl⟩
    · exact ⟨(t, some (2, place t s)), t, rfl, by show ((t, peer t (place t s).val), _) = _; rw [peer_place]; rfl⟩
  intro x y h
  obtain ⟨a, s, ha, ha'⟩ := hb x
  obtain ⟨b, u, hb, hb'⟩ := hb y
  rw [ha, hb] at h
  have h1 := kcell_injective (congrArg Prod.fst h)
  have h2 := congrArg (fun z => z.2.2) h
  dsimp only at h2
  rw [← ha', ← hb', h1, h2]

abbrev meshToks : Finset (GSem nD τ sig × ℕ × Dev nD) := Finset.univ.map ⟨tokOf, tokOf_injective⟩

abbrev tk (x : GSem nD τ sig × ℕ × Dev nD) : sProp 𝕄 := dutyTok ER x.1 x.2.1 x.2.2

/-- The duties minted for device `t`'s cells. -/
def minted (t : Dev nD) : sProp 𝕄 := bigSep Finset.univ fun s : Dev nD => iprop(tk (F := F) (tokOf ((t, s), 0)) ∗ tk (tokOf ((t, s), 1)) ∗ tk (tokOf ((t, s), 2)) ∗ tk (tokOf ((t, s), 3)) ∗ tk (tokOf ((t, s), 4)))

/-- All the tokens, by the device whose cells they are for. -/
theorem minted_all : (bigSep meshToks fun x => (tk x : sProp 𝕄)) = bigSep Finset.univ fun t : Dev nD => minted t := by
  rw [bigSep_map, bigSep_univ_prod, bigSep_univ_prod]
  refine bigSep_congr fun t _ => bigSep_congr fun s _ => ?_
  rw [bigSep_univ_eq_bigSepL [0, 1, 2, 3, 4] (by decide) (by decide)]; rfl

/-- The duties device `c` performs. -/
def dealt (c : Dev nD) : sProp 𝕄 := iprop(barToks (F := F) c ∗ toks (F := F) c)

/-- One device's tokens for another's cells. -/
theorem dealt_at (c t : Dev nD) :
    iprop(tk (F := F) (tokOf ((t, c), 0)) ∗ tk (tokOf ((t, c), 1)) ∗ tk (tokOf ((t, c), 2)) ∗ tk (tokOf ((c, t), 3)) ∗ tk (tokOf ((c, t), 4)))
      ⊢ iprop((if t ≠ c then dutyTok ER (barC t) 0 c else iprop(emp)) ∗ tokT (F := F) c t) := by
  unfold tokT
  by_cases h : t = c
  · simp only [if_pos h, if_neg (not_not_intro h)]; iintro -; isplitl <;> iempintro
  · simp only [if_neg h, if_pos (show t ≠ c from h)]
    iintro ⟨H0, H1, H2, H3, H4⟩
    isplitl [H0]; · iexact H0
    isplitl [H3]; · iexact H3
    isplitl [H1]; · iexact H1
    isplitl [H4]; · iexact H4
    iexact H2

/-- The duties dealt from the cells' devices to the devices that perform them. -/
theorem deal_all : (bigSep Finset.univ fun t : Dev nD => minted (F := F) t) ⊢ bigSep Finset.univ fun c : Dev nD => dealt (F := F) c := by
  have h : ∀ c, (bigSep Finset.univ fun t : Dev nD => iprop(tk (F := F) (tokOf ((t, c), 0)) ∗ tk (tokOf ((t, c), 1)) ∗ tk (tokOf ((t, c), 2)) ∗ tk (tokOf ((c, t), 3)) ∗ tk (tokOf ((c, t), 4)))) ⊢ dealt (F := F) c := by
    intro c
    unfold dealt barToks toks
    rw [← bigSep_sep']
    exact bigSep_mono fun t _ => dealt_at c t
  refine BIBase.Entails.trans ?_ (bigSep_mono fun c _ => h c)
  unfold minted
  simp only [bigSep_sep']
  rw [bigSep_univ_comm fun t s : Dev nD => tk (F := F) (tokOf ((t, s), 0)), bigSep_univ_comm fun t s : Dev nD => tk (F := F) (tokOf ((t, s), 1)),
    bigSep_univ_comm fun t s : Dev nD => tk (F := F) (tokOf ((t, s), 2))]

variable (ρ : Dev nD → PrngReg)

abbrev startAt (c : Dev nD) (k : Kind) : sProp 𝕄 := atPos ER (kcell (c, k)) 0 ∅ 0
abbrev reachedAt (c : Dev nD) (k : Kind) : sProp 𝕄 := reached ER (kcell (c, k)) 0

/-- What the launch's ghost state gives device `c`. -/
def G (c : Dev nD) : sProp 𝕄 :=
  iprop((bigSep Finset.univ fun k : Kind => roundState ER (sched m) (kcell (c, k)) 0)
    ∗ (bigSep Finset.univ fun k : Kind => startAt c k) ∗ (bigSep Finset.univ fun k : Kind => reachedAt c k) ∗ minted c)

/-- The mesh's ghost state funds every device's part. -/
theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : Kind => Φ (kcell (c, k)) := by
    rw [bigSep_map, bigSep_univ_prod]; rfl
  iintro HX
  imod (Rounds.fund ER (sched m) meshCells meshToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq (minted_all (F := F))) $$ Htok
  unfold G; simp only [bigSep_sep']
  isplitl [Hst']; · iexact Hst'
  isplitl [Hat']; · iexact Hat'
  isplitl [Hr']; · iexact Hr'
  iexact Htok'

/-- Device `c`'s positions on its own cells. -/
def positions (c : Dev nD) : sProp 𝕄 :=
  iprop(startAt c none ∗ atsP (F := F) c (fun t => (0, place c t)) ∗ atsP (F := F) c (fun t => (1, t)) ∗ atsP (F := F) c (fun t => (2, place c t)) ∗ atsP (F := F) c (fun t => (3, t)))

/-- A device's starting positions, kind by kind. -/
theorem positions_eq (c : Dev nD) : (bigSep Finset.univ fun k : Kind => (startAt c k : sProp 𝕄)) = positions c := by
  rw [over_kinds, over_cells c]; rfl

/-- What every device holds once the cells are set up: their records, its positions, its duties. -/
def G' (c : Dev nD) : sProp 𝕄 := iprop(∃ K, recs m K ∗ positions c ∗ dealt c)

/-- A device's semaphores at zero become the invariants of its cells. -/
theorem core_alloc (c : Dev nD) :
    (iprop(Pipeline.ownSems0 (Ix := Unit) (Name := ℕ) (U := UU) (Lvl := ℕ) (Val := Elt F) (τ := τ) osem c ∗ unscopedSems0 c ∗ G m c) : sProp 𝕄)
      ⊢ |={Set.univ}=> iprop((bigSep Finset.univ fun k : Kind => iprop((∃ κ : ℕ, cellInv ER (sched m) κ (kcell (c, k))) ∗ reachedAt c k)) ∗ positions c ∗ minted c) := by
  have hinv : iprop((bigSep Finset.univ fun k : Kind => semVal (kcell (c, k)) 0) ∗ bigSep Finset.univ fun k : Kind => roundState ER (sched m) (kcell (c, k)) 0)
      ⊢ (|={Set.univ}=> bigSep Finset.univ fun k => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  unfold G
  rw [positions_eq, bigSep_sep']
  iintro ⟨Hos, Hus, Hst, Hat, Hr, Htok⟩
  ihave Hv := (sems0_eq (F := F) c) $$ [Hos Hus]
  · isplitl [Hos] <;> iassumption
  imod hinv $$ [Hv Hst] with Hinv
  · isplitl [Hv] <;> iassumption
  imodintro
  isplitl [Hinv Hr]; · isplitl [Hinv] <;> iassumption
  isplitl [Hat] <;> iassumption

/-- What every device makes of a shared fact and its own part, all of them make. -/
theorem to_each {R : sProp 𝕄} [BI.Persistent R] {Φ Ψ : Dev nD → sProp 𝕄} (h : ∀ c, iprop(R ∗ Φ c) ⊢ Ψ c) : iprop(R ∗ bigSep Finset.univ Φ) ⊢ bigSep Finset.univ Ψ := by
  refine (sep_mono_left (BI.bigSep_of_persistent (Finset.univ : Finset (Dev nD)) R)).trans ?_
  rw [← bigSep_sep']
  exact bigSep_mono fun c _ => h c

/-- The records and a device's parts are what its body starts from. -/
theorem G'_intro (K : Dev nD × Kind → ℕ) (c : Dev nD) : iprop(recs m K ∗ positions (F := F) c ∗ dealt (F := F) c) ⊢ G' m c := by
  unfold G'; iintro H; iexists K; iexact H

/-- The names chosen, the records shared by all, the duties dealt. -/
theorem regroup :
    (bigSep Finset.univ fun c : Dev nD => iprop((bigSep Finset.univ fun k : Kind => iprop((∃ κ : ℕ, cellInv ER (sched m) κ (kcell (c, k))) ∗ reachedAt c k)) ∗ positions c ∗ minted c) : sProp 𝕄)
      ⊢ bigSep Finset.univ (G' m) := by
  rw [bigSep_sep', bigSep_sep', ← bigSep_univ_prod (fun ck : Dev nD × Kind => (iprop((∃ κ : ℕ, cellInv ER (sched m) κ (kcell ck)) ∗ reachedAt ck.1 ck.2) : sProp 𝕄)), bigSep_sep']
  iintro ⟨⟨HI, HR⟩, Hat, Htok⟩
  ihave HK := (BI.bigSep_exists_pi Finset.univ (fun (ck : Dev nD × Kind) (κ : ℕ) => (cellInv ER (sched m) κ (kcell ck) : sProp 𝕄))) $$ HI
  icases HK with ⟨%K, HI⟩
  ihave Htk := (deal_all (F := F)) $$ Htok
  have he : (iprop((bigSep Finset.univ fun ck : Dev nD × Kind => cellInv ER (sched m) (K ck) (kcell ck)) ∗ bigSep Finset.univ fun ck : Dev nD × Kind => reachedAt ck.1 ck.2) : sProp 𝕄) ⊢ recs m K := by
    unfold recs; rw [bigSep_sep']
  have ht := to_each (R := recs m K) (Φ := fun c => iprop(positions (F := F) c ∗ dealt (F := F) c)) (Ψ := G' m) fun c => G'_intro m K c
  iapply ht
  isplitl [HI HR]
  · iapply he; isplitl [HI] <;> iassumption
  · rw [bigSep_sep']; isplitl [Hat] <;> iassumption

/-- All devices' semaphores and ghost parts become, in one update, what their bodies start from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

/-- What a device owes at the start. -/
def O₀ (c : Dev nD) : CellTallies nD τ sig Unit := owed c 0 ![0, 0] 0

/-- What one device owes another at the start. -/
theorem owedT_start (d t : Dev nD) : owedT d 0 ![0, 0] 0 t = if t = d then 0 else tallyAt (barC t) () 1 + tallyAt (rvC t d) () N + tallyAt (gvC t d) () N := by
  unfold owedT
  have hh : (![0, 0] : Fin 2 → ℕ) (half t) = 0 := by generalize half t = b; revert b; decide
  have hd := Nat.not_le_of_lt (dist_pos d t)
  rw [hh, if_neg hd, if_neg hd, if_neg hd]

/-- Two cells are equal when their devices and kinds are. -/
theorem kcell_eq (x y : Dev nD × Kind) : (kcell x = kcell y) = (x = y) := propext kcell_injective.eq_iff

/-- One unit from device `d`'s dues towards `t`, at a cell. -/
theorem owedT_at (d t c : Dev nD) (k : Kind) : owedT d 0 ![0, 0] 0 t (kcell (c, k)) () =
    if t = d then 0 else if t = c then (if k = none then 1 else 0) + (if k = some (1, d) then N else 0) + (if k = some (3, d) then N else 0) else 0 := by
  rw [owedT_start]
  by_cases h : t = d
  · rw [if_pos h, if_pos h]; rfl
  · rw [if_neg h, if_neg h, Pi.add_apply, Finsupp.add_apply, Pi.add_apply, Finsupp.add_apply, tallyAt_apply, tallyAt_apply, tallyAt_apply]
    simp only [barC, rvC, gvC, kcell_eq, and_true]
    simp only [Prod.mk.injEq]
    by_cases hc : t = c
    · subst hc; simp only [true_and, if_true]
    · simp only [hc, Ne.symm hc, _root_.false_and, if_false]

/-- What a device owes a given cell at the start. -/
theorem O₀_at (d c : Dev nD) (k : Kind) : O₀ d (kcell (c, k)) () =
    if c = d then 0 else (if k = none then 1 else 0) + (if k = some (1, d) then N else 0) + (if k = some (3, d) then N else 0) := by
  unfold O₀ owed
  rw [Finset.sum_apply, Finsupp.finset_sum_apply, Finset.sum_congr rfl fun t _ => owedT_at d t c k, Finset.sum_eq_single c]
  · by_cases h : c = d
    · rw [if_pos h, if_pos h]
    · rw [if_neg h, if_neg h, if_pos rfl]
  · intro t _ ht; rw [if_neg ht, ite_self]
  · intro h; exact absurd (Finset.mem_univ c) h

/-- A cell's launch credit is the sum of what the devices owe it. -/
theorem credit_at (c : Dev nD) (k : Kind) (n : ℕ) (h : (∑ d, O₀ d (kcell (c, k)) ()) = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, h]

/-- A barrier is owed fifteen units. -/
theorem sum_bar (c : Dev nD) : (∑ d, O₀ d (kcell (c, none)) ()) = 15 := by
  rw [Finset.sum_congr rfl fun d _ => O₀_at d c none]
  simp only [if_true, reduceCtorEq, if_false]
  revert c; decide

/-- A receive semaphore of another device's is owed one row block. -/
theorem sum_recv (c t : Dev nD) (h : t ≠ c) (a : Fin 4) (ha : a = 1 ∨ a = 3) : (∑ d, O₀ d (kcell (c, some (a, t))) ()) = N := by
  rw [Finset.sum_eq_single t]
  · rw [O₀_at, if_neg (Ne.symm h)]
    rcases ha with rfl | rfl <;> simp
  · intro d _ hd
    rw [O₀_at]
    have h1 : ¬ (t = d) := Ne.symm hd
    rcases ha with rfl | rfl <;> simp [h1]
  · intro h; exact absurd (Finset.mem_univ t) h

/-- A receive semaphore's launch credit, where another device pays it. -/
theorem recv_cred (c t : Dev nD) (a : Fin 4) (ha : a = 1 ∨ a = 3) :
    (cred (tallyOn (kcell (c, some (a, t))) (launchCredit (Pipeline.owing O₀) 0 (kcell (c, some (a, t))))) : sProp 𝕄)
      ⊢ (if t ≠ c then cred (tallyAt (kcell (c, some (a, t))) () N) else iprop(emp)) := by
  by_cases h : t ≠ c
  · rw [if_pos h, credit_at c (some (a, t)) N (sum_recv c t h a ha)]
  · rw [if_neg h]; iintro -; iempintro

/-- The credits a device starts with. -/
theorem creds (c : Dev nD) : (Pipeline.launchCred O₀ c : sProp 𝕄) ⊢ iprop(cred (tallyAt (barC c) () 15) ∗ recvCreds c 1 ∗ recvCreds c 3) := by
  have hr : ∀ (a : Fin 4), a = 1 ∨ a = 3 → (bigSep Finset.univ fun t : Dev nD => (cred (tallyOn (kcell (c, some (a, t))) (launchCredit (Pipeline.owing O₀) 0 (kcell (c, some (a, t))))) : sProp 𝕄)) ⊢ recvCreds c a := by
    intro a ha
    unfold recvCreds
    exact bigSep_mono fun t _ => recv_cred c t a ha
  have h : (Pipeline.launchCred O₀ c : sProp 𝕄) ⊢ bigSep Finset.univ fun k : Kind => (cred (tallyOn (kcell (c, k)) (launchCredit (Pipeline.owing O₀) 0 (kcell (c, k)))) : sProp 𝕄) := by
    unfold Pipeline.launchCred
    refine BIBase.Entails.trans (bigSep_subset (Finset.subset_univ (Finset.univ.map ⟨semOf, semOf_injective⟩))) ?_
    rw [bigSep_map]
    exact .rfl
  refine h.trans ?_
  rw [over_kinds, credit_at c none 15 (sum_bar c), over_arrays]
  iintro ⟨H, -, H1, -, H3⟩
  isplitl [H]; · iexact H
  isplitl [H1]
  · have h1 := hr 1 (.inl rfl); iapply h1 $$ H1
  · have h3 := hr 3 (.inr rfl); iapply h3 $$ H3

end Cert.KernelIdealProof
-- ==== Proof.KernelIdeal.Run.lean ====
/-
The run of the whole program on the sixteen devices: the body's obligation, the launch, what every array holds at the end.
-/
module

public import proofs.«01_k».proof.Proof.KernelIdeal.Cells
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg)

/-! ## The proof data of the launch -/

/-- What a device's body needs besides its buffers. -/
def start (c : Dev nD) : sProp 𝕄 :=
  iprop((∃ K, recs m K ∗ positions c ∗ dealt c) ∗ cred (tallyAt (barC c) () 15) ∗ recvCreds c 1 ∗ recvCreds c 3 ∗ levAts L lv)

/-- The scratch buffers, their contents not named. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scratch c)
def Φ₁ (c : Dev nD) : sProp 𝕄 :=
  iprop(scratch c ∗ semVal (barC c) 0 ∗ zeros c (fun t => (0, place c t)) ∗ zeros c (fun t => (1, t)) ∗ zeros c (fun t => (2, place c t)) ∗ zeros c (fun t => (3, t)))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stg0 m c
    | ⟨1, _⟩ => stg1 m c
    | ⟨2, _⟩ => stg2 m c
    | ⟨3, _⟩ => stg3 m c
    | ⟨4, _⟩ => stg4 m c
    | ⟨5, _⟩ => outV m
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body's obligation -/

/-- The scoped buffers are the three scratch buffers at some contents. -/
theorem scratch_open (c : Dev nD) : (scratch c : sProp 𝕄)
    ⊢ iprop((∃ f, owns (c : Thread nD τ) attM fullShare f) ∗ (∃ f, owns (c : Thread nD τ) parM fullShare f) ∗ (∃ f, owns (c : Thread nD τ) rsM fullShare f)) := by
  unfold scratch
  simp only [owns_whole]
  exact .rfl
/-- The three scratch buffers at some contents are the scoped buffers. -/
theorem scratch_close (c : Dev nD) : iprop((∃ f, owns (c : Thread nD τ) attM fullShare f) ∗ (∃ f, owns (c : Thread nD τ) parM fullShare f) ∗ (∃ f, owns (c : Thread nD τ) rsM fullShare f))
    ⊢ (scratch c : sProp 𝕄) := by
  unfold scratch
  simp only [owns_whole]
  exact .rfl

/-- The staging buffers of the five arguments. -/
def args (c : Dev nD) : sProp 𝕄 :=
  iprop(argO m c ∗ owns (c : Thread nD τ) (Memref.whole cc0_stg3_0) fullShare (stg3 m c) ∗ owns (c : Thread nD τ) (Memref.whole cc0_stg4_0) fullShare (stg4 m c))

/-- What the body leaves. -/
def leaves (c : Dev nD) : sProp 𝕄 := iprop(Φ₁ c ∗ ow c 15 ![15, 15] 15 ∗ args m c ∗ owns (c : Thread nD τ) outM fullShare (outV m))

/-- What the body ends with is what it leaves behind. -/
theorem done_leaves (c : Dev nD) : iprop(doneP m c ∗ ow c 15 ![15, 15] 15) ⊢ leaves m c := by
  have hs := scratch_close (F := F) c
  unfold doneP leaves Φ₁ args
  iintro ⟨⟨Harg, H3, H4, Ho, Ha, Hp, Hr, Hb, Z0, Z1, Z2, Z3⟩, HO⟩
  isplitl [Ha Hp Hr Hb Z0 Z1 Z2 Z3]
  · isplitl [Ha Hp Hr]
    · iapply hs
      isplitl [Ha]; · iexact Ha
      isplitl [Hp]; · iexists _; iexact Hp
      iexact Hr
    isplitl [Hb]; · iexact Hb
    isplitl [Z0]; · iexact Z0
    isplitl [Z1]; · iexact Z1
    isplitl [Z2] <;> iassumption
  isplitl [HO]; · iexact HO
  isplitl [Harg H3 H4]
  · isplitl [Harg]; · iexact Harg
    isplitl [H3] <;> iassumption
  iexact Ho

/-- From the end of the last wait to what the body leaves behind. -/
theorem body_end (K : Dev nD × Kind → ℕ) (c : Dev nD) :
    iprop((emp ∗ endP m c) ∗ ctx m K ∗ gsW m c 15 ∗ ow c 15 ![15, 15] 15) ⊢ |={Set.univ}=> leaves m c := by
  have hf := finish m K c
  have hd := done_leaves m c
  iintro ⟨⟨-, HE⟩, Hc, HG, HO⟩
  imod hf $$ [HE Hc HG] with HD
  · isplitl [HE]; · iexact HE
    isplitl [Hc] <;> iassumption
  imodintro
  iapply hd
  isplitl [HD] <;> iassumption

attribute [local irreducible] cc0_body wp in
/-- The body, step by step from its first signal to its last wait. -/
theorem walked (K : Dev nD × Kind → ℕ) (c : Dev nD) :
    iprop(((emp ∗ startP m c) ∗ argO m c ∗ cred (tallyAt (barC c) () 15) ∗ atPos ER (barC c) 0 ∅ 0) ∗ ctx m K ∗ sigP c 0 ∗ ow c 0 ![0, 0] 0)
      ⊢ wpc c (onBufs (cc0_body (F := F))) (fun _ => leaves m c) :=
  (body_walk (Q := fun _ => iprop(|={Set.univ}=> leaves m c)) m K c (body_end m K c)).trans (wp_fupd _ _ _ _ _)

attribute [local irreducible] cc0_body wp in
/-- The body from what the launch gives. -/
theorem sound_body (c : Dev nD) (f : S256x512.Idx → F .f32) :
    iprop(Φ₀ m c ∗ ow c 0 ![0, 0] 0 ∗ args m c ∗ owns (c : Thread nD τ) outM fullShare f)
      ⊢ wpc c (onBufs (cc0_body (F := F))) (fun _ => leaves m c) := by
  have ho := scratch_open (F := F) c
  have hw := fun K => walked m K c
  have hr := wait_start (F := F) c 1 (fun t => blk c (slotM t) fullShare (parB m t c))
  have hg := wait_start (F := F) c 3 (fun t => blk c (rowM outM t) fullShare (redB m t))
  have ha := fun f => att_start m c f
  have hp := fun f => par_start (F := F) c f
  have hs := fun g => sig_start (F := F) c f g
  unfold Φ₀ start positions dealt args
  iintro ⟨⟨⟨⟨%K, Hrec, ⟨Hb, A0, A1, A2, A3⟩, HbT, HT⟩, Hcb, Hc1, Hc3, Hlev⟩, Hscr⟩, HO, ⟨Harg, H3, H4⟩, Hout⟩
  ihave Hscr := ho $$ Hscr
  icases Hscr with ⟨⟨%fa, Hatt⟩, ⟨%fp, Hpar⟩, ⟨%fr, Hrs⟩⟩
  ihave Hatt := (ha fa) $$ Hatt
  ihave Hpar := (hp fp) $$ Hpar
  icases Hpar with ⟨Hp0, Hp1⟩
  ihave Hsig := (hs fr) $$ [HbT Hrs Hout]
  · isplitl [HbT]; · iexact HbT
    isplitl [Hrs] <;> iassumption
  icases Hsig with ⟨Hsig, Hslot, Hrow⟩
  ihave Hrv := hr $$ [A1 Hc1]
  · isplitl [A1] <;> iassumption
  ihave Hgv := hg $$ [A3 Hc3]
  · isplitl [A3] <;> iassumption
  iapply (hw K)
  unfold startP ctx
  isplitl [H3 H4 Hatt Hp0 Hp1 Hslot Hrow HT Hrv Hgv A0 A2 Harg Hcb Hb]
  · isplitl [H3 H4 Hatt Hp0 Hp1 Hslot Hrow HT Hrv Hgv A0 A2]
    · isplitr; · iempintro
      isplitl [H3]; · iexact H3
      isplitl [H4]; · iexact H4
      isplitl [Hatt]; · iexact Hatt
      isplitl [Hp0]; · iexact Hp0
      isplitl [Hp1]; · iexact Hp1
      isplitl [Hslot]; · iexact Hslot
      isplitl [Hrow]; · iexact Hrow
      isplitl [HT]; · iexact HT
      isplitl [Hrv]; · iexact Hrv
      isplitl [Hgv]; · iexact Hgv
      isplitl [A0] <;> iassumption
    isplitl [Harg]; · iexact Harg
    isplitl [Hcb] <;> iassumption
  isplitl [Hrec Hlev]
  · isplitl [Hrec] <;> iassumption
  isplitl [Hsig] <;> iassumption

abbrev held (c : Dev nD) (b : Ref sig .tc) (X : b.ty.Contents (Elt F)) : sProp 𝕄 := owns (c : Thread nD τ) (Memref.whole b) fullShare X

set_option maxRecDepth 4000 in
/-- What the pipeline gives the body at its one point. -/
def given (c : Dev nD) : sProp 𝕄 :=
  iprop(Φ₀ m c ∗ (dats m ρ 0 c).owesAt () t0_0.castSucc
    ∗ (∃ d, held c cc0_stg0_0 ((dats m ρ 0 c).before (0 : Fin 6) t0_0 d)) ∗ (∃ d, held c cc0_stg1_0 ((dats m ρ 0 c).before (1 : Fin 6) t0_0 d))
    ∗ (∃ d, held c cc0_stg2_0 ((dats m ρ 0 c).before (2 : Fin 6) t0_0 d)) ∗ (∃ d, held c cc0_stg3_0 ((dats m ρ 0 c).before (3 : Fin 6) t0_0 d))
    ∗ (∃ d, held c cc0_stg4_0 ((dats m ρ 0 c).before (4 : Fin 6) t0_0 d)) ∗ (∃ d, held c cc0_stg5_0 ((dats m ρ 0 c).before (5 : Fin 6) t0_0 d)))

/-- What it takes back. -/
def taken (c : Dev nD) : sProp 𝕄 :=
  iprop(Φ₁ c ∗ (dats m ρ 0 c).owesAt () t0_0.succ
    ∗ held c cc0_stg0_0 (stg0 m c) ∗ held c cc0_stg1_0 (stg1 m c) ∗ held c cc0_stg2_0 (stg2 m c) ∗ held c cc0_stg3_0 (stg3 m c) ∗ held c cc0_stg4_0 (stg4 m c)
    ∗ held c cc0_stg5_0 (outV m))

/-- The staged copy of argument 0 before the one point is the argument. -/
theorem before_0 (c : Dev nD) (d) : (dats m ρ 0 c).before (0 : Fin 6) t0_0 d = stg0 m c := by unfold Dat.before; rw [if_pos (fetch0_0 t0_0)]; rfl
/-- The staged copy of argument 1 before the one point is the argument. -/
theorem before_1 (c : Dev nD) (d) : (dats m ρ 0 c).before (1 : Fin 6) t0_0 d = stg1 m c := by unfold Dat.before; rw [if_pos (fetch0_1 t0_0)]; rfl
/-- The staged copy of argument 2 before the one point is the argument. -/
theorem before_2 (c : Dev nD) (d) : (dats m ρ 0 c).before (2 : Fin 6) t0_0 d = stg2 m c := by unfold Dat.before; rw [if_pos (fetch0_2 t0_0)]; rfl
/-- The staged copy of argument 3 before the one point is the argument. -/
theorem before_3 (c : Dev nD) (d) : (dats m ρ 0 c).before (3 : Fin 6) t0_0 d = stg3 m c := by unfold Dat.before; rw [if_pos (fetch0_3 t0_0)]; rfl
/-- The staged copy of argument 4 before the one point is the argument. -/
theorem before_4 (c : Dev nD) (d) : (dats m ρ 0 c).before (4 : Fin 6) t0_0 d = stg4 m c := by unfold Dat.before; rw [if_pos (fetch0_4 t0_0)]; rfl

/-- What a device owes as the body starts. -/
theorem owes_start (c : Dev nD) : ((dats m ρ 0 c).owesAt () t0_0.castSucc : sProp 𝕄) ⊢ ow c 0 ![0, 0] 0 := by
  unfold Dat.owesAt Pipeline.owesWithin ow
  rw [show (dats m ρ 0 c).owed t0_0.castSucc = owed c 0 ![0, 0] 0 from rfl]
  iintro ⟨%W, -, HO⟩
  iexists W; iexact HO

/-- A device owes nothing as the body ends. -/
theorem owes_end (c : Dev nD) : (ow c 15 ![15, 15] 15 : sProp 𝕄) ⊢ (dats m ρ 0 c).owesAt () t0_0.succ := by
  unfold Dat.owesAt Pipeline.owesWithin ow
  rw [owed_done, show (dats m ρ 0 c).owed t0_0.succ = 0 from rfl]
  iintro ⟨%W, HO⟩
  iexists W
  isplitr; · ipureintro; exact fun _ _ => Or.inl trivial
  iexact HO

/-- What the body leaves behind is what the pipeline takes back. -/
theorem leaves_taken (c : Dev nD) : leaves m c ⊢ taken m ρ c := by
  have h := owes_end m ρ c
  unfold leaves taken args
  iintro ⟨HΦ, HO, ⟨⟨H0, H1, H2⟩, H3, H4⟩, H5⟩
  isplitl [HΦ]; · iexact HΦ
  isplitl [HO]; · iapply h $$ HO
  isplitl [H0]; · iexact H0
  isplitl [H1]; · iexact H1
  isplitl [H2]; · iexact H2
  isplitl [H3]; · iexact H3
  isplitl [H4] <;> iassumption

/-- From what the pipeline gives it the body runs to its end. -/
theorem given_body (c : Dev nD) : given m ρ c ⊢ wpc c (onBufs (cc0_body (F := F))) (fun _ => taken m ρ c) := by
  have hs := owes_start m ρ c
  have hb : ∀ f, iprop(Φ₀ m c ∗ ow c 0 ![0, 0] 0 ∗ args m c ∗ owns (c : Thread nD τ) outM fullShare f) ⊢ wpc c (onBufs (cc0_body (F := F))) (fun _ => taken m ρ c) :=
    fun f => (sound_body m c f).trans (wp_mono _ _ _ (fun _ => leaves_taken m ρ c))
  unfold given
  simp only [before_0, before_1, before_2, before_3, before_4]
  unfold args at hb
  iintro ⟨HΦ, HO, ⟨%d0, H0⟩, ⟨%d1, H1⟩, ⟨%d2, H2⟩, ⟨%d3, H3⟩, ⟨%d4, H4⟩, ⟨%d5, H5⟩⟩
  ihave HO := hs $$ HO
  iapply (hb _)
  isplitl [HΦ]; · iexact HΦ
  isplitl [HO]; · iexact HO
  isplitr [H5]
  · isplitl [H0 H1 H2]
    · isplitl [H0]; · iexact H0
      isplitl [H1] <;> iassumption
    isplitl [H3] <;> iassumption
  iexact H5

attribute [local irreducible] cc0_body in
set_option maxRecDepth 4000 in
/-- The pipeline's obligation for the body on device `c`. -/
theorem body_obligation (c : Dev nD) : BodyObligation (dats (F := F) m ρ 0 c) (defs₀ (F := F)) 𝒱₀ () Set.univ := fun t => by
  rw [fin_N0 t]
  rw [bigSep_W0, bigSep_W0]
  show given m ρ c ⊢ wp frame (wpE (defs₀ (F := F)) 𝒱₀ (c : Thread nD τ) none) Set.univ (onBufs (cc0_body (F := F))) (fun _ => taken m ρ c)
  exact given_body m ρ c

/-! ## The launch -/

/-- Every window's array is held in full. -/
theorem share_eq (c : Dev nD) (w : Fin cfg0.W) : (dats m ρ 0 c).share w = fullShare := by unfold Dat.share; split <;> rfl

/-- What the launch gives a device is what its program starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hc := creds (F := F) c
  iintro ⟨-, Hlev, Hcr, -, HG⟩
  ihave Hcr := hc $$ Hcr
  icases Hcr with ⟨Hb, H1, H3⟩
  imodintro
  unfold start G'
  isplitl
  · isplitl [HG]; · iexact HG
    isplitl [Hb]; · iexact Hb
    isplitl [H1]; · iexact H1
    isplitl [H3] <;> iassumption
  · iempintro

/-- The start and the scoped buffers are the state before the one point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

/-- The state after the one point gives back the semaphores and the scoped buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, Hb, HZ⟩
  isplitl [Hb]; · iexact Hb
  isplitl [HZ] <;> iassumption

/-- The staging semaphores are at the lowest level. -/
theorem stage_level_all (w : Fin cfg0.W) : ∀ s : Fin (cfg0.win w).nbuf, klv (kindOf (SemLoc.dma ((cfg0.win w).sem s))) ≤ 0 := by
  fin_cases w <;> decide

/-- The staging semaphores' cells are at the lowest level. -/
theorem stage_level (w : Fin cfg0.W) (s : Fin (cfg0.win w).nbuf) (c : Dev nD) : lv ((c : Thread nD τ), SemLoc.dma ((cfg0.win w).sem s)) () ≤ 0 := by
  revert s; exact (stage_level_all w)

/-- The pipeline may wait on every staging semaphore. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 0 0 ![0, 0] 0 (stage_level w s c) (.inr (by decide)) (.inr (by decide)) (.inr (by decide))
    · have h : (levAts L lv : sProp 𝕄) ⊢ MayWait (c : Thread nD τ) (SemLoc.dma ((cfg0.win w).sem s)) () 0 := by
        rw [MayWait_zero]; iintro -; iempintro
      exact h

/-- The launch's ghost state: the staging pipeline's and the mesh's. -/
def u₀ : UU := (initOf (Pipeline.cells cfgs cellOf_inj) (Pipeline.launchToks cfgs cellOf_inj), initOf meshCells meshToks)

/-- What window `w`'s array holds on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

attribute [local irreducible] cc0_body in
set_option maxHeartbeats 3000000 in
set_option maxRecDepth 8000 in
/-- From any memory with every counter at zero, every weakly fair execution of the sixteen devices' programs terminates
    without fault, and every final state has each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array holds after the run what it held. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.KernelIdealProof
-- ==== Proof.KernelIdeal.Final.lean ====
/- What the run leaves in each device's arrays, said of the program's own names: the arguments unchanged, the result at its value. -/
module

public import proofs.«01_k».proof.Proof.KernelIdeal.Run
public import Idealize.ShloMosaic.Lib.Pipeline.ValueKit.Geometry

@[expose] public section

noncomputable section

namespace Cert.KernelIdealProof

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg)

/-- The result's array holds after the run the sum over the devices, `outV`. -/
theorem finalA_out (c : Dev nD) : finalA m ρ c 5 = outV m :=
  (dats m ρ 0 c).arrAt_eq_of_covers 5 _ (by decide +kernel) fun t _ y => by
    change outV m _ = outV m _
    refine congrArg (outV m) (funext fun a => Fin.ext ?_)
    blk_simp
    fin_cases t; fin_cases a <;> simp <;> rfl

/-- What the argument arrays and the result hold after the run, every counter at zero. -/
theorem run_named : θ_run defs (onTc (τ := τ) (main (F := F))) ⟨m, fun _ => 0, ρ⟩ (fun r =>
    (∀ c : Dev nD, r.2.mem (c.tc.loc main_v1) = outV m
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4)) ∧ r.2.sem = fun _ => 0) :=
  (θ_run defs _ _).mono (fun _ h => ⟨fun c => ⟨(h.1 c 5).trans (finalA_out m ρ c),
    (h.1 c 0).trans (finalA_in m ρ c 0 rfl), (h.1 c 1).trans (finalA_in m ρ c 1 rfl), (h.1 c 2).trans (finalA_in m ρ c 2 rfl),
    (h.1 c 3).trans (finalA_in m ρ c 3 rfl), (h.1 c 4).trans (finalA_in m ρ c 4 rfl)⟩, h.2⟩) (run_main m ρ)

end Cert.KernelIdealProof

end
-- ==== Proof.Value.Soft.lean ====
/-
The attention of one head in exact arithmetic, as plain sums.
-/
module

public import Idealize.ShloMosaic.Lib.Pointwise

@[expose] public section

noncomputable section

namespace Cert.AttnValue

open Idealize.ShloMosaic

/-- The scaled score of query row `i` against key row `j`. -/
def score (q k : Fin 128 → Fin 64 → EReal) (i j : Fin 128) : EReal :=
  (∑ e, q i e * k j e) * Ideal.ofBits .f32 0x3E000000#32

/-- The exponential of a score less its row's largest. -/
def weight (q k : Fin 128 → Fin 64 → EReal) (i j : Fin 128) : EReal :=
  Ideal.exp (score q k i j - Finset.univ.fold max (Ideal.ofBits .f32 0xFF800000#32) (score q k i))

/-- One head's attention at query row `i` and lane `e`. -/
def softAt (q k v : Fin 128 → Fin 64 → EReal) (i : Fin 128) (e : Fin 64) : EReal :=
  Ideal.div (∑ j, weight q k i j * v j e) (∑ j, weight q k i j)

/-- Equal rows have equal attention. -/
theorem softAt_congr {q q' k k' v v' : Fin 128 → Fin 64 → EReal} (hq : ∀ i e, q i e = q' i e) (hk : ∀ i e, k i e = k' i e)
    (hv : ∀ i e, v i e = v' i e) (i : Fin 128) (e : Fin 64) : softAt q k v i e = softAt q' k' v' i e := by
  rw [funext fun i => funext (hq i), funext fun i => funext (hk i), funext fun i => funext (hv i)]

end Cert.AttnValue

end
-- ==== Proof.Value.Dev.lean ====
/-
The kernel's values in exact arithmetic, read at coordinates: a head, a projection, a partial product, the sum over the devices.
-/
module

public import proofs.«01_k».proof.Proof.Value.Soft
public import proofs.«01_k».proof.Proof.KernelIdeal.Values

@[expose] public section

noncomputable section

namespace Cert.AttnValue

open Idealize.ShloMosaic Cert.KernelIdeal Cert.KernelIdeal.Gen Cert.KernelIdealProof
open Idealize.ShloMosaic.TcCoe

/-- The kernel's head is the plain one. -/
theorem softHead_apply (q k v : FVec Ideal S128x64 .f32) (i : Fin 128) (e : Fin 64) :
    softHead q k v (ix2 i e) = softAt (fun i e => q (ix2 i e)) (fun i e => k (ix2 i e)) (fun i e => v (ix2 i e)) i e := by
  pointwise [softHead]
  rfl

/-- A head's rows and columns of a 256 × 512 array. -/
theorem headOf_apply (b : Fin 2) (h : Fin 8) (a : FVec Ideal S256x512 .f32) (i : Fin 128) (e : Fin 64) :
    headOf b h a (ix2 i e) = a (ix2 ⟨128 * b.val + i.val, by omega⟩ ⟨64 * h.val + e.val, by omega⟩) := by
  pointwise [headOf]

/-- A device's projection of the activations, at a row and a column of the device's. -/
theorem pay2_apply (x : Vec Ideal S2x128x512 .f32) (w : Vec Ideal S512x512 .f32) (r : Fin 256) (j : Fin 512) :
    k0_pay2 x w (ix2 r j) = ∑ d : Fin 512, x (ix3 ⟨r.val / 128, by omega⟩ ⟨r.val % 128, by omega⟩ d) * w (ix2 d j) := by
  pointwise [k0_pay2, k0_pay1]

/-- The key projection is the same function as the query's. -/
theorem pay3_eq (x : Vec Ideal S2x128x512 .f32) (w : Vec Ideal S512x512 .f32) : k0_pay3 x w = k0_pay2 x w := rfl
/-- The value projection is the same function as the query's. -/
theorem pay4_eq (x : Vec Ideal S2x128x512 .f32) (w : Vec Ideal S512x512 .f32) : k0_pay4 (k0_pay1 x) w = k0_pay2 x w := rfl

/-- The output projection of 128 attention rows. -/
theorem pay33_apply (a : Vec Ideal S128x512 .f32) (w : Vec Ideal S512x512 .f32) (r : Fin 128) (o : Fin 512) :
    k0_pay33 a w (ix2 r o) = ∑ j : Fin 512, a (ix2 r j) * w (ix2 j o) := by
  pointwise [k0_pay33]

end Cert.AttnValue

end
-- ==== Proof.Value.Ref.lean ====
/-
The reference's result in exact arithmetic, read at coordinates.
-/
module

public import proofs.«01_k».proof.Proof.Value.Soft
public import proofs.«01_k».proof.Proof.Gen.ReferenceIdeal.Run

@[expose] public section

noncomputable section

namespace Cert.AttnValue.Ref

open Idealize.ShloMosaic Cert.ReferenceIdeal Cert.ReferenceIdeal.Gen

/-- A projection of the activations, its columns grouped by head. -/
def proj (x : FVec Ideal S2x128x512 .f32) (w : FVec Ideal S512x8192 .f32) : FVec Ideal S2x128x128x64 .f32 :=
  shapeCast _ (Host.dotGeneral dot_S2x128x512_S512x8192_S2x128x8192_2_0_01_1_n_n none x w) shapeCasts_S2x128x8192_S2x128x128x64

/-- The scaled scores. -/
def scores (q k : FVec Ideal S2x128x128x64 .f32) : FVec Ideal S2x128x128x128 .f32 :=
  mulf (Host.dotGeneral dot_S2x128x128x64_S2x128x128x64_S2x128x128x128_3_3_1_1_02_02 none q k)
    (broadcastInDim S2x128x128x128 ![] bcast_S_S2x128x128x128 (constant S_ .f32 0x3E000000#32))

/-- The exponentials of the scores less their rows' largest. -/
def weights (s : FVec Ideal S2x128x128x128 .f32) : FVec Ideal S2x128x128x128 .f32 :=
  Host.exp (subf s (broadcastInDim S2x128x128x128 ![0, 1, 2, 3] bcast_S2x128x128x1_S2x128x128x128_0_1_2_3
    (broadcastInDim S2x128x128x1 ![0, 1, 2] bcast_S2x128x128_S2x128x128x1_0_1_2
      (Host.reduce FloatOps.maximumf s (constant S_ .f32 0xFF800000#32) reducesTo_S2x128x128x128_S2x128x128_d3 h_S_))))

/-- The attention of every head. -/
def heads (p : FVec Ideal S2x128x128x128 .f32) (v : FVec Ideal S2x128x128x64 .f32) : FVec Ideal S2x128x128x64 .f32 :=
  Host.divf (transpose S2x128x128x64 [0, 3, 1, 2] (Host.dotGeneral dot_S2x128x128x64_S2x128x128x128_S2x128x64x128_1_3_3_2_02_01 none v p)
      transposes_S2x128x64x128_S2x128x128x64_0_3_1_2)
    (broadcastInDim S2x128x128x64 ![0, 1, 2, 3] bcast_S2x128x128x1_S2x128x128x64_0_1_2_3
      (transpose S2x128x128x1 [0, 2, 1, 3] (broadcastInDim S2x128x128x1 ![0, 1, 2] bcast_S2x128x128_S2x128x128x1_0_1_2
        (Host.reduceAdd p (constant S_ .f32 0x00000000#32) reducesTo_S2x128x128x128_S2x128x128_d3 h_S_)) transposes_S2x128x128x1_S2x128x128x1_0_2_1_3))

/-- The output projection, its rows in one axis. -/
def out (a : FVec Ideal S2x128x128x64 .f32) (w : FVec Ideal S8192x512 .f32) : FVec Ideal S256x512 .f32 :=
  shapeCast _ (Host.dotGeneral dot_S2x128x8192_S8192x512_S2x128x512_2_0_01_1_n_n none (shapeCast _ a shapeCasts_S2x128x128x64_S2x128x8192) w)
    shapeCasts_S2x128x512_S256x512

/-- The reference's result. -/
def value (x : FVec Ideal S2x128x512 .f32) (wq wk wv : FVec Ideal S512x8192 .f32) (wo : FVec Ideal S8192x512 .f32) : FVec Ideal S256x512 .f32 :=
  out (heads (weights (scores (proj x wq) (proj x wk))) (proj x wv)) wo

/-- A projection at a position and a head's lane. -/
theorem proj_apply (x : FVec Ideal S2x128x512 .f32) (w : FVec Ideal S512x8192 .f32) (b : Fin 2) (i : Fin 128) (g : Fin 128) (e : Fin 64) :
    proj x w (ix4 b i g e) = ∑ d : Fin 512, x (ix3 b i d) * w (ix2 d ⟨g.val * 64 + e.val, by omega⟩) := by
  pointwise [proj]

/-- The scores of a head are the plain ones. -/
theorem scores_apply (q k : FVec Ideal S2x128x128x64 .f32) (b : Fin 2) (g i j : Fin 128) :
    scores q k (ix4 b g i j) = score (fun i e => q (ix4 b i g e)) (fun i e => k (ix4 b i g e)) i j := by
  pointwise [scores]
  rfl

/-- The exponential of a score less its row's largest. -/
theorem weights_apply (s : FVec Ideal S2x128x128x128 .f32) (b : Fin 2) (g i j : Fin 128) :
    weights s (ix4 b g i j) = Ideal.exp (s (ix4 b g i j) - Finset.univ.fold max (Ideal.ofBits .f32 0xFF800000#32) fun j => s (ix4 b g i j)) := by
  pointwise [weights]

/-- A head's attention from its weights and values. -/
theorem heads_apply (p : FVec Ideal S2x128x128x128 .f32) (v : FVec Ideal S2x128x128x64 .f32) (b : Fin 2) (i g : Fin 128) (e : Fin 64) :
    heads p v (ix4 b i g e) = Ideal.div (∑ j, p (ix4 b g i j) * v (ix4 b j g e)) (∑ j, p (ix4 b g i j)) := by
  pointwise [heads]
  exact congrArg (Ideal.div · _) (Finset.sum_congr rfl fun _ _ => mul_comm _ _)

/-- The output projection at a row and a column, as one sum over the heads' lanes. -/
theorem out_apply (a : FVec Ideal S2x128x128x64 .f32) (w : FVec Ideal S8192x512 .f32) (r : Fin 256) (o : Fin 512) :
    out a w (ix2 r o) = ∑ j : Fin 8192, a (ix4 ⟨r.val / 128, by omega⟩ ⟨r.val % 128, by omega⟩ ⟨j.val / 64, by omega⟩ ⟨j.val % 64, by omega⟩) * w (ix2 j o) := by
  pointwise [out]

end Cert.AttnValue.Ref

end
-- ==== Proof.Value.Join.lean ====
/-
The kernel's result is the reference's, in exact arithmetic, when each device holds its block of the weights.
-/
module

public import proofs.«01_k».proof.Proof.Value.Dev
public import proofs.«01_k».proof.Proof.Value.Ref
public import Idealize.ShloMosaic.Lib.Layout
public import Idealize.ShloMosaic.Lib.Pipeline.ValueKit.Geometry

@[expose] public section

noncomputable section

namespace Cert.AttnValue

open Idealize.ShloMosaic Cert.KernelIdeal Cert.KernelIdeal.Gen Cert.KernelIdealProof
open Idealize.ShloMosaic.TcCoe

variable (m : (ℓ : Loc nD τ sig) → Buf (Elt Ideal) ℓ)
variable (x : FVec Ideal S2x128x512 .f32) (wq wk wv : FVec Ideal Cert.ReferenceIdeal.S512x8192 .f32)
  (wo : FVec Ideal Cert.ReferenceIdeal.S8192x512 .f32)

/-- Device `c` holds the activations and its blocks of the weights. -/
structure Held (c : Dev nD) : Prop where
  x : m ((c : Thread nD τ).loc main_arg0) = x
  q : m ((c : Thread nD τ).loc main_arg1) = Layout.block ⟨2, ![512, 512]⟩ ⟨2, ![512, 8192]⟩ 1 16 c wq
  k : m ((c : Thread nD τ).loc main_arg2) = Layout.block ⟨2, ![512, 512]⟩ ⟨2, ![512, 8192]⟩ 1 16 c wk
  v : m ((c : Thread nD τ).loc main_arg3) = Layout.block ⟨2, ![512, 512]⟩ ⟨2, ![512, 8192]⟩ 1 16 c wv
  o : m ((c : Thread nD τ).loc main_arg4) = Layout.block ⟨2, ![512, 512]⟩ ⟨2, ![8192, 512]⟩ 0 16 c wo

/-! ## What a device holds -/

/-- The staged copy of argument 0 is the whole argument. -/
theorem stg0_eq (c : Dev nD) : stg0 m c = m ((c : Thread nD τ).loc main_arg0) :=
  funext fun y => congrArg (m ((c : Thread nD τ).loc main_arg0)) (funext fun a => Fin.ext (by fin_cases a <;> simp [win0_0] <;> rfl))
/-- The staged copy of argument 1 is the whole argument. -/
theorem stg1_eq (c : Dev nD) : stg1 m c = m ((c : Thread nD τ).loc main_arg1) :=
  funext fun y => congrArg (m ((c : Thread nD τ).loc main_arg1)) (funext fun a => Fin.ext (by fin_cases a <;> simp [win0_1] <;> rfl))
/-- The staged copy of argument 2 is the whole argument. -/
theorem stg2_eq (c : Dev nD) : stg2 m c = m ((c : Thread nD τ).loc main_arg2) :=
  funext fun y => congrArg (m ((c : Thread nD τ).loc main_arg2)) (funext fun a => Fin.ext (by fin_cases a <;> simp [win0_2] <;> rfl))
/-- The staged copy of argument 3 is the whole argument. -/
theorem stg3_eq (c : Dev nD) : stg3 m c = m ((c : Thread nD τ).loc main_arg3) :=
  funext fun y => congrArg (m ((c : Thread nD τ).loc main_arg3)) (funext fun a => Fin.ext (by fin_cases a <;> simp [win0_3] <;> rfl))
/-- The staged copy of argument 4 is the whole argument. -/
theorem stg4_eq (c : Dev nD) : stg4 m c = m ((c : Thread nD τ).loc main_arg4) :=
  funext fun y => congrArg (m ((c : Thread nD τ).loc main_arg4)) (funext fun a => Fin.ext (by fin_cases a <;> simp [win0_4] <;> rfl))

/-- A device's block of columns, at a row and a column of the block. -/
theorem cols_apply (c : Fin 16) (w : FVec Ideal Cert.ReferenceIdeal.S512x8192 .f32) (d j : Fin 512) :
    (Layout.block ⟨2, ![512, 512]⟩ ⟨2, ![512, 8192]⟩ 1 16 c w : FVec Ideal S512x512 .f32) (ix2 d j) = w (ix2 d ⟨c.val * 512 + j.val, by omega⟩) := by
  rw [Layout.block_apply]
  exact congrArg w (funext fun a => Fin.ext (by fin_cases a <;> rfl))

/-- A device's block of rows, at a row and a column of the block. -/
theorem rows_apply (c : Fin 16) (w : FVec Ideal Cert.ReferenceIdeal.S8192x512 .f32) (j o : Fin 512) :
    (Layout.block ⟨2, ![512, 512]⟩ ⟨2, ![8192, 512]⟩ 0 16 c w : FVec Ideal S512x512 .f32) (ix2 j o) = w (ix2 ⟨c.val * 512 + j.val, by omega⟩ o) := by
  rw [Layout.block_apply]
  exact congrArg w (funext fun a => Fin.ext (by fin_cases a <;> rfl))

/-! ## Projections and heads -/

/-- Head `h` of device `c` in the whole. -/
abbrev headIx (c : Dev nD) (h : Fin 8) : Fin 128 := ⟨8 * c.val + h.val, by have : c.val < 16 := c.isLt; omega⟩

/-- A head of a device's projection is that head of the reference's. -/
theorem head_proj (c : Dev nD) (w : FVec Ideal Cert.ReferenceIdeal.S512x8192 .f32) (b : Fin 2) (h : Fin 8) (i : Fin 128) (e : Fin 64) :
    headOf b h (k0_pay2 x (Layout.block ⟨2, ![512, 512]⟩ ⟨2, ![512, 8192]⟩ 1 16 c w)) (ix2 i e) = Ref.proj x w (ix4 b i (headIx c h) e) := by
  have hb : (⟨(128 * b.val + i.val) / 128, by omega⟩ : Fin 2) = b := Fin.ext (by show (128 * b.val + i.val) / 128 = b.val; omega)
  have hi : (⟨(128 * b.val + i.val) % 128, by omega⟩ : Fin 128) = i := Fin.ext (by show (128 * b.val + i.val) % 128 = i.val; omega)
  rw [headOf_apply, pay2_apply, Ref.proj_apply]
  refine Finset.sum_congr rfl fun d _ => ?_
  rw [cols_apply, hb, hi]
  refine congrArg (fun z => x _ * w (ix2 d z)) (Fin.ext ?_)
  show c.val * 512 + (64 * h.val + e.val) = (8 * c.val + h.val) * 64 + e.val
  omega

/-- The reference's attention. -/
def refHeads : FVec Ideal Cert.ReferenceIdeal.S2x128x128x64 .f32 :=
  Ref.heads (Ref.weights (Ref.scores (Ref.proj x wq) (Ref.proj x wk))) (Ref.proj x wv)

/-- The reference's attention at a position is the plain attention of its head. -/
theorem refHeads_apply (b : Fin 2) (i g : Fin 128) (e : Fin 64) : refHeads x wq wk wv (ix4 b i g e)
    = softAt (fun i e => Ref.proj x wq (ix4 b i g e)) (fun i e => Ref.proj x wk (ix4 b i g e)) (fun i e => Ref.proj x wv (ix4 b i g e)) i e := by
  unfold refHeads
  rw [Ref.heads_apply]
  simp only [Ref.weights_apply, Ref.scores_apply]
  rfl

variable {m x wq wk wv wo}

/-- A device's head is the reference's. -/
theorem headVal_apply {c : Dev nD} (H : Held m x wq wk wv wo c) (b : Fin 2) (h : Fin 8) (i : Fin 128) (e : Fin 64) :
    headVal (qv m c) (kv m c) (vv m c) b h (ix2 i e) = refHeads x wq wk wv (ix4 b i (headIx c h) e) := by
  unfold headVal qv kv vv
  rw [softHead_apply, refHeads_apply, pay3_eq, pay4_eq, stg0_eq, stg1_eq, stg2_eq, stg3_eq, H.x, H.q, H.k, H.v]
  exact softAt_congr (fun i e => head_proj x c wq b h i e) (fun i e => head_proj x c wk b h i e) (fun i e => head_proj x c wv b h i e) i e

/-- A device's attention rows are the reference's, at the device's columns. -/
theorem attV_apply {c : Dev nD} (H : Held m x wq wk wv wo c) (r : Fin 256) (a : Fin 512) :
    attV m c (ix2 r a) = refHeads x wq wk wv (ix4 ⟨r.val / 128, by omega⟩ ⟨r.val % 128, by omega⟩ (headIx c ⟨a.val / 64, by omega⟩) ⟨a.val % 64, by omega⟩) := by
  rw [← headVal_apply H, ix2_eq_valueIdx, ix2_eq_valueIdx]
  rfl

/-- A batch entry's attention rows, in the device's attention rows. -/
theorem attB_apply (c : Dev nD) (b : Fin 2) (i : Fin 128) (a : Fin 512) :
    attB m c b (ix2 i a) = attV m c (ix2 ⟨128 * b.val + i.val, by omega⟩ a) :=
  congrArg (attV m c) (funext fun d => Fin.ext (by fin_cases d <;> simp [Rect.emb, Rect.unit] <;> rfl))

/-- One device's share of the reference's output projection. -/
def share (x : FVec Ideal S2x128x512 .f32) (wq wk wv : FVec Ideal Cert.ReferenceIdeal.S512x8192 .f32)
    (wo : FVec Ideal Cert.ReferenceIdeal.S8192x512 .f32) (r : Fin 256) (o : Fin 512) (j : Fin 8192) : EReal :=
  refHeads x wq wk wv (ix4 ⟨r.val / 128, by omega⟩ ⟨r.val % 128, by omega⟩ ⟨j.val / 64, by omega⟩ ⟨j.val % 64, by omega⟩) * wo (ix2 j o)

/-- A device's partial product is the reference's output projection over the device's columns. -/
theorem parV_apply {c : Dev nD} (H : Held m x wq wk wv wo c) (r : Fin 256) (o : Fin 512) :
    parV m c (ix2 r o) = ∑ a : Fin 512, share x wq wk wv wo r o ⟨c.val * 512 + a.val, by have : c.val < 16 := c.isLt; omega⟩ := by
  have hr : (⟨128 * (r.val / 128) + r.val % 128, by omega⟩ : Fin 256) = r := Fin.ext (by show 128 * (r.val / 128) + r.val % 128 = r.val; omega)
  have e : parV m c (ix2 r o) = k0_pay33 (attB m c ⟨r.val / 128, by omega⟩) (stg4 m c) (ix2 ⟨r.val % 128, by omega⟩ o) := by
    rw [ix2_eq_valueIdx, ix2_eq_valueIdx]; rfl
  rw [e, pay33_apply, stg4_eq, H.o]
  refine Finset.sum_congr rfl fun a _ => ?_
  have hc : c.val < 16 := c.isLt
  rw [rows_apply, attB_apply, hr, attV_apply H]
  have hg : headIx c ⟨a.val / 64, by omega⟩ = ⟨(c.val * 512 + a.val) / 64, by omega⟩ :=
    Fin.ext (by show 8 * c.val + a.val / 64 = (c.val * 512 + a.val) / 64; omega)
  have he : (⟨a.val % 64, by omega⟩ : Fin 64) = ⟨(c.val * 512 + a.val) % 64, by omega⟩ :=
    Fin.ext (by show a.val % 64 = (c.val * 512 + a.val) % 64; omega)
  rw [hg, he]
  rfl

/-! ## The sum over the devices -/

/-- A device's sum is over the devices in its own order. -/
theorem accV_apply (c : Dev nD) (n : ℕ) (i : S16x512.Idx) :
    accV m c n i = ∑ k ∈ Finset.range (n + 1), parB m (peer c k) c i := by
  induction n with
  | zero =>
    have h : peer c 0 = c := Fin.ext (Nat.mod_eq_of_lt c.isLt)
    rw [Finset.sum_range_one, h]; rfl
  | succ n ih => rw [Finset.sum_range_succ, ← ih]; rfl

/-- Sixteen devices counted from `c` are all of them. -/
theorem sum_peer (c : Dev nD) (f : Dev nD → EReal) : ∑ k ∈ Finset.range 16, f (peer c k) = ∑ s, f s := by
  rw [Finset.sum_range]
  exact Fintype.sum_bijective (fun k : Fin 16 => peer c k.val)
    ((Finite.injective_iff_bijective).mp fun a b h => Fin.ext (by
      have h' : (c.val + a.val) % 16 = (c.val + b.val) % 16 := congrArg Fin.val h
      have := a.isLt; have := b.isLt; omega)) _ _ fun _ => rfl

/-- The 8192 columns are sixteen devices' 512. -/
theorem sum_blocks (f : Fin 8192 → EReal) :
    ∑ s : Fin 16, ∑ a : Fin 512, f ⟨s.val * 512 + a.val, by omega⟩ = ∑ j, f j := by
  rw [← Fintype.sum_prod_type']
  exact Fintype.sum_equiv (finProdFinEquiv (m := 16) (n := 512)) _ f fun p =>
    congrArg f (Fin.ext (by show p.1.val * 512 + p.2.val = p.2.val + 512 * p.1.val; omega))

/-- The kernel's result is the reference's. -/
theorem outV_eq (H : ∀ c, Held m x wq wk wv wo c) : outV m = Ref.value x wq wk wv wo := by
  funext i
  obtain ⟨r, o, rfl⟩ : ∃ (r : Fin 256) (o : Fin 512), i = ix2 r o := ⟨i 0, i 1, eq_ix2 i⟩
  have e : outV m (ix2 r o) = ∑ k ∈ Finset.range 16, parB m (peer ⟨r.val / 16, by show _ < 16; omega⟩ k) ⟨r.val / 16, by show _ < 16; omega⟩
      (ix2 (⟨r.val % 16, by omega⟩ : Fin 16) o) := by
    rw [← accV_apply]
    unfold outV redB
    rw [ix2_eq_valueIdx, ix2_eq_valueIdx]
  have hrow : ∀ s : Dev nD, parB m s ⟨r.val / 16, by show _ < 16; omega⟩ (ix2 (⟨r.val % 16, by omega⟩ : Fin 16) o) = parV m s (ix2 r o) := fun s =>
    congrArg (parV m s) (funext fun d => Fin.ext (by
      fin_cases d
      · simp [Rect.emb, Rect.unit]
        omega
      · simp [Rect.emb, Rect.unit]))
  rw [e, sum_peer _ fun s => parB m s _ _]
  simp only [hrow]
  rw [Finset.sum_congr rfl fun s _ => parV_apply (H s) r o]
  exact (sum_blocks (share x wq wk wv wo r o)).trans (Ref.out_apply _ _ r o).symm

end Cert.AttnValue

end
-- ==== Proof.lean ====
/-
The proof of `Cert.Claim`: the kernel's frame under both float instances, the reference's frame, and the two programs' claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Final
public import proofs.«01_k».proof.Proof.Kernel.Final
public import proofs.«01_k».proof.Proof.Value.Join
public import Idealize.ShloMosaic.Adequacy
public import Idealize.ShloMosaic.Init

@[expose] public section

noncomputable section

namespace Cert.Proof

open Idealize.ShloMosaic Idealize.SL.Sem Cert.Kernel

/-- The kernel as it runs, in machine floats: it terminates without fault, keeps its arguments and leaves every counter at zero. -/
theorem frame_kernel : Cert.quiescent_Kernel := fun m ρ _ =>
  (θ_run Cert.Kernel.defs _ _).mono (fun _ h => ⟨fun c => (h.1 c).2, h.2⟩) (Cert.KernelProof.run_named (F := Bits) m ρ)

/-- The same of the kernel in exact arithmetic. -/
theorem frame_kernelIdeal : Cert.quiescent_KernelIdeal := fun m ρ _ =>
  (θ_run Cert.KernelIdeal.defs _ _).mono (fun _ h => ⟨fun c => (h.1 c).2, h.2⟩) (Cert.KernelIdealProof.run_named (F := Ideal) m ρ)

/-- The reference runs on one device and has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In exact arithmetic every device ends with the reference's result, from memories in which each device holds the activations
    and its block of each weight. -/
theorem algebraic_kernel : Cert.algebraic_KernelIdeal_ReferenceIdeal := fun m g m' g' _ ag => by
  let A (b : Ref Cert.ReferenceIdeal.sig .tc) := m' (((0 : Dev Cert.ReferenceIdeal.nD).tc : Thread Cert.ReferenceIdeal.nD Cert.ReferenceIdeal.τ).loc b)
  refine ⟨Cert.AttnValue.Ref.value (A Cert.ReferenceIdeal.main_arg0) (A Cert.ReferenceIdeal.main_arg1) (A Cert.ReferenceIdeal.main_arg2)
    (A Cert.ReferenceIdeal.main_arg3) (A Cert.ReferenceIdeal.main_arg4), ?_, ?_⟩
  rotate_left
  · exact (θ_run Cert.ReferenceIdeal.defs _ _).mono (fun r h => ⟨(h 0).1, (h 0).2⟩) (Cert.ReferenceIdeal.Value.run (F := Ideal) m' g')
  · exact (θ_run Cert.KernelIdeal.defs _ _).mono (fun r h c => ⟨(h.1 c).1.trans (Cert.AttnValue.outV_eq fun c =>
      ⟨(ag c).1, (ag c).2.1, (ag c).2.2.1, (ag c).2.2.2.1, (ag c).2.2.2.2⟩), (h.1 c).2⟩) (Cert.KernelIdealProof.run_named (F := Ideal) m g)

/-- Every claim. -/
theorem claim : Cert.Claim := ⟨Cert.Kernel.Gen.facts, Cert.KernelIdeal.Gen.facts, Cert.ReferenceIdeal.Gen.facts,
  frame_kernel, frame_kernelIdeal, frame_referenceIdeal, trivial, algebraic_kernel⟩

end Cert.Proof

end
